-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_v36) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_2)) (v2 : (c : Dev Cert.Kernel4Ideal.nD) → Buf (Elt Ideal) ((c.tc : Thread Cert.Kernel4Ideal.nD Cert.Kernel4Ideal.τ).loc Cert.Kernel4Ideal.main_v10_3)) (v3 : (c : Dev Cert.Kernel4Ideal.nD) → Buf (Elt Ideal) ((c.tc : Thread Cert.Kernel4Ideal.nD Cert.Kernel4Ideal.τ).loc Cert.Kernel4Ideal.main_v10_4)) (v4 : (c : Dev Cert.Kernel4Ideal.nD) → Buf (Elt Ideal) ((c.tc : Thread Cert.Kernel4Ideal.nD Cert.Kernel4Ideal.τ).loc Cert.Kernel4Ideal.main_v10_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_2) = v1 c
          ∧ r.2.mem ((c.tc : Thread Cert.Kernel4Ideal.nD Cert.Kernel4Ideal.τ).loc Cert.Kernel4Ideal.main_v10_3) = v2 c
          ∧ r.2.mem ((c.tc : Thread Cert.Kernel4Ideal.nD Cert.Kernel4Ideal.τ).loc Cert.Kernel4Ideal.main_v10_4) = v3 c
          ∧ r.2.mem ((c.tc : Thread Cert.Kernel4Ideal.nD Cert.Kernel4Ideal.τ).loc Cert.Kernel4Ideal.main_v10_5) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_v18) = v2 c
          ∧ r.2.mem ((c.tc : Thread Cert.Reference4Ideal.nD Cert.Reference4Ideal.τ).loc Cert.Reference4Ideal.main_v25) = v3 c
          ∧ r.2.mem ((c.tc : Thread Cert.Reference4Ideal.nD Cert.Reference4Ideal.τ).loc Cert.Reference4Ideal.main_v22) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_scores.lean ====
abbrev S65536x768 : Shape := ⟨2, ![65536, 768]⟩
abbrev S4x15x31 : Shape := ⟨3, ![4, 15, 31]⟩
abbrev S65536x512 : Shape := ⟨2, ![65536, 512]⟩
abbrev S_ : Shape := ⟨0, ![]⟩

class Facts : Prop where
  slices_S65536x768_S65536x512_0_0 : S65536x768.Slices ![0, 0] S65536x512
  bcast_S_S65536x512 : S_.BroadcastsInDim S65536x512 (![] : Fin 0 → Fin S65536x512.rank)
  bcast_S_S4x15x31 : S_.BroadcastsInDim S4x15x31 (![] : Fin 0 → Fin S4x15x31.rank)

variable [Facts]

def fn {F : FTy → Type} [FloatOps F] (main_arg0 : FVec F S65536x768 .bf16) (main_arg1 : FVec F S4x15x31 .f32) : IVec S65536x512 1 × IVec S4x15x31 1 :=
  let main_v0 : FVec F S65536x512 .bf16 := (extractStridedSlice S65536x512 ![0, 0] · slices_S65536x768_S65536x512_0_0) main_arg0
  let main_v1 : FVec F S65536x512 .bf16 := Host.absf main_v0
  let main_cst : FVec F S_ .bf16 := constant S_ .bf16 0x7F80#16
  let main_v2 : FVec F S65536x512 .bf16 := broadcastInDim S65536x512 ![] bcast_S_S65536x512 main_cst
  let main_v3 : IVec S65536x512 1 := cmpf .olt main_v1 main_v2
  let main_v4 : FVec F S4x15x31 .f32 := Host.absf main_arg1
  let main_cst_0 : FVec F S_ .f32 := constant S_ .f32 0x7F800000#32
  let main_v5 : FVec F S4x15x31 .f32 := broadcastInDim S4x15x31 ![] bcast_S_S4x15x31 main_cst_0
  let main_v6 : IVec S4x15x31 1 := cmpf .olt main_v4 main_v5
  (main_v3, main_v6)
-- ==== Kernel.lean ====
abbrev S65536x768 : Shape := ⟨2, ![65536, 768]⟩
abbrev S4x15x31 : Shape := ⟨3, ![4, 15, 31]⟩
abbrev S128 : Shape := ⟨1, ![128]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S1x64x64 : Shape := ⟨3, ![1, 64, 64]⟩
abbrev S31 : Shape := ⟨1, ![31]⟩
abbrev S31x1x1 : Shape := ⟨3, ![31, 1, 1]⟩
abbrev S31x64x64 : Shape := ⟨3, ![31, 64, 64]⟩
abbrev S4x15x64x64 : Shape := ⟨4, ![4, 15, 64, 64]⟩
abbrev S4x8x64x64 : Shape := ⟨4, ![4, 8, 64, 64]⟩
abbrev S4x1x8x64x64 : Shape := ⟨5, ![4, 1, 8, 64, 64]⟩
abbrev S4x8x8x64x64 : Shape := ⟨5, ![4, 8, 8, 64, 64]⟩
abbrev S1x1x1x64x64 : Shape := ⟨5, ![1, 1, 1, 64, 64]⟩
abbrev S4x8x64x8x64 : Shape := ⟨5, ![4, 8, 64, 8, 64]⟩
abbrev S4x8x64x512 : Shape := ⟨4, ![4, 8, 64, 512]⟩
abbrev S65536x256 : Shape := ⟨2, ![65536, 256]⟩
abbrev S512x256 : Shape := ⟨2, ![512, 256]⟩
abbrev S1 : Shape := ⟨1, ![1]⟩
abbrev S1536x256 : Shape := ⟨2, ![1536, 256]⟩
abbrev S64x128 : Shape := ⟨2, ![64, 128]⟩
abbrev S512x128 : Shape := ⟨2, ![512, 128]⟩
abbrev S1x1x64x512 : Shape := ⟨4, ![1, 1, 64, 512]⟩
abbrev S64x512 : Shape := ⟨2, ![64, 512]⟩

abbrev nBuf : Space → Nat
  | .hbm => 81
  | .vmem => 19
  | .smem => 4
  | _ => 0

abbrev bufTy : (tb : Table) → Fin (tcTables nBuf tb) → BufTy
  | .hbm, ⟨0, _⟩ => ⟨S65536x768, .bf16⟩
  | .hbm, ⟨1, _⟩ => ⟨S4x15x31, .f32⟩
  | .hbm, ⟨2, _⟩ => ⟨S64, .i32⟩
  | .hbm, ⟨3, _⟩ => ⟨S_, .i32⟩
  | .hbm, ⟨4, _⟩ => ⟨S64, .i32⟩
  | .hbm, ⟨5, _⟩ => ⟨S64, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S1x64, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S1x64, .i32⟩
  | .hbm, ⟨20, _⟩ => ⟨S64x1, .i32⟩
  | .hbm, ⟨21, _⟩ => ⟨S_, .i32⟩
  | .hbm, ⟨22, _⟩ => ⟨S64x1, .i32⟩
  | .hbm, ⟨23, _⟩ => ⟨S64x1, .i32⟩
  | .hbm, ⟨24, _⟩ => ⟨S64x64, .i32⟩
  | .hbm, ⟨25, _⟩ => ⟨S64x64, .i32⟩
  | .hbm, ⟨26, _⟩ => ⟨S64x64, .i1⟩
  | .hbm, ⟨27, _⟩ => ⟨S64x64, .i1⟩
  | .hbm, ⟨28, _⟩ => ⟨S1x64, .i32⟩
  | .hbm, ⟨29, _⟩ => ⟨S64x1, .i32⟩
  | .hbm, ⟨30, _⟩ => ⟨S64x64, .i32⟩
  | .hbm, ⟨31, _⟩ => ⟨S64x64, .i32⟩
  | .hbm, ⟨32, _⟩ => ⟨S64x64, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S64x64, .i32⟩
  | .hbm, ⟨37, _⟩ => ⟨S64x64, .i32⟩
  | .hbm, ⟨38, _⟩ => ⟨S_, .i32⟩
  | .hbm, ⟨39, _⟩ => ⟨S64x64, .i32⟩
  | .hbm, ⟨40, _⟩ => ⟨S64x64, .i32⟩
  | .hbm, ⟨41, _⟩ => ⟨S_, .i32⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S1x64x64, .i32⟩
  | .hbm, ⟨48, _⟩ => ⟨S31, .i32⟩
  | .hbm, ⟨49, _⟩ => ⟨S31x1x1, .i32⟩
  | .hbm, ⟨50, _⟩ => ⟨S31x64x64, .i32⟩
  | .hbm, ⟨51, _⟩ => ⟨S31x64x64, .i32⟩
  | .hbm, ⟨52, _⟩ => ⟨S31x64x64, .i1⟩
  | .hbm, ⟨53, _⟩ => ⟨S31x64x64, .f32⟩
  | .hbm, ⟨54, _⟩ => ⟨S4x15x64x64, .f32⟩
  | .hbm, ⟨55, _⟩ => ⟨S4x8x64x64, .f32⟩
  | .hbm, ⟨56, _⟩ => ⟨S4x8x64x64, .f32⟩
  | .hbm, ⟨57, _⟩ => ⟨S4x8x64x64, .f32⟩
  | .hbm, ⟨58, _⟩ => ⟨S4x8x64x64, .f32⟩
  | .hbm, ⟨59, _⟩ => ⟨S4x8x64x64, .f32⟩
  | .hbm, ⟨60, _⟩ => ⟨S4x8x64x64, .f32⟩
  | .hbm, ⟨61, _⟩ => ⟨S4x8x64x64, .f32⟩
  | .hbm, ⟨62, _⟩ => ⟨S4x8x64x64, .f32⟩
  | .hbm, ⟨63, _⟩ => ⟨S4x1x8x64x64, .f32⟩
  | .hbm, ⟨64, _⟩ => ⟨S4x1x8x64x64, .f32⟩
  | .hbm, ⟨65, _⟩ => ⟨S4x1x8x64x64, .f32⟩
  | .hbm, ⟨66, _⟩ => ⟨S4x1x8x64x64, .f32⟩
  | .hbm, ⟨67, _⟩ => ⟨S4x1x8x64x64, .f32⟩
  | .hbm, ⟨68, _⟩ => ⟨S4x1x8x64x64, .f32⟩
  | .hbm, ⟨69, _⟩ => ⟨S4x1x8x64x64, .f32⟩
  | .hbm, ⟨70, _⟩ => ⟨S4x1x8x64x64, .f32⟩
  | .hbm, ⟨71, _⟩ => ⟨S4x8x8x64x64, .f32⟩
  | .hbm, ⟨72, _⟩ => ⟨S1x1x1x64x64, .i1⟩
  | .hbm, ⟨73, _⟩ => ⟨S_, .f32⟩
  | .hbm, ⟨74, _⟩ => ⟨S_, .f32⟩
  | .hbm, ⟨75, _⟩ => ⟨S4x8x8x64x64, .i1⟩
  | .hbm, ⟨76, _⟩ => ⟨S4x8x8x64x64, .f32⟩
  | .hbm, ⟨77, _⟩ => ⟨S4x8x8x64x64, .f32⟩
  | .hbm, ⟨78, _⟩ => ⟨S4x8x64x8x64, .f32⟩
  | .hbm, ⟨79, _⟩ => ⟨S4x8x64x512, .f32⟩
  | .hbm, ⟨80, _⟩ => ⟨S65536x256, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S4x8x64x512, .f32⟩
  | .local _ .vmem, ⟨15, _⟩ => ⟨S512x256, .bf16⟩
  | .local _ .vmem, ⟨16, _⟩ => ⟨S512x256, .bf16⟩
  | .local _ .vmem, ⟨17, _⟩ => ⟨S1536x256, .bf16⟩
  | .local _ .vmem, ⟨18, _⟩ => ⟨S1536x256, .bf16⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | _, _ => ⟨S65536x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c_3 : Ref sig .tc := ⟨.hbm, 3, rfl⟩
abbrev main_v1 : Ref sig .tc := ⟨.hbm, 4, rfl⟩
abbrev main_v2 : Ref sig .tc := ⟨.hbm, 5, rfl⟩
abbrev main_c_4 : Ref sig .tc := ⟨.hbm, 6, rfl⟩
abbrev main_c_5 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_6 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_7 : Ref sig .tc := ⟨.hbm, 33, rfl⟩
abbrev main_c_8 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v22 : Ref sig .tc := ⟨.hbm, 40, rfl⟩
abbrev main_c_9 : Ref sig .tc := ⟨.hbm, 41, rfl⟩
abbrev main_v23 : Ref sig .tc := ⟨.hbm, 42, rfl⟩
abbrev main_v24 : Ref sig .tc := ⟨.hbm, 43, rfl⟩
abbrev main_c_10 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![128], ![false]⟩

abbrev pre0 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v28 : BitVec 32) : BitVec 32 :=
  let c1_i32 : BitVec 32 := 1#32
  let v29 : BitVec 1 := Scalar.cmpi .eq v28 c1_i32
  let c8_i32 : BitVec 32 := 8#32
  let c4_i32 : BitVec 32 := 4#32
  let v30 : BitVec 32 := Scalar.select v29 c8_i32 c4_i32
  let c64_i32_21 : BitVec 32 := 64#32
  let v31 : BitVec 32 := Scalar.muli v30 c64_i32_21
  v31

def k0_off2 (v28 : BitVec 32) : Fin 2 → Nat :=
  let c1_i32 : BitVec 32 := 1#32
  let v29 : BitVec 1 := Scalar.cmpi .eq v28 c1_i32
  let c8_i32 : BitVec 32 := 8#32
  let c4_i32 : BitVec 32 := 4#32
  let v30 : BitVec 32 := Scalar.select v29 c8_i32 c4_i32
  let c64_i32_21 : BitVec 32 := 64#32
  let v31 : BitVec 32 := Scalar.muli v30 c64_i32_21
  let v32 : BitVec 32 := v31
  let v39 : Index := Scalar.indexCast v32
  let c0_26 : Index := 0#32
  ![v39.toNat, 0]
def k0_off3 (v28 : BitVec 32) : Fin 4 → Nat :=
  let c0_28 : Index := 0#32
  let c1_i32 : BitVec 32 := 1#32
  let v29 : BitVec 1 := Scalar.cmpi .eq v28 c1_i32
  let c0_i32 : BitVec 32 := 0#32
  let c4_i32_22 : BitVec 32 := 4#32
  let v33 : BitVec 32 := Scalar.select v29 c0_i32 c4_i32_22
  let v43 : Index := Scalar.indexCast v33
  let c0_29 : Index := 0#32
  let c0_30 : Index := 0#32
  ![0, v43.toNat, 0, 0]
def k0_off4 (v28 : BitVec 32) : Fin 4 → Nat :=
  let c1 : Index := 1#32
  let c1_i32 : BitVec 32 := 1#32
  let v29 : BitVec 1 := Scalar.cmpi .eq v28 c1_i32
  let c0_i32 : BitVec 32 := 0#32
  let c4_i32_22 : BitVec 32 := 4#32
  let v33 : BitVec 32 := Scalar.select v29 c0_i32 c4_i32_22
  let v56 : Index := Scalar.indexCast v33
  let c0_38 : Index := 0#32
  let c0_39 : Index := 0#32
  ![1, v56.toNat, 0, 0]
def k0_off5 (v28 : BitVec 32) : Fin 2 → Nat :=
  let c1_i32 : BitVec 32 := 1#32
  let v29 : BitVec 1 := Scalar.cmpi .eq v28 c1_i32
  let c8_i32 : BitVec 32 := 8#32
  let c4_i32 : BitVec 32 := 4#32
  let v30 : BitVec 32 := Scalar.select v29 c8_i32 c4_i32
  let c64_i32_21 : BitVec 32 := 64#32
  let v31 : BitVec 32 := Scalar.muli v30 c64_i32_21
  let v32 : BitVec 32 := v31
  let v64 : Index := Scalar.indexCast v32
  let c128_43 : Index := 128#32
  ![v64.toNat, 128]
def k0_off6 (v28 : BitVec 32) : Fin 4 → Nat :=
  let c2 : Index := 2#32
  let c1_i32 : BitVec 32 := 1#32
  let v29 : BitVec 1 := Scalar.cmpi .eq v28 c1_i32
  let c0_i32 : BitVec 32 := 0#32
  let c4_i32_22 : BitVec 32 := 4#32
  let v33 : BitVec 32 := Scalar.select v29 c0_i32 c4_i32_22
  let v68 : Index := Scalar.indexCast v33
  let c0_45 : Index := 0#32
  let c0_46 : Index := 0#32
  ![2, v68.toNat, 0, 0]
def k0_off7 (v28 : BitVec 32) : Fin 4 → Nat :=
  let c3 : Index := 3#32
  let c1_i32 : BitVec 32 := 1#32
  let v29 : BitVec 1 := Scalar.cmpi .eq v28 c1_i32
  let c0_i32 : BitVec 32 := 0#32
  let c4_i32_22 : BitVec 32 := 4#32
  let v33 : BitVec 32 := Scalar.select v29 c0_i32 c4_i32_22
  let v81 : Index := Scalar.indexCast v33
  let c0_54 : Index := 0#32
  let c0_55 : Index := 0#32
  ![3, v81.toNat, 0, 0]

def k0_chk1 (v28 : BitVec 32) : Prop :=
  (64 ∣ (k0_mult1 v28).toNat) ∧
  (∀ a, (k0_off2 v28) a + S512x128.size a ≤ S1536x256.size a) ∧
  (∀ a, (k0_off3 v28) a + S1x1x64x512.size a ≤ S4x8x64x512.size a) ∧
  (∀ a, (k0_off4 v28) a + S1x1x64x512.size a ≤ S4x8x64x512.size a) ∧
  (∀ a, (k0_off5 v28) a + S512x128.size a ≤ S1536x256.size a) ∧
  (∀ a, (k0_off6 v28) a + S1x1x64x512.size a ≤ S4x8x64x512.size a) ∧
  (∀ a, (k0_off7 v28) a + S1x1x64x512.size a ≤ S4x8x64x512.size a)
theorem k0_mult1_dvd : ∀ (v28 : BitVec 32) (k0_hw1 : k0_chk1 v28), 64 ∣ (k0_mult1 v28).toNat := fun v28 k0_hw1 => k0_hw1.1
theorem k0_off2_inb : ∀ (v28 : BitVec 32) (k0_hw1 : k0_chk1 v28), ∀ a, (k0_off2 v28) a + S512x128.size a ≤ S1536x256.size a := fun v28 k0_hw1 => k0_hw1.2.1
theorem k0_off3_inb : ∀ (v28 : BitVec 32) (k0_hw1 : k0_chk1 v28), ∀ a, (k0_off3 v28) a + S1x1x64x512.size a ≤ S4x8x64x512.size a := fun v28 k0_hw1 => k0_hw1.2.2.1
theorem k0_off4_inb : ∀ (v28 : BitVec 32) (k0_hw1 : k0_chk1 v28), ∀ a, (k0_off4 v28) a + S1x1x64x512.size a ≤ S4x8x64x512.size a := fun v28 k0_hw1 => k0_hw1.2.2.2.1
theorem k0_off5_inb : ∀ (v28 : BitVec 32) (k0_hw1 : k0_chk1 v28), ∀ a, (k0_off5 v28) a + S512x128.size a ≤ S1536x256.size a := fun v28 k0_hw1 => k0_hw1.2.2.2.2.1
theorem k0_off6_inb : ∀ (v28 : BitVec 32) (k0_hw1 : k0_chk1 v28), ∀ a, (k0_off6 v28) a + S1x1x64x512.size a ≤ S4x8x64x512.size a := fun v28 k0_hw1 => k0_hw1.2.2.2.2.2.1
theorem k0_off7_inb : ∀ (v28 : BitVec 32) (k0_hw1 : k0_chk1 v28), ∀ a, (k0_off7 v28) a + S1x1x64x512.size a ≤ S4x8x64x512.size a := fun v28 k0_hw1 => k0_hw1.2.2.2.2.2.2

def k0_off8 (i : grid0.Coords) : Fin 1 → Nat :=
  let arg0 : BitVec 32 := BitVec.ofNat 32 (i 0).val
  let v84 : Index := Scalar.indexCast arg0
  ![v84.toNat]
def k0_mult2 (v85 : BitVec 32) : BitVec 32 :=
  let c1_i32_56 : BitVec 32 := 1#32
  let v86 : BitVec 1 := Scalar.cmpi .eq v85 c1_i32_56
  let c8_i32_57 : BitVec 32 := 8#32
  let c5_i32 : BitVec 32 := 5#32
  let v87 : BitVec 32 := Scalar.select v86 c8_i32_57 c5_i32
  let c64_i32_58 : BitVec 32 := 64#32
  let v88 : BitVec 32 := Scalar.muli v87 c64_i32_58
  v88

def k0_off9 (v85 : BitVec 32) : Fin 2 → Nat :=
  let c1_i32_56 : BitVec 32 := 1#32
  let v86 : BitVec 1 := Scalar.cmpi .eq v85 c1_i32_56
  let c8_i32_57 : BitVec 32 := 8#32
  let c5_i32 : BitVec 32 := 5#32
  let v87 : BitVec 32 := Scalar.select v86 c8_i32_57 c5_i32
  let c64_i32_58 : BitVec 32 := 64#32
  let v88 : BitVec 32 := Scalar.muli v87 c64_i32_58
  let v89 : BitVec 32 := v88
  let v96 : Index := Scalar.indexCast v89
  let c0_64 : Index := 0#32
  ![v96.toNat, 0]
def k0_off10 (v85 : BitVec 32) : Fin 4 → Nat :=
  let c0_66 : Index := 0#32
  let c1_i32_56 : BitVec 32 := 1#32
  let v86 : BitVec 1 := Scalar.cmpi .eq v85 c1_i32_56
  let c1_i32_59 : BitVec 32 := 1#32
  let c4_i32_60 : BitVec 32 := 4#32
  let v90 : BitVec 32 := Scalar.select v86 c1_i32_59 c4_i32_60
  let v100 : Index := Scalar.indexCast v90
  let c0_67 : Index := 0#32
  let c0_68 : Index := 0#32
  ![0, v100.toNat, 0, 0]
def k0_off11 (v85 : BitVec 32) : Fin 4 → Nat :=
  let c1_76 : Index := 1#32
  let c1_i32_56 : BitVec 32 := 1#32
  let v86 : BitVec 1 := Scalar.cmpi .eq v85 c1_i32_56
  let c1_i32_59 : BitVec 32 := 1#32
  let c4_i32_60 : BitVec 32 := 4#32
  let v90 : BitVec 32 := Scalar.select v86 c1_i32_59 c4_i32_60
  let v113 : Index := Scalar.indexCast v90
  let c0_77 : Index := 0#32
  let c0_78 : Index := 0#32
  ![1, v113.toNat, 0, 0]
def k0_off12 (v85 : BitVec 32) : Fin 2 → Nat :=
  let c1_i32_56 : BitVec 32 := 1#32
  let v86 : BitVec 1 := Scalar.cmpi .eq v85 c1_i32_56
  let c8_i32_57 : BitVec 32 := 8#32
  let c5_i32 : BitVec 32 := 5#32
  let v87 : BitVec 32 := Scalar.select v86 c8_i32_57 c5_i32
  let c64_i32_58 : BitVec 32 := 64#32
  let v88 : BitVec 32 := Scalar.muli v87 c64_i32_58
  let v89 : BitVec 32 := v88
  let v121 : Index := Scalar.indexCast v89
  let c128_83 : Index := 128#32
  ![v121.toNat, 128]
def k0_off13 (v85 : BitVec 32) : Fin 4 → Nat :=
  let c2_85 : Index := 2#32
  let c1_i32_56 : BitVec 32 := 1#32
  let v86 : BitVec 1 := Scalar.cmpi .eq v85 c1_i32_56
  let c1_i32_59 : BitVec 32 := 1#32
  let c4_i32_60 : BitVec 32 := 4#32
  let v90 : BitVec 32 := Scalar.select v86 c1_i32_59 c4_i32_60
  let v125 : Index := Scalar.indexCast v90
  let c0_86 : Index := 0#32
  let c0_87 : Index := 0#32
  ![2, v125.toNat, 0, 0]
def k0_off14 (v85 : BitVec 32) : Fin 4 → Nat :=
  let c3_95 : Index := 3#32
  let c1_i32_56 : BitVec 32 := 1#32
  let v86 : BitVec 1 := Scalar.cmpi .eq v85 c1_i32_56
  let c1_i32_59 : BitVec 32 := 1#32
  let c4_i32_60 : BitVec 32 := 4#32
  let v90 : BitVec 32 := Scalar.select v86 c1_i32_59 c4_i32_60
  let v138 : Index := Scalar.indexCast v90
  let c0_96 : Index := 0#32
  let c0_97 : Index := 0#32
  ![3, v138.toNat, 0, 0]

def k0_chk2 (v85 : BitVec 32) : Prop :=
  (64 ∣ (k0_mult2 v85).toNat) ∧
  (∀ a, (k0_off9 v85) a + S512x128.size a ≤ S1536x256.size a) ∧
  (∀ a, (k0_off10 v85) a + S1x1x64x512.size a ≤ S4x8x64x512.size a) ∧
  (∀ a, (k0_off11 v85) a + S1x1x64x512.size a ≤ S4x8x64x512.size a) ∧
  (∀ a, (k0_off12 v85) a + S512x128.size a ≤ S1536x256.size a) ∧
  (∀ a, (k0_off13 v85) a + S1x1x64x512.size a ≤ S4x8x64x512.size a) ∧
  (∀ a, (k0_off14 v85) a + S1x1x64x512.size a ≤ S4x8x64x512.size a)
theorem k0_mult2_dvd : ∀ (v85 : BitVec 32) (k0_hw2 : k0_chk2 v85), 64 ∣ (k0_mult2 v85).toNat := fun v85 k0_hw2 => k0_hw2.1
theorem k0_off9_inb : ∀ (v85 : BitVec 32) (k0_hw2 : k0_chk2 v85), ∀ a, (k0_off9 v85) a + S512x128.size a ≤ S1536x256.size a := fun v85 k0_hw2 => k0_hw2.2.1
theorem k0_off10_inb : ∀ (v85 : BitVec 32) (k0_hw2 : k0_chk2 v85), ∀ a, (k0_off10 v85) a + S1x1x64x512.size a ≤ S4x8x64x512.size a := fun v85 k0_hw2 => k0_hw2.2.2.1
theorem k0_off11_inb : ∀ (v85 : BitVec 32) (k0_hw2 : k0_chk2 v85), ∀ a, (k0_off11 v85) a + S1x1x64x512.size a ≤ S4x8x64x512.size a := fun v85 k0_hw2 => k0_hw2.2.2.2.1
theorem k0_off12_inb : ∀ (v85 : BitVec 32) (k0_hw2 : k0_chk2 v85), ∀ a, (k0_off12 v85) a + S512x128.size a ≤ S1536x256.size a := fun v85 k0_hw2 => k0_hw2.2.2.2.2.1
theorem k0_off13_inb : ∀ (v85 : BitVec 32) (k0_hw2 : k0_chk2 v85), ∀ a, (k0_off13 v85) a + S1x1x64x512.size a ≤ S4x8x64x512.size a := fun v85 k0_hw2 => k0_hw2.2.2.2.2.2.1
theorem k0_off14_inb : ∀ (v85 : BitVec 32) (k0_hw2 : k0_chk2 v85), ∀ a, (k0_off14 v85) a + S1x1x64x512.size a ≤ S4x8x64x512.size a := fun v85 k0_hw2 => k0_hw2.2.2.2.2.2.2

def k0_off15 (i : grid0.Coords) : Fin 1 → Nat :=
  let arg0 : BitVec 32 := BitVec.ofNat 32 (i 0).val
  let v141 : Index := Scalar.indexCast arg0
  ![v141.toNat]
def k0_mult3 (v142 : BitVec 32) : BitVec 32 :=
  let c1_i32_98 : BitVec 32 := 1#32
  let v143 : BitVec 1 := Scalar.cmpi .eq v142 c1_i32_98
  let c8_i32_99 : BitVec 32 := 8#32
  let c6_i32 : BitVec 32 := 6#32
  let v144 : BitVec 32 := Scalar.select v143 c8_i32_99 c6_i32
  let c64_i32_100 : BitVec 32 := 64#32
  let v145 : BitVec 32 := Scalar.muli v144 c64_i32_100
  v145

def k0_off16 (v142 : BitVec 32) : Fin 2 → Nat :=
  let c1_i32_98 : BitVec 32 := 1#32
  let v143 : BitVec 1 := Scalar.cmpi .eq v142 c1_i32_98
  let c8_i32_99 : BitVec 32 := 8#32
  let c6_i32 : BitVec 32 := 6#32
  let v144 : BitVec 32 := Scalar.select v143 c8_i32_99 c6_i32
  let c64_i32_100 : BitVec 32 := 64#32
  let v145 : BitVec 32 := Scalar.muli v144 c64_i32_100
  let v146 : BitVec 32 := v145
  let v153 : Index := Scalar.indexCast v146
  let c0_106 : Index := 0#32
  ![v153.toNat, 0]
def k0_off17 (v142 : BitVec 32) : Fin 4 → Nat :=
  let c0_108 : Index := 0#32
  let c1_i32_98 : BitVec 32 := 1#32
  let v143 : BitVec 1 := Scalar.cmpi .eq v142 c1_i32_98
  let c2_i32 : BitVec 32 := 2#32
  let c4_i32_101 : BitVec 32 := 4#32
  let v147 : BitVec 32 := Scalar.select v143 c2_i32 c4_i32_101
  let v157 : Index := Scalar.indexCast v147
  let c0_109 : Index := 0#32
  let c0_110 : Index := 0#32
  ![0, v157.toNat, 0, 0]
def k0_off18 (v142 : BitVec 32) : Fin 4 → Nat :=
  let c1_118 : Index := 1#32
  let c1_i32_98 : BitVec 32 := 1#32
  let v143 : BitVec 1 := Scalar.cmpi .eq v142 c1_i32_98
  let c2_i32 : BitVec 32 := 2#32
  let c4_i32_101 : BitVec 32 := 4#32
  let v147 : BitVec 32 := Scalar.select v143 c2_i32 c4_i32_101
  let v170 : Index := Scalar.indexCast v147
  let c0_119 : Index := 0#32
  let c0_120 : Index := 0#32
  ![1, v170.toNat, 0, 0]
def k0_off19 (v142 : BitVec 32) : Fin 2 → Nat :=
  let c1_i32_98 : BitVec 32 := 1#32
  let v143 : BitVec 1 := Scalar.cmpi .eq v142 c1_i32_98
  let c8_i32_99 : BitVec 32 := 8#32
  let c6_i32 : BitVec 32 := 6#32
  let v144 : BitVec 32 := Scalar.select v143 c8_i32_99 c6_i32
  let c64_i32_100 : BitVec 32 := 64#32
  let v145 : BitVec 32 := Scalar.muli v144 c64_i32_100
  let v146 : BitVec 32 := v145
  let v178 : Index := Scalar.indexCast v146
  let c128_125 : Index := 128#32
  ![v178.toNat, 128]
def k0_off20 (v142 : BitVec 32) : Fin 4 → Nat :=
  let c2_127 : Index := 2#32
  let c1_i32_98 : BitVec 32 := 1#32
  let v143 : BitVec 1 := Scalar.cmpi .eq v142 c1_i32_98
  let c2_i32 : BitVec 32 := 2#32
  let c4_i32_101 : BitVec 32 := 4#32
  let v147 : BitVec 32 := Scalar.select v143 c2_i32 c4_i32_101
  let v182 : Index := Scalar.indexCast v147
  let c0_128 : Index := 0#32
  let c0_129 : Index := 0#32
  ![2, v182.toNat, 0, 0]
def k0_off21 (v142 : BitVec 32) : Fin 4 → Nat :=
  let c3_137 : Index := 3#32
  let c1_i32_98 : BitVec 32 := 1#32
  let v143 : BitVec 1 := Scalar.cmpi .eq v142 c1_i32_98
  let c2_i32 : BitVec 32 := 2#32
  let c4_i32_101 : BitVec 32 := 4#32
  let v147 : BitVec 32 := Scalar.select v143 c2_i32 c4_i32_101
  let v195 : Index := Scalar.indexCast v147
  let c0_138 : Index := 0#32
  let c0_139 : Index := 0#32
  ![3, v195.toNat, 0, 0]

def k0_chk3 (v142 : BitVec 32) : Prop :=
  (64 ∣ (k0_mult3 v142).toNat) ∧
  (∀ a, (k0_off16 v142) a + S512x128.size a ≤ S1536x256.size a) ∧
  (∀ a, (k0_off17 v142) a + S1x1x64x512.size a ≤ S4x8x64x512.size a) ∧
  (∀ a, (k0_off18 v142) a + S1x1x64x512.size a ≤ S4x8x64x512.size a) ∧
  (∀ a, (k0_off19 v142) a + S512x128.size a ≤ S1536x256.size a) ∧
  (∀ a, (k0_off20 v142) a + S1x1x64x512.size a ≤ S4x8x64x512.size a) ∧
  (∀ a, (k0_off21 v142) a + S1x1x64x512.size a ≤ S4x8x64x512.size a)
theorem k0_mult3_dvd : ∀ (v142 : BitVec 32) (k0_hw3 : k0_chk3 v142), 64 ∣ (k0_mult3 v142).toNat := fun v142 k0_hw3 => k0_hw3.1
theorem k0_off16_inb : ∀ (v142 : BitVec 32) (k0_hw3 : k0_chk3 v142), ∀ a, (k0_off16 v142) a + S512x128.size a ≤ S1536x256.size a := fun v142 k0_hw3 => k0_hw3.2.1
theorem k0_off17_inb : ∀ (v142 : BitVec 32) (k0_hw3 : k0_chk3 v142), ∀ a, (k0_off17 v142) a + S1x1x64x512.size a ≤ S4x8x64x512.size a := fun v142 k0_hw3 => k0_hw3.2.2.1
theorem k0_off18_inb : ∀ (v142 : BitVec 32) (k0_hw3 : k0_chk3 v142), ∀ a, (k0_off18 v142) a + S1x1x64x512.size a ≤ S4x8x64x512.size a := fun v142 k0_hw3 => k0_hw3.2.2.2.1
theorem k0_off19_inb : ∀ (v142 : BitVec 32) (k0_hw3 : k0_chk3 v142), ∀ a, (k0_off19 v142) a + S512x128.size a ≤ S1536x256.size a := fun v142 k0_hw3 => k0_hw3.2.2.2.2.1
theorem k0_off20_inb : ∀ (v142 : BitVec 32) (k0_hw3 : k0_chk3 v142), ∀ a, (k0_off20 v142) a + S1x1x64x512.size a ≤ S4x8x64x512.size a := fun v142 k0_hw3 => k0_hw3.2.2.2.2.2.1
theorem k0_off21_inb : ∀ (v142 : BitVec 32) (k0_hw3 : k0_chk3 v142), ∀ a, (k0_off21 v142) a + S1x1x64x512.size a ≤ S4x8x64x512.size a := fun v142 k0_hw3 => k0_hw3.2.2.2.2.2.2

def k0_off22 (i : grid0.Coords) : Fin 1 → Nat :=
  let arg0 : BitVec 32 := BitVec.ofNat 32 (i 0).val
  let v198 : Index := Scalar.indexCast arg0
  ![v198.toNat]
def k0_mult4 (v199 : BitVec 32) : BitVec 32 :=
  let c1_i32_140 : BitVec 32 := 1#32
  let v200 : BitVec 1 := Scalar.cmpi .eq v199 c1_i32_140
  let c8_i32_141 : BitVec 32 := 8#32
  let c7_i32 : BitVec 32 := 7#32
  let v201 : BitVec 32 := Scalar.select v200 c8_i32_141 c7_i32
  let c64_i32_142 : BitVec 32 := 64#32
  let v202 : BitVec 32 := Scalar.muli v201 c64_i32_142
  v202

def k0_off23 (v199 : BitVec 32) : Fin 2 → Nat :=
  let c1_i32_140 : BitVec 32 := 1#32
  let v200 : BitVec 1 := Scalar.cmpi .eq v199 c1_i32_140
  let c8_i32_141 : BitVec 32 := 8#32
  let c7_i32 : BitVec 32 := 7#32
  let v201 : BitVec 32 := Scalar.select v200 c8_i32_141 c7_i32
  let c64_i32_142 : BitVec 32 := 64#32
  let v202 : BitVec 32 := Scalar.muli v201 c64_i32_142
  let v203 : BitVec 32 := v202
  let v210 : Index := Scalar.indexCast v203
  let c0_147 : Index := 0#32
  ![v210.toNat, 0]
def k0_off24 (v199 : BitVec 32) : Fin 4 → Nat :=
  let c0_149 : Index := 0#32
  let c1_i32_140 : BitVec 32 := 1#32
  let v200 : BitVec 1 := Scalar.cmpi .eq v199 c1_i32_140
  let c3_i32 : BitVec 32 := 3#32
  let c4_i32_143 : BitVec 32 := 4#32
  let v204 : BitVec 32 := Scalar.select v200 c3_i32 c4_i32_143
  let v214 : Index := Scalar.indexCast v204
  let c0_150 : Index := 0#32
  let c0_151 : Index := 0#32
  ![0, v214.toNat, 0, 0]
def k0_off25 (v199 : BitVec 32) : Fin 4 → Nat :=
  let c1_159 : Index := 1#32
  let c1_i32_140 : BitVec 32 := 1#32
  let v200 : BitVec 1 := Scalar.cmpi .eq v199 c1_i32_140
  let c3_i32 : BitVec 32 := 3#32
  let c4_i32_143 : BitVec 32 := 4#32
  let v204 : BitVec 32 := Scalar.select v200 c3_i32 c4_i32_143
  let v227 : Index := Scalar.indexCast v204
  let c0_160 : Index := 0#32
  let c0_161 : Index := 0#32
  ![1, v227.toNat, 0, 0]
def k0_off26 (v199 : BitVec 32) : Fin 2 → Nat :=
  let c1_i32_140 : BitVec 32 := 1#32
  let v200 : BitVec 1 := Scalar.cmpi .eq v199 c1_i32_140
  let c8_i32_141 : BitVec 32 := 8#32
  let c7_i32 : BitVec 32 := 7#32
  let v201 : BitVec 32 := Scalar.select v200 c8_i32_141 c7_i32
  let c64_i32_142 : BitVec 32 := 64#32
  let v202 : BitVec 32 := Scalar.muli v201 c64_i32_142
  let v203 : BitVec 32 := v202
  let v235 : Index := Scalar.indexCast v203
  let c128_166 : Index := 128#32
  ![v235.toNat, 128]
def k0_off27 (v199 : BitVec 32) : Fin 4 → Nat :=
  let c2_168 : Index := 2#32
  let c1_i32_140 : BitVec 32 := 1#32
  let v200 : BitVec 1 := Scalar.cmpi .eq v199 c1_i32_140
  let c3_i32 : BitVec 32 := 3#32
  let c4_i32_143 : BitVec 32 := 4#32
  let v204 : BitVec 32 := Scalar.select v200 c3_i32 c4_i32_143
  let v239 : Index := Scalar.indexCast v204
  let c0_169 : Index := 0#32
  let c0_170 : Index := 0#32
  ![2, v239.toNat, 0, 0]
def k0_off28 (v199 : BitVec 32) : Fin 4 → Nat :=
  let c3_178 : Index := 3#32
  let c1_i32_140 : BitVec 32 := 1#32
  let v200 : BitVec 1 := Scalar.cmpi .eq v199 c1_i32_140
  let c3_i32 : BitVec 32 := 3#32
  let c4_i32_143 : BitVec 32 := 4#32
  let v204 : BitVec 32 := Scalar.select v200 c3_i32 c4_i32_143
  let v252 : Index := Scalar.indexCast v204
  let c0_179 : Index := 0#32
  let c0_180 : Index := 0#32
  ![3, v252.toNat, 0, 0]

def k0_chk4 (v199 : BitVec 32) : Prop :=
  (64 ∣ (k0_mult4 v199).toNat) ∧
  (∀ a, (k0_off23 v199) a + S512x128.size a ≤ S1536x256.size a) ∧
  (∀ a, (k0_off24 v199) a + S1x1x64x512.size a ≤ S4x8x64x512.size a) ∧
  (∀ a, (k0_off25 v199) a + S1x1x64x512.size a ≤ S4x8x64x512.size a) ∧
  (∀ a, (k0_off26 v199) a + S512x128.size a ≤ S1536x256.size a) ∧
  (∀ a, (k0_off27 v199) a + S1x1x64x512.size a ≤ S4x8x64x512.size a) ∧
  (∀ a, (k0_off28 v199) a + S1x1x64x512.size a ≤ S4x8x64x512.size a)
theorem k0_mult4_dvd : ∀ (v199 : BitVec 32) (k0_hw4 : k0_chk4 v199), 64 ∣ (k0_mult4 v199).toNat := fun v199 k0_hw4 => k0_hw4.1
theorem k0_off23_inb : ∀ (v199 : BitVec 32) (k0_hw4 : k0_chk4 v199), ∀ a, (k0_off23 v199) a + S512x128.size a ≤ S1536x256.size a := fun v199 k0_hw4 => k0_hw4.2.1
theorem k0_off24_inb : ∀ (v199 : BitVec 32) (k0_hw4 : k0_chk4 v199), ∀ a, (k0_off24 v199) a + S1x1x64x512.size a ≤ S4x8x64x512.size a := fun v199 k0_hw4 => k0_hw4.2.2.1
theorem k0_off25_inb : ∀ (v199 : BitVec 32) (k0_hw4 : k0_chk4 v199), ∀ a, (k0_off25 v199) a + S1x1x64x512.size a ≤ S4x8x64x512.size a := fun v199 k0_hw4 => k0_hw4.2.2.2.1
theorem k0_off26_inb : ∀ (v199 : BitVec 32) (k0_hw4 : k0_chk4 v199), ∀ a, (k0_off26 v199) a + S512x128.size a ≤ S1536x256.size a := fun v199 k0_hw4 => k0_hw4.2.2.2.2.1
theorem k0_off27_inb : ∀ (v199 : BitVec 32) (k0_hw4 : k0_chk4 v199), ∀ a, (k0_off27 v199) a + S1x1x64x512.size a ≤ S4x8x64x512.size a := fun v199 k0_hw4 => k0_hw4.2.2.2.2.2.1
theorem k0_off28_inb : ∀ (v199 : BitVec 32) (k0_hw4 : k0_chk4 v199), ∀ a, (k0_off28 v199) a + S1x1x64x512.size a ≤ S4x8x64x512.size a := fun v199 k0_hw4 => k0_hw4.2.2.2.2.2.2

def k0_off29 (i : grid0.Coords) : Fin 1 → Nat :=
  let arg0 : BitVec 32 := BitVec.ofNat 32 (i 0).val
  let v487 : Index := Scalar.indexCast arg0
  ![v487.toNat]
def k0_mult5 (v488 : BitVec 32) : BitVec 32 :=
  let c1_i32_261 : BitVec 32 := 1#32
  let v489 : BitVec 1 := Scalar.cmpi .eq v488 c1_i32_261
  let c8_i32_262 : BitVec 32 := 8#32
  let c8_i32_263 : BitVec 32 := 8#32
  let v490 : BitVec 32 := Scalar.select v489 c8_i32_262 c8_i32_263
  let c64_i32_264 : BitVec 32 := 64#32
  let v491 : BitVec 32 := Scalar.muli v490 c64_i32_264
  v491

def k0_off30 (v488 : BitVec 32) : Fin 2 → Nat :=
  let c1_i32_261 : BitVec 32 := 1#32
  let v489 : BitVec 1 := Scalar.cmpi .eq v488 c1_i32_261
  let c8_i32_262 : BitVec 32 := 8#32
  let c8_i32_263 : BitVec 32 := 8#32
  let v490 : BitVec 32 := Scalar.select v489 c8_i32_262 c8_i32_263
  let c64_i32_264 : BitVec 32 := 64#32
  let v491 : BitVec 32 := Scalar.muli v490 c64_i32_264
  let v492 : BitVec 32 := v491
  let v499 : Index := Scalar.indexCast v492
  let c0_270 : Index := 0#32
  ![v499.toNat, 0]
def k0_off31 (v488 : BitVec 32) : Fin 4 → Nat :=
  let c0_272 : Index := 0#32
  let c1_i32_261 : BitVec 32 := 1#32
  let v489 : BitVec 1 := Scalar.cmpi .eq v488 c1_i32_261
  let c4_i32_265 : BitVec 32 := 4#32
  let c4_i32_266 : BitVec 32 := 4#32
  let v493 : BitVec 32 := Scalar.select v489 c4_i32_265 c4_i32_266
  let v503 : Index := Scalar.indexCast v493
  let c0_273 : Index := 0#32
  let c0_274 : Index := 0#32
  ![0, v503.toNat, 0, 0]
def k0_off32 (v488 : BitVec 32) : Fin 4 → Nat :=
  let c1_282 : Index := 1#32
  let c1_i32_261 : BitVec 32 := 1#32
  let v489 : BitVec 1 := Scalar.cmpi .eq v488 c1_i32_261
  let c4_i32_265 : BitVec 32 := 4#32
  let c4_i32_266 : BitVec 32 := 4#32
  let v493 : BitVec 32 := Scalar.select v489 c4_i32_265 c4_i32_266
  let v516 : Index := Scalar.indexCast v493
  let c0_283 : Index := 0#32
  let c0_284 : Index := 0#32
  ![1, v516.toNat, 0, 0]
def k0_off33 (v488 : BitVec 32) : Fin 2 → Nat :=
  let c1_i32_261 : BitVec 32 := 1#32
  let v489 : BitVec 1 := Scalar.cmpi .eq v488 c1_i32_261
  let c8_i32_262 : BitVec 32 := 8#32
  let c8_i32_263 : BitVec 32 := 8#32
  let v490 : BitVec 32 := Scalar.select v489 c8_i32_262 c8_i32_263
  let c64_i32_264 : BitVec 32 := 64#32
  let v491 : BitVec 32 := Scalar.muli v490 c64_i32_264
  let v492 : BitVec 32 := v491
  let v524 : Index := Scalar.indexCast v492
  let c128_289 : Index := 128#32
  ![v524.toNat, 128]
def k0_off34 (v488 : BitVec 32) : Fin 4 → Nat :=
  let c2_291 : Index := 2#32
  let c1_i32_261 : BitVec 32 := 1#32
  let v489 : BitVec 1 := Scalar.cmpi .eq v488 c1_i32_261
  let c4_i32_265 : BitVec 32 := 4#32
  let c4_i32_266 : BitVec 32 := 4#32
  let v493 : BitVec 32 := Scalar.select v489 c4_i32_265 c4_i32_266
  let v528 : Index := Scalar.indexCast v493
  let c0_292 : Index := 0#32
  let c0_293 : Index := 0#32
  ![2, v528.toNat, 0, 0]
def k0_off35 (v488 : BitVec 32) : Fin 4 → Nat :=
  let c3_301 : Index := 3#32
  let c1_i32_261 : BitVec 32 := 1#32
  let v489 : BitVec 1 := Scalar.cmpi .eq v488 c1_i32_261
  let c4_i32_265 : BitVec 32 := 4#32
  let c4_i32_266 : BitVec 32 := 4#32
  let v493 : BitVec 32 := Scalar.select v489 c4_i32_265 c4_i32_266
  let v541 : Index := Scalar.indexCast v493
  let c0_302 : Index := 0#32
  let c0_303 : Index := 0#32
  ![3, v541.toNat, 0, 0]

def k0_chk5 (v488 : BitVec 32) : Prop :=
  (64 ∣ (k0_mult5 v488).toNat) ∧
  (∀ a, (k0_off30 v488) a + S512x128.size a ≤ S1536x256.size a) ∧
  (∀ a, (k0_off31 v488) a + S1x1x64x512.size a ≤ S4x8x64x512.size a) ∧
  (∀ a, (k0_off32 v488) a + S1x1x64x512.size a ≤ S4x8x64x512.size a) ∧
  (∀ a, (k0_off33 v488) a + S512x128.size a ≤ S1536x256.size a) ∧
  (∀ a, (k0_off34 v488) a + S1x1x64x512.size a ≤ S4x8x64x512.size a) ∧
  (∀ a, (k0_off35 v488) a + S1x1x64x512.size a ≤ S4x8x64x512.size a)
theorem k0_mult5_dvd : ∀ (v488 : BitVec 32) (k0_hw5 : k0_chk5 v488), 64 ∣ (k0_mult5 v488).toNat := fun v488 k0_hw5 => k0_hw5.1
theorem k0_off30_inb : ∀ (v488 : BitVec 32) (k0_hw5 : k0_chk5 v488), ∀ a, (k0_off30 v488) a + S512x128.size a ≤ S1536x256.size a := fun v488 k0_hw5 => k0_hw5.2.1
theorem k0_off31_inb : ∀ (v488 : BitVec 32) (k0_hw5 : k0_chk5 v488), ∀ a, (k0_off31 v488) a + S1x1x64x512.size a ≤ S4x8x64x512.size a := fun v488 k0_hw5 => k0_hw5.2.2.1
theorem k0_off32_inb : ∀ (v488 : BitVec 32) (k0_hw5 : k0_chk5 v488), ∀ a, (k0_off32 v488) a + S1x1x64x512.size a ≤ S4x8x64x512.size a := fun v488 k0_hw5 => k0_hw5.2.2.2.1
theorem k0_off33_inb : ∀ (v488 : BitVec 32) (k0_hw5 : k0_chk5 v488), ∀ a, (k0_off33 v488) a + S512x128.size a ≤ S1536x256.size a := fun v488 k0_hw5 => k0_hw5.2.2.2.2.1
theorem k0_off34_inb : ∀ (v488 : BitVec 32) (k0_hw5 : k0_chk5 v488), ∀ a, (k0_off34 v488) a + S1x1x64x512.size a ≤ S4x8x64x512.size a := fun v488 k0_hw5 => k0_hw5.2.2.2.2.2.1
theorem k0_off35_inb : ∀ (v488 : BitVec 32) (k0_hw5 : k0_chk5 v488), ∀ a, (k0_off35 v488) a + S1x1x64x512.size a ≤ S4x8x64x512.size a := fun v488 k0_hw5 => k0_hw5.2.2.2.2.2.2

def k0_off36 (i : grid0.Coords) : Fin 1 → Nat :=
  let arg0 : BitVec 32 := BitVec.ofNat 32 (i 0).val
  let v544 : Index := Scalar.indexCast arg0
  ![v544.toNat]
def k0_mult6 (v545 : BitVec 32) : BitVec 32 :=
  let c1_i32_304 : BitVec 32 := 1#32
  let v546 : BitVec 1 := Scalar.cmpi .eq v545 c1_i32_304
  let c8_i32_305 : BitVec 32 := 8#32
  let c9_i32 : BitVec 32 := 9#32
  let v547 : BitVec 32 := Scalar.select v546 c8_i32_305 c9_i32
  let c64_i32_306 : BitVec 32 := 64#32
  let v548 : BitVec 32 := Scalar.muli v547 c64_i32_306
  v548

def k0_off37 (v545 : BitVec 32) : Fin 2 → Nat :=
  let c1_i32_304 : BitVec 32 := 1#32
  let v546 : BitVec 1 := Scalar.cmpi .eq v545 c1_i32_304
  let c8_i32_305 : BitVec 32 := 8#32
  let c9_i32 : BitVec 32 := 9#32
  let v547 : BitVec 32 := Scalar.select v546 c8_i32_305 c9_i32
  let c64_i32_306 : BitVec 32 := 64#32
  let v548 : BitVec 32 := Scalar.muli v547 c64_i32_306
  let v549 : BitVec 32 := v548
  let v556 : Index := Scalar.indexCast v549
  let c0_312 : Index := 0#32
  ![v556.toNat, 0]
def k0_off38 (v545 : BitVec 32) : Fin 4 → Nat :=
  let c0_314 : Index := 0#32
  let c1_i32_304 : BitVec 32 := 1#32
  let v546 : BitVec 1 := Scalar.cmpi .eq v545 c1_i32_304
  let c5_i32_307 : BitVec 32 := 5#32
  let c4_i32_308 : BitVec 32 := 4#32
  let v550 : BitVec 32 := Scalar.select v546 c5_i32_307 c4_i32_308
  let v560 : Index := Scalar.indexCast v550
  let c0_315 : Index := 0#32
  let c0_316 : Index := 0#32
  ![0, v560.toNat, 0, 0]
def k0_off39 (v545 : BitVec 32) : Fin 4 → Nat :=
  let c1_324 : Index := 1#32
  let c1_i32_304 : BitVec 32 := 1#32
  let v546 : BitVec 1 := Scalar.cmpi .eq v545 c1_i32_304
  let c5_i32_307 : BitVec 32 := 5#32
  let c4_i32_308 : BitVec 32 := 4#32
  let v550 : BitVec 32 := Scalar.select v546 c5_i32_307 c4_i32_308
  let v573 : Index := Scalar.indexCast v550
  let c0_325 : Index := 0#32
  let c0_326 : Index := 0#32
  ![1, v573.toNat, 0, 0]
def k0_off40 (v545 : BitVec 32) : Fin 2 → Nat :=
  let c1_i32_304 : BitVec 32 := 1#32
  let v546 : BitVec 1 := Scalar.cmpi .eq v545 c1_i32_304
  let c8_i32_305 : BitVec 32 := 8#32
  let c9_i32 : BitVec 32 := 9#32
  let v547 : BitVec 32 := Scalar.select v546 c8_i32_305 c9_i32
  let c64_i32_306 : BitVec 32 := 64#32
  let v548 : BitVec 32 := Scalar.muli v547 c64_i32_306
  let v549 : BitVec 32 := v548
  let v581 : Index := Scalar.indexCast v549
  let c128_331 : Index := 128#32
  ![v581.toNat, 128]
def k0_off41 (v545 : BitVec 32) : Fin 4 → Nat :=
  let c2_333 : Index := 2#32
  let c1_i32_304 : BitVec 32 := 1#32
  let v546 : BitVec 1 := Scalar.cmpi .eq v545 c1_i32_304
  let c5_i32_307 : BitVec 32 := 5#32
  let c4_i32_308 : BitVec 32 := 4#32
  let v550 : BitVec 32 := Scalar.select v546 c5_i32_307 c4_i32_308
  let v585 : Index := Scalar.indexCast v550
  let c0_334 : Index := 0#32
  let c0_335 : Index := 0#32
  ![2, v585.toNat, 0, 0]
def k0_off42 (v545 : BitVec 32) : Fin 4 → Nat :=
  let c3_343 : Index := 3#32
  let c1_i32_304 : BitVec 32 := 1#32
  let v546 : BitVec 1 := Scalar.cmpi .eq v545 c1_i32_304
  let c5_i32_307 : BitVec 32 := 5#32
  let c4_i32_308 : BitVec 32 := 4#32
  let v550 : BitVec 32 := Scalar.select v546 c5_i32_307 c4_i32_308
  let v598 : Index := Scalar.indexCast v550
  let c0_344 : Index := 0#32
  let c0_345 : Index := 0#32
  ![3, v598.toNat, 0, 0]

def k0_chk6 (v545 : BitVec 32) : Prop :=
  (64 ∣ (k0_mult6 v545).toNat) ∧
  (∀ a, (k0_off37 v545) a + S512x128.size a ≤ S1536x256.size a) ∧
  (∀ a, (k0_off38 v545) a + S1x1x64x512.size a ≤ S4x8x64x512.size a) ∧
  (∀ a, (k0_off39 v545) a + S1x1x64x512.size a ≤ S4x8x64x512.size a) ∧
  (∀ a, (k0_off40 v545) a + S512x128.size a ≤ S1536x256.size a) ∧
  (∀ a, (k0_off41 v545) a + S1x1x64x512.size a ≤ S4x8x64x512.size a) ∧
  (∀ a, (k0_off42 v545) a + S1x1x64x512.size a ≤ S4x8x64x512.size a)
theorem k0_mult6_dvd : ∀ (v545 : BitVec 32) (k0_hw6 : k0_chk6 v545), 64 ∣ (k0_mult6 v545).toNat := fun v545 k0_hw6 => k0_hw6.1
theorem k0_off37_inb : ∀ (v545 : BitVec 32) (k0_hw6 : k0_chk6 v545), ∀ a, (k0_off37 v545) a + S512x128.size a ≤ S1536x256.size a := fun v545 k0_hw6 => k0_hw6.2.1
theorem k0_off38_inb : ∀ (v545 : BitVec 32) (k0_hw6 : k0_chk6 v545), ∀ a, (k0_off38 v545) a + S1x1x64x512.size a ≤ S4x8x64x512.size a := fun v545 k0_hw6 => k0_hw6.2.2.1
theorem k0_off39_inb : ∀ (v545 : BitVec 32) (k0_hw6 : k0_chk6 v545), ∀ a, (k0_off39 v545) a + S1x1x64x512.size a ≤ S4x8x64x512.size a := fun v545 k0_hw6 => k0_hw6.2.2.2.1
theorem k0_off40_inb : ∀ (v545 : BitVec 32) (k0_hw6 : k0_chk6 v545), ∀ a, (k0_off40 v545) a + S512x128.size a ≤ S1536x256.size a := fun v545 k0_hw6 => k0_hw6.2.2.2.2.1
theorem k0_off41_inb : ∀ (v545 : BitVec 32) (k0_hw6 : k0_chk6 v545), ∀ a, (k0_off41 v545) a + S1x1x64x512.size a ≤ S4x8x64x512.size a := fun v545 k0_hw6 => k0_hw6.2.2.2.2.2.1
theorem k0_off42_inb : ∀ (v545 : BitVec 32) (k0_hw6 : k0_chk6 v545), ∀ a, (k0_off42 v545) a + S1x1x64x512.size a ≤ S4x8x64x512.size a := fun v545 k0_hw6 => k0_hw6.2.2.2.2.2.2

def k0_off43 (i : grid0.Coords) : Fin 1 → Nat :=
  let arg0 : BitVec 32 := BitVec.ofNat 32 (i 0).val
  let v601 : Index := Scalar.indexCast arg0
  ![v601.toNat]
def k0_mult7 (v602 : BitVec 32) : BitVec 32 :=
  let c1_i32_346 : BitVec 32 := 1#32
  let v603 : BitVec 1 := Scalar.cmpi .eq v602 c1_i32_346
  let c8_i32_347 : BitVec 32 := 8#32
  let c10_i32 : BitVec 32 := 10#32
  let v604 : BitVec 32 := Scalar.select v603 c8_i32_347 c10_i32
  let c64_i32_348 : BitVec 32 := 64#32
  let v605 : BitVec 32 := Scalar.muli v604 c64_i32_348
  v605

def k0_off44 (v602 : BitVec 32) : Fin 2 → Nat :=
  let c1_i32_346 : BitVec 32 := 1#32
  let v603 : BitVec 1 := Scalar.cmpi .eq v602 c1_i32_346
  let c8_i32_347 : BitVec 32 := 8#32
  let c10_i32 : BitVec 32 := 10#32
  let v604 : BitVec 32 := Scalar.select v603 c8_i32_347 c10_i32
  let c64_i32_348 : BitVec 32 := 64#32
  let v605 : BitVec 32 := Scalar.muli v604 c64_i32_348
  let v606 : BitVec 32 := v605
  let v613 : Index := Scalar.indexCast v606
  let c0_354 : Index := 0#32
  ![v613.toNat, 0]
def k0_off45 (v602 : BitVec 32) : Fin 4 → Nat :=
  let c0_356 : Index := 0#32
  let c1_i32_346 : BitVec 32 := 1#32
  let v603 : BitVec 1 := Scalar.cmpi .eq v602 c1_i32_346
  let c6_i32_349 : BitVec 32 := 6#32
  let c4_i32_350 : BitVec 32 := 4#32
  let v607 : BitVec 32 := Scalar.select v603 c6_i32_349 c4_i32_350
  let v617 : Index := Scalar.indexCast v607
  let c0_357 : Index := 0#32
  let c0_358 : Index := 0#32
  ![0, v617.toNat, 0, 0]
def k0_off46 (v602 : BitVec 32) : Fin 4 → Nat :=
  let c1_366 : Index := 1#32
  let c1_i32_346 : BitVec 32 := 1#32
  let v603 : BitVec 1 := Scalar.cmpi .eq v602 c1_i32_346
  let c6_i32_349 : BitVec 32 := 6#32
  let c4_i32_350 : BitVec 32 := 4#32
  let v607 : BitVec 32 := Scalar.select v603 c6_i32_349 c4_i32_350
  let v630 : Index := Scalar.indexCast v607
  let c0_367 : Index := 0#32
  let c0_368 : Index := 0#32
  ![1, v630.toNat, 0, 0]
def k0_off47 (v602 : BitVec 32) : Fin 2 → Nat :=
  let c1_i32_346 : BitVec 32 := 1#32
  let v603 : BitVec 1 := Scalar.cmpi .eq v602 c1_i32_346
  let c8_i32_347 : BitVec 32 := 8#32
  let c10_i32 : BitVec 32 := 10#32
  let v604 : BitVec 32 := Scalar.select v603 c8_i32_347 c10_i32
  let c64_i32_348 : BitVec 32 := 64#32
  let v605 : BitVec 32 := Scalar.muli v604 c64_i32_348
  let v606 : BitVec 32 := v605
  let v638 : Index := Scalar.indexCast v606
  let c128_373 : Index := 128#32
  ![v638.toNat, 128]
def k0_off48 (v602 : BitVec 32) : Fin 4 → Nat :=
  let c2_375 : Index := 2#32
  let c1_i32_346 : BitVec 32 := 1#32
  let v603 : BitVec 1 := Scalar.cmpi .eq v602 c1_i32_346
  let c6_i32_349 : BitVec 32 := 6#32
  let c4_i32_350 : BitVec 32 := 4#32
  let v607 : BitVec 32 := Scalar.select v603 c6_i32_349 c4_i32_350
  let v642 : Index := Scalar.indexCast v607
  let c0_376 : Index := 0#32
  let c0_377 : Index := 0#32
  ![2, v642.toNat, 0, 0]
def k0_off49 (v602 : BitVec 32) : Fin 4 → Nat :=
  let c3_385 : Index := 3#32
  let c1_i32_346 : BitVec 32 := 1#32
  let v603 : BitVec 1 := Scalar.cmpi .eq v602 c1_i32_346
  let c6_i32_349 : BitVec 32 := 6#32
  let c4_i32_350 : BitVec 32 := 4#32
  let v607 : BitVec 32 := Scalar.select v603 c6_i32_349 c4_i32_350
  let v655 : Index := Scalar.indexCast v607
  let c0_386 : Index := 0#32
  let c0_387 : Index := 0#32
  ![3, v655.toNat, 0, 0]

def k0_chk7 (v602 : BitVec 32) : Prop :=
  (64 ∣ (k0_mult7 v602).toNat) ∧
  (∀ a, (k0_off44 v602) a + S512x128.size a ≤ S1536x256.size a) ∧
  (∀ a, (k0_off45 v602) a + S1x1x64x512.size a ≤ S4x8x64x512.size a) ∧
  (∀ a, (k0_off46 v602) a + S1x1x64x512.size a ≤ S4x8x64x512.size a) ∧
  (∀ a, (k0_off47 v602) a + S512x128.size a ≤ S1536x256.size a) ∧
  (∀ a, (k0_off48 v602) a + S1x1x64x512.size a ≤ S4x8x64x512.size a) ∧
  (∀ a, (k0_off49 v602) a + S1x1x64x512.size a ≤ S4x8x64x512.size a)
theorem k0_mult7_dvd : ∀ (v602 : BitVec 32) (k0_hw7 : k0_chk7 v602), 64 ∣ (k0_mult7 v602).toNat := fun v602 k0_hw7 => k0_hw7.1
theorem k0_off44_inb : ∀ (v602 : BitVec 32) (k0_hw7 : k0_chk7 v602), ∀ a, (k0_off44 v602) a + S512x128.size a ≤ S1536x256.size a := fun v602 k0_hw7 => k0_hw7.2.1
theorem k0_off45_inb : ∀ (v602 : BitVec 32) (k0_hw7 : k0_chk7 v602), ∀ a, (k0_off45 v602) a + S1x1x64x512.size a ≤ S4x8x64x512.size a := fun v602 k0_hw7 => k0_hw7.2.2.1
theorem k0_off46_inb : ∀ (v602 : BitVec 32) (k0_hw7 : k0_chk7 v602), ∀ a, (k0_off46 v602) a + S1x1x64x512.size a ≤ S4x8x64x512.size a := fun v602 k0_hw7 => k0_hw7.2.2.2.1
theorem k0_off47_inb : ∀ (v602 : BitVec 32) (k0_hw7 : k0_chk7 v602), ∀ a, (k0_off47 v602) a + S512x128.size a ≤ S1536x256.size a := fun v602 k0_hw7 => k0_hw7.2.2.2.2.1
theorem k0_off48_inb : ∀ (v602 : BitVec 32) (k0_hw7 : k0_chk7 v602), ∀ a, (k0_off48 v602) a + S1x1x64x512.size a ≤ S4x8x64x512.size a := fun v602 k0_hw7 => k0_hw7.2.2.2.2.2.1
theorem k0_off49_inb : ∀ (v602 : BitVec 32) (k0_hw7 : k0_chk7 v602), ∀ a, (k0_off49 v602) a + S1x1x64x512.size a ≤ S4x8x64x512.size a := fun v602 k0_hw7 => k0_hw7.2.2.2.2.2.2

def k0_off50 (i : grid0.Coords) : Fin 1 → Nat :=
  let arg0 : BitVec 32 := BitVec.ofNat 32 (i 0).val
  let v658 : Index := Scalar.indexCast arg0
  ![v658.toNat]
def k0_mult8 (v659 : BitVec 32) : BitVec 32 :=
  let c1_i32_388 : BitVec 32 := 1#32
  let v660 : BitVec 1 := Scalar.cmpi .eq v659 c1_i32_388
  let c8_i32_389 : BitVec 32 := 8#32
  let c11_i32 : BitVec 32 := 11#32
  let v661 : BitVec 32 := Scalar.select v660 c8_i32_389 c11_i32
  let c64_i32_390 : BitVec 32 := 64#32
  let v662 : BitVec 32 := Scalar.muli v661 c64_i32_390
  v662

def k0_off51 (v659 : BitVec 32) : Fin 2 → Nat :=
  let c1_i32_388 : BitVec 32 := 1#32
  let v660 : BitVec 1 := Scalar.cmpi .eq v659 c1_i32_388
  let c8_i32_389 : BitVec 32 := 8#32
  let c11_i32 : BitVec 32 := 11#32
  let v661 : BitVec 32 := Scalar.select v660 c8_i32_389 c11_i32
  let c64_i32_390 : BitVec 32 := 64#32
  let v662 : BitVec 32 := Scalar.muli v661 c64_i32_390
  let v663 : BitVec 32 := v662
  let v670 : Index := Scalar.indexCast v663
  let c0_396 : Index := 0#32
  ![v670.toNat, 0]
def k0_off52 (v659 : BitVec 32) : Fin 4 → Nat :=
  let c0_398 : Index := 0#32
  let c1_i32_388 : BitVec 32 := 1#32
  let v660 : BitVec 1 := Scalar.cmpi .eq v659 c1_i32_388
  let c7_i32_391 : BitVec 32 := 7#32
  let c4_i32_392 : BitVec 32 := 4#32
  let v664 : BitVec 32 := Scalar.select v660 c7_i32_391 c4_i32_392
  let v674 : Index := Scalar.indexCast v664
  let c0_399 : Index := 0#32
  let c0_400 : Index := 0#32
  ![0, v674.toNat, 0, 0]
def k0_off53 (v659 : BitVec 32) : Fin 4 → Nat :=
  let c1_408 : Index := 1#32
  let c1_i32_388 : BitVec 32 := 1#32
  let v660 : BitVec 1 := Scalar.cmpi .eq v659 c1_i32_388
  let c7_i32_391 : BitVec 32 := 7#32
  let c4_i32_392 : BitVec 32 := 4#32
  let v664 : BitVec 32 := Scalar.select v660 c7_i32_391 c4_i32_392
  let v687 : Index := Scalar.indexCast v664
  let c0_409 : Index := 0#32
  let c0_410 : Index := 0#32
  ![1, v687.toNat, 0, 0]
def k0_off54 (v659 : BitVec 32) : Fin 2 → Nat :=
  let c1_i32_388 : BitVec 32 := 1#32
  let v660 : BitVec 1 := Scalar.cmpi .eq v659 c1_i32_388
  let c8_i32_389 : BitVec 32 := 8#32
  let c11_i32 : BitVec 32 := 11#32
  let v661 : BitVec 32 := Scalar.select v660 c8_i32_389 c11_i32
  let c64_i32_390 : BitVec 32 := 64#32
  let v662 : BitVec 32 := Scalar.muli v661 c64_i32_390
  let v663 : BitVec 32 := v662
  let v695 : Index := Scalar.indexCast v663
  let c128_415 : Index := 128#32
  ![v695.toNat, 128]
def k0_off55 (v659 : BitVec 32) : Fin 4 → Nat :=
  let c2_417 : Index := 2#32
  let c1_i32_388 : BitVec 32 := 1#32
  let v660 : BitVec 1 := Scalar.cmpi .eq v659 c1_i32_388
  let c7_i32_391 : BitVec 32 := 7#32
  let c4_i32_392 : BitVec 32 := 4#32
  let v664 : BitVec 32 := Scalar.select v660 c7_i32_391 c4_i32_392
  let v699 : Index := Scalar.indexCast v664
  let c0_418 : Index := 0#32
  let c0_419 : Index := 0#32
  ![2, v699.toNat, 0, 0]
def k0_off56 (v659 : BitVec 32) : Fin 4 → Nat :=
  let c3_427 : Index := 3#32
  let c1_i32_388 : BitVec 32 := 1#32
  let v660 : BitVec 1 := Scalar.cmpi .eq v659 c1_i32_388
  let c7_i32_391 : BitVec 32 := 7#32
  let c4_i32_392 : BitVec 32 := 4#32
  let v664 : BitVec 32 := Scalar.select v660 c7_i32_391 c4_i32_392
  let v712 : Index := Scalar.indexCast v664
  let c0_428 : Index := 0#32
  let c0_429 : Index := 0#32
  ![3, v712.toNat, 0, 0]

def k0_chk8 (v659 : BitVec 32) : Prop :=
  (64 ∣ (k0_mult8 v659).toNat) ∧
  (∀ a, (k0_off51 v659) a + S512x128.size a ≤ S1536x256.size a) ∧
  (∀ a, (k0_off52 v659) a + S1x1x64x512.size a ≤ S4x8x64x512.size a) ∧
  (∀ a, (k0_off53 v659) a + S1x1x64x512.size a ≤ S4x8x64x512.size a) ∧
  (∀ a, (k0_off54 v659) a + S512x128.size a ≤ S1536x256.size a) ∧
  (∀ a, (k0_off55 v659) a + S1x1x64x512.size a ≤ S4x8x64x512.size a) ∧
  (∀ a, (k0_off56 v659) a + S1x1x64x512.size a ≤ S4x8x64x512.size a)
theorem k0_mult8_dvd : ∀ (v659 : BitVec 32) (k0_hw8 : k0_chk8 v659), 64 ∣ (k0_mult8 v659).toNat := fun v659 k0_hw8 => k0_hw8.1
theorem k0_off51_inb : ∀ (v659 : BitVec 32) (k0_hw8 : k0_chk8 v659), ∀ a, (k0_off51 v659) a + S512x128.size a ≤ S1536x256.size a := fun v659 k0_hw8 => k0_hw8.2.1
theorem k0_off52_inb : ∀ (v659 : BitVec 32) (k0_hw8 : k0_chk8 v659), ∀ a, (k0_off52 v659) a + S1x1x64x512.size a ≤ S4x8x64x512.size a := fun v659 k0_hw8 => k0_hw8.2.2.1
theorem k0_off53_inb : ∀ (v659 : BitVec 32) (k0_hw8 : k0_chk8 v659), ∀ a, (k0_off53 v659) a + S1x1x64x512.size a ≤ S4x8x64x512.size a := fun v659 k0_hw8 => k0_hw8.2.2.2.1
theorem k0_off54_inb : ∀ (v659 : BitVec 32) (k0_hw8 : k0_chk8 v659), ∀ a, (k0_off54 v659) a + S512x128.size a ≤ S1536x256.size a := fun v659 k0_hw8 => k0_hw8.2.2.2.2.1
theorem k0_off55_inb : ∀ (v659 : BitVec 32) (k0_hw8 : k0_chk8 v659), ∀ a, (k0_off55 v659) a + S1x1x64x512.size a ≤ S4x8x64x512.size a := fun v659 k0_hw8 => k0_hw8.2.2.2.2.2.1
theorem k0_off56_inb : ∀ (v659 : BitVec 32) (k0_hw8 : k0_chk8 v659), ∀ a, (k0_off56 v659) a + S1x1x64x512.size a ≤ S4x8x64x512.size a := fun v659 k0_hw8 => k0_hw8.2.2.2.2.2.2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S128) ![v0.toNat] S1.size (k0_off1_inb i)) numel1_S1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S128) ![v0.toNat] S1.size (k0_off1_inb i)) numel1_S1
  let c1_i32 : BitVec 32 := 1#32
  let c0_i32 : BitVec 32 := 0#32
  ![v1.toNat, c1_i32.toNat]

def cc0_transform_4 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 2 (Rect.unit (s := S128) ![v0.toNat] S1.size (k0_off1_inb i)) numel1_S1
  let c2_i32 : BitVec 32 := 2#32
  let c0_i32 : BitVec 32 := 0#32
  ![v1.toNat, c2_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 3 (Rect.unit (s := S128) ![v0.toNat] S1.size (k0_off1_inb i)) numel1_S1
  let c2_i32 : BitVec 32 := 2#32
  let c0_i32 : BitVec 32 := 0#32
  ![v1.toNat, c2_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x8x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S65536x768 : Shape := ⟨2, ![65536, 768]⟩
abbrev S4x15x31 : Shape := ⟨3, ![4, 15, 31]⟩
abbrev S65536x256 : Shape := ⟨2, ![65536, 256]⟩
abbrev S65536x4x64 : Shape := ⟨3, ![65536, 4, 64]⟩
abbrev S1024 : Shape := ⟨1, ![1024]⟩
abbrev S_ : Shape := ⟨0, ![]⟩
abbrev S64 : Shape := ⟨1, ![64]⟩
abbrev S1024x1 : Shape := ⟨2, ![1024, 1]⟩
abbrev S8 : Shape := ⟨1, ![8]⟩
abbrev S1x8 : Shape := ⟨2, ![1, 8]⟩
abbrev S1024x8 : Shape := ⟨2, ![1024, 8]⟩
abbrev S64x1 : Shape := ⟨2, ![64, 1]⟩
abbrev S16 : Shape := ⟨1, ![16]⟩
abbrev S1x16 : Shape := ⟨2, ![1, 16]⟩
abbrev S64x16 : Shape := ⟨2, ![64, 16]⟩
abbrev S1024x1x8x1 : Shape := ⟨4, ![1024, 1, 8, 1]⟩
abbrev S1024x64x8x16 : Shape := ⟨4, ![1024, 64, 8, 16]⟩
abbrev S65536x128 : Shape := ⟨2, ![65536, 128]⟩
abbrev S1x64x1x16 : Shape := ⟨4, ![1, 64, 1, 16]⟩
abbrev S65536x128x1 : Shape := ⟨3, ![65536, 128, 1]⟩
abbrev S65536x128x4x64 : Shape := ⟨4, ![65536, 128, 4, 64]⟩
abbrev S4x65536x128 : Shape := ⟨3, ![4, 65536, 128]⟩
abbrev S65536x128x2 : Shape := ⟨3, ![65536, 128, 2]⟩
abbrev S4x65536 : Shape := ⟨2, ![4, 65536]⟩
abbrev S4x65536x1 : Shape := ⟨3, ![4, 65536, 1]⟩

abbrev nBuf : Space → Nat
  | .hbm => 149
  | .vmem => 0
  | .smem => 0
  | _ => 0

abbrev hbmTy0_0 (i : Nat) : BufTy := match i % 128 with
  | 0 => ⟨S65536x768, .bf16⟩
  | 1 => ⟨S4x15x31, .f32⟩
  | 2 => ⟨S65536x768, .f32⟩
  | 3 => ⟨S65536x256, .f32⟩
  | 4 => ⟨S65536x256, .f32⟩
  | 5 => ⟨S65536x256, .f32⟩
  | 6 => ⟨S65536x4x64, .f32⟩
  | 7 => ⟨S65536x4x64, .f32⟩
  | 8 => ⟨S65536x4x64, .f32⟩
  | 9 => ⟨S1024, .i32⟩
  | 10 => ⟨S_, .i32⟩
  | 11 => ⟨S1024, .i32⟩
  | 12 => ⟨S1024, .i1⟩
  | 13 => ⟨S_, .i32⟩
  | 14 => ⟨S_, .i32⟩
  | 15 => ⟨S1024, .i32⟩
  | 16 => ⟨S1024, .i32⟩
  | 17 => ⟨S1024, .i32⟩
  | 18 => ⟨S1024, .i32⟩
  | 19 => ⟨S1024, .i32⟩
  | 20 => ⟨S_, .i32⟩
  | 21 => ⟨S1024, .i32⟩
  | 22 => ⟨S1024, .i32⟩
  | 23 => ⟨S_, .i32⟩
  | 24 => ⟨S1024, .i32⟩
  | 25 => ⟨S1024, .i32⟩
  | 26 => ⟨S_, .i32⟩
  | 27 => ⟨S_, .i32⟩
  | 28 => ⟨S1024, .i32⟩
  | 29 => ⟨S1024, .i32⟩
  | 30 => ⟨S1024, .i32⟩
  | 31 => ⟨S1024, .i32⟩
  | 32 => ⟨S1024, .i32⟩
  | 33 => ⟨S64, .i32⟩
  | 34 => ⟨S_, .i32⟩
  | 35 => ⟨S64, .i32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S1024x1, .i32⟩
  | 46 => ⟨S8, .i32⟩
  | 47 => ⟨S1x8, .i32⟩
  | 48 => ⟨S1024x8, .i32⟩
  | 49 => ⟨S1024x8, .i32⟩
  | 50 => ⟨S1024x8, .i32⟩
  | 51 => ⟨S64x1, .i32⟩
  | 52 => ⟨S16, .i32⟩
  | 53 => ⟨S1x16, .i32⟩
  | 54 => ⟨S64x16, .i32⟩
  | 55 => ⟨S64x16, .i32⟩
  | 56 => ⟨S64x16, .i32⟩
  | 57 => ⟨S1024x1x8x1, .i32⟩
  | 58 => ⟨S1024x64x8x16, .i32⟩
  | 59 => ⟨S65536x128, .i32⟩
  | 60 => ⟨S1x64x1x16, .i32⟩
  | 61 => ⟨S1024x64x8x16, .i32⟩
  | 62 => ⟨S65536x128, .i32⟩
  | 63 => ⟨S1024x1, .i32⟩
  | 64 => ⟨S1024x8, .i32⟩
  | 65 => ⟨S1024x8, .i32⟩
  | 66 => ⟨S_, .i32⟩
  | 67 => ⟨S1024x8, .i32⟩
  | 68 => ⟨S1024x8, .i32⟩
  | 69 => ⟨S_, .i32⟩
  | 70 => ⟨S1024x8, .i32⟩
  | 71 => ⟨S1024x8, .i32⟩
  | 72 => ⟨S64x1, .i32⟩
  | 73 => ⟨S64x16, .i32⟩
  | 74 => ⟨S64x16, .i32⟩
  | 75 => ⟨S_, .i32⟩
  | 76 => ⟨S64x16, .i32⟩
  | 77 => ⟨S64x16, .i32⟩
  | 78 => ⟨S_, .i32⟩
  | 79 => ⟨S64x16, .i32⟩
  | 80 => ⟨S64x16, .i32⟩
  | 81 => ⟨S1024x1x8x1, .i32⟩
  | 82 => ⟨S1024x64x8x16, .i32⟩
  | 83 => ⟨S65536x128, .i32⟩
  | 84 => ⟨S1x64x1x16, .i32⟩
  | 85 => ⟨S1024x64x8x16, .i32⟩
  | 86 => ⟨S65536x128, .i32⟩
  | 87 => ⟨S_, .i32⟩
  | 88 => ⟨S65536x128, .i32⟩
  | 89 => ⟨S65536x128, .i32⟩
  | 90 => ⟨S65536x128, .i32⟩
  | 91 => ⟨S_, .i32⟩
  | 92 => ⟨S65536x128, .i32⟩
  | 93 => ⟨S65536x128, .i1⟩
  | 94 => ⟨S_, .i32⟩
  | 95 => ⟨S65536x128, .i32⟩
  | 96 => ⟨S65536x128, .i32⟩
  | 97 => ⟨S65536x128, .i32⟩
  | 98 => ⟨S65536x128x1, .i32⟩
  | 99 => ⟨S65536x128x4x64, .f32⟩
  | 100 => ⟨S4x65536x128, .f32⟩
  | 101 => ⟨S_, .f32⟩
  | 102 => ⟨S4x65536x128, .f32⟩
  | 103 => ⟨S4x65536x128, .f32⟩
  | 104 => ⟨S_, .i32⟩
  | 105 => ⟨S65536x128, .i32⟩
  | 106 => ⟨S65536x128, .i1⟩
  | 107 => ⟨S_, .i32⟩
  | 108 => ⟨S65536x128, .i32⟩
  | 109 => ⟨S65536x128, .i32⟩
  | 110 => ⟨S65536x128, .i32⟩
  | 111 => ⟨S_, .i32⟩
  | 112 => ⟨S65536x128, .i32⟩
  | 113 => ⟨S65536x128, .i1⟩
  | 114 => ⟨S_, .i32⟩
  | 115 => ⟨S65536x128, .i32⟩
  | 116 => ⟨S65536x128, .i32⟩
  | 117 => ⟨S65536x128, .i32⟩
  | 118 => ⟨S65536x128x1, .i32⟩
  | 119 => ⟨S65536x128x1, .i32⟩
  | 120 => ⟨S65536x128x2, .i32⟩
  | 121 => ⟨S4x65536x128, .f32⟩
  | 122 => ⟨S4x65536x128, .f32⟩
  | 123 => ⟨S_, .f32⟩
  | 124 => ⟨S4x65536, .f32⟩
  | 125 => ⟨S_, .f32⟩
  | 126 => ⟨S4x65536, .f32⟩
  | 127 => ⟨S4x65536, .f32⟩
  | _ => ⟨S65536x768, .bf16⟩

abbrev hbmTy0_1 (i : Nat) : BufTy := match i % 128 with
  | 0 => ⟨S4x65536x1, .f32⟩
  | 1 => ⟨S4x65536x128, .f32⟩
  | 2 => ⟨S4x65536x128, .f32⟩
  | 3 => ⟨S4x65536x128, .f32⟩
  | 4 => ⟨S_, .f32⟩
  | 5 => ⟨S4x65536, .f32⟩
  | 6 => ⟨S4x65536x1, .f32⟩
  | 7 => ⟨S4x65536x128, .f32⟩
  | 8 => ⟨S4x65536x128, .f32⟩
  | 9 => ⟨S_, .i32⟩
  | 10 => ⟨S65536x128, .i32⟩
  | 11 => ⟨S65536x128, .i1⟩
  | 12 => ⟨S_, .i32⟩
  | 13 => ⟨S65536x128, .i32⟩
  | 14 => ⟨S65536x128, .i32⟩
  | 15 => ⟨S65536x128, .i32⟩
  | 16 => ⟨S65536x128x1, .i32⟩
  | 17 => ⟨S65536x128x4x64, .f32⟩
  | 18 => ⟨S65536x4x64, .f32⟩
  | 19 => ⟨S65536x256, .f32⟩
  | 20 => ⟨S65536x256, .bf16⟩
  | _ => ⟨S65536x768, .bf16⟩

abbrev hbmTy (i : Nat) : BufTy := match i / 128 with
  | 0 => hbmTy0_0 i
  | 1 => hbmTy0_1 i
  | _ => ⟨S65536x768, .bf16⟩

abbrev bufTy : (tb : Table) → Fin (tcTables nBuf tb) → BufTy
  | .hbm, ⟨i, _⟩ => hbmTy i
  | _, _ => ⟨S65536x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_5 : Ref sig .tc := ⟨.hbm, 34, rfl⟩
abbrev main_v20 : Ref sig .tc := ⟨.hbm, 35, rfl⟩
abbrev main_v21 : Ref sig .tc := ⟨.hbm, 36, rfl⟩
abbrev main_c_6 : Ref sig .tc := ⟨.hbm, 37, rfl⟩
abbrev main_c_7 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_cst_20 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_21 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_22 : Ref sig .tc := ⟨.hbm, 137, rfl⟩
abbrev main_v100 : Ref sig .tc := ⟨.hbm, 138, rfl⟩
abbrev main_v101 : Ref sig .tc := ⟨.hbm, 139, rfl⟩
abbrev main_c_23 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1024x1024 : Shape := ⟨2, ![1024, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 10
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  ![v2.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩

abbrev nBuf : Space → Nat
  | .hbm => 39
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S32768x1024 : Shape := ⟨2, ![32768, 1024]⟩
abbrev S1024x1024 : Shape := ⟨2, ![1024, 1024]⟩
abbrev S1024x2816 : Shape := ⟨2, ![1024, 2816]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x2816 : Shape := ⟨2, ![512, 2816]⟩

abbrev nBuf : Space → Nat
  | .hbm => 11
  | .vmem => 11
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S32768x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x2816, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v246 : BitVec 1 := Scalar.cmpi .sge arg0 c0_i32
  let c32_i32 : BitVec 32 := 32#32
  let v247 : BitVec 1 := Scalar.cmpi .slt arg0 c32_i32
  let v248 : BitVec 1 := Scalar.andi v246 v247
  let v249 : BitVec 32 := Scalar.extui v248
  let c0_i32_116 : BitVec 32 := 0#32
  let v250 : BitVec 1 := Scalar.cmpi .ne v249 c0_i32_116
  v250

def k0_cond3 (i : grid0.Coords) : BitVec 1 :=
  let arg0 : BitVec 32 := BitVec.ofNat 32 (i 0).val
  let c0_i32_258 : BitVec 32 := 0#32
  let v502 : BitVec 1 := Scalar.cmpi .sge arg0 c0_i32_258
  let c32_i32_259 : BitVec 32 := 32#32
  let v503 : BitVec 1 := Scalar.cmpi .slt arg0 c32_i32_259
  let v504 : BitVec 1 := Scalar.andi v502 v503
  let v505 : BitVec 32 := Scalar.extui v504
  let c0_i32_260 : BitVec 32 := 0#32
  let v506 : BitVec 1 := Scalar.cmpi .ne v505 c0_i32_260
  v506

def k0_cond2 (i : grid0.Coords) : BitVec 1 :=
  let arg0 : BitVec 32 := BitVec.ofNat 32 (i 0).val
  let c32_i32_117 : BitVec 32 := 32#32
  let v251 : BitVec 1 := Scalar.cmpi .sge arg0 c32_i32_117
  let c64_i32 : BitVec 32 := 64#32
  let v252 : BitVec 1 := Scalar.cmpi .slt arg0 c64_i32
  let v253 : BitVec 1 := Scalar.andi v251 v252
  let v254 : BitVec 32 := Scalar.extui v253
  let c0_i32_118 : BitVec 32 := 0#32
  let v255 : BitVec 1 := Scalar.cmpi .ne v254 c0_i32_118
  v255

def k0_cond4 (i : grid0.Coords) : BitVec 1 :=
  let arg0 : BitVec 32 := BitVec.ofNat 32 (i 0).val
  let c32_i32_261 : BitVec 32 := 32#32
  let v507 : BitVec 1 := Scalar.cmpi .sge arg0 c32_i32_261
  let c64_i32_262 : BitVec 32 := 64#32
  let v508 : BitVec 1 := Scalar.cmpi .slt arg0 c64_i32_262
  let v509 : BitVec 1 := Scalar.andi v507 v508
  let v510 : BitVec 32 := Scalar.extui v509
  let c0_i32_263 : BitVec 32 := 0#32
  let v511 : BitVec 1 := Scalar.cmpi .ne v510 c0_i32_263
  v511

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c63_i32 : BitVec 32 := 63#32
  let v1 : BitVec 32 := Scalar.maxsi c0_i32_0 v0
  let v2 : BitVec 32 := Scalar.minsi c63_i32 v1
  let c0_i32_1 : BitVec 32 := 0#32
  let c0_i32_2 : BitVec 32 := 0#32
  ![v2.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c0_i32_1 : BitVec 32 := 0#32
  let c0_i32_2 : BitVec 32 := 0#32
  ![v2.toNat, c0_i32_1.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S65536x1024 : Shape := ⟨2, ![65536, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x5632 : Shape := ⟨2, ![65536, 5632]⟩
abbrev S65536x2816 : Shape := ⟨2, ![65536, 2816]⟩
abbrev S32768x1024 : Shape := ⟨2, ![32768, 1024]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x5632, .f32⟩
  | .hbm, ⟨22, _⟩ => ⟨S65536x2816, .f32⟩
  | .hbm, ⟨23, _⟩ => ⟨S65536x2816, .f32⟩
  | .hbm, ⟨24, _⟩ => ⟨S65536x2816, .f32⟩
  | .hbm, ⟨25, _⟩ => ⟨S65536x2816, .f32⟩
  | .hbm, ⟨26, _⟩ => ⟨S_, .f32⟩
  | .hbm, ⟨27, _⟩ => ⟨S65536x2816, .f32⟩
  | .hbm, ⟨28, _⟩ => ⟨S65536x2816, .f32⟩
  | .hbm, ⟨29, _⟩ => ⟨S_, .f32⟩
  | .hbm, ⟨30, _⟩ => ⟨S65536x2816, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x1024, .f32⟩
  | .hbm, ⟨35, _⟩ => ⟨S_, .f32⟩
  | .hbm, ⟨36, _⟩ => ⟨S65536x1024, .f32⟩
  | .hbm, ⟨37, _⟩ => ⟨S65536x1024, .f32⟩
  | .hbm, ⟨38, _⟩ => ⟨S65536x1024, .f32⟩
  | .hbm, ⟨39, _⟩ => ⟨S65536x1024, .f32⟩
  | .hbm, ⟨40, _⟩ => ⟨S_, .f32⟩
  | .hbm, ⟨41, _⟩ => ⟨S65536, .f32⟩
  | .hbm, ⟨42, _⟩ => ⟨S65536x1, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1, .f32⟩
  | .hbm, ⟨50, _⟩ => ⟨S65536x1024, .f32⟩
  | .hbm, ⟨51, _⟩ => ⟨S65536x1024, .f32⟩
  | .hbm, ⟨52, _⟩ => ⟨S1x1024, .f32⟩
  | .hbm, ⟨53, _⟩ => ⟨S65536x1024, .f32⟩
  | .hbm, ⟨54, _⟩ => ⟨S65536x1024, .f32⟩
  | .hbm, ⟨55, _⟩ => ⟨S32768x1024, .f32⟩
  | .hbm, ⟨56, _⟩ => ⟨S32768x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x3888 : Shape := ⟨2, ![1024, 3888]⟩
abbrev S5x1152 : Shape := ⟨2, ![5, 1152]⟩
abbrev S128 : Shape := ⟨1, ![128]⟩
abbrev S1024x2304 : Shape := ⟨2, ![1024, 2304]⟩
abbrev S1024x1536 : Shape := ⟨2, ![1024, 1536]⟩
abbrev S1024x24 : Shape := ⟨2, ![1024, 24]⟩
abbrev S_ : Shape := ⟨0, ![]⟩
abbrev S1024x80 : Shape := ⟨2, ![1024, 80]⟩
abbrev S1024x3968 : Shape := ⟨2, ![1024, 3968]⟩
abbrev S3x1152 : Shape := ⟨2, ![3, 1152]⟩
abbrev S8x1152 : Shape := ⟨2, ![8, 1152]⟩
abbrev S1x1024 : Shape := ⟨2, ![1, 1024]⟩
abbrev S65536x768 : Shape := ⟨2, ![65536, 768]⟩
abbrev S65536x1152 : Shape := ⟨2, ![65536, 1152]⟩
abbrev S65536x384 : Shape := ⟨2, ![65536, 384]⟩
abbrev S65536x128 : Shape := ⟨2, ![65536, 128]⟩
abbrev S512x1024 : Shape := ⟨2, ![512, 1024]⟩
abbrev S16x1024 : Shape := ⟨2, ![16, 1024]⟩
abbrev S512x768 : Shape := ⟨2, ![512, 768]⟩
abbrev S512x1152 : Shape := ⟨2, ![512, 1152]⟩
abbrev S512x384 : Shape := ⟨2, ![512, 384]⟩
abbrev S512x128 : Shape := ⟨2, ![512, 128]⟩
abbrev S1 : Shape := ⟨1, ![1]⟩
abbrev S544x1024 : Shape := ⟨2, ![544, 1024]⟩
abbrev S544 : Shape := ⟨1, ![544]⟩
abbrev S544x1 : Shape := ⟨2, ![544, 1]⟩
abbrev S544x1536 : Shape := ⟨2, ![544, 1536]⟩
abbrev S544x1152 : Shape := ⟨2, ![544, 1152]⟩
abbrev S544x384 : Shape := ⟨2, ![544, 384]⟩
abbrev S1024x768 : Shape := ⟨2, ![1024, 768]⟩
abbrev S512x1536 : Shape := ⟨2, ![512, 1536]⟩
abbrev S1024x128 : Shape := ⟨2, ![1024, 128]⟩
abbrev S1x1152 : Shape := ⟨2, ![1, 1152]⟩
abbrev S128x128 : Shape := ⟨2, ![128, 128]⟩

abbrev nBuf : Space → Nat
  | .hbm => 22
  | .vmem => 21
  | .smem => 2
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3888, .f32⟩
  | .hbm, ⟨3, _⟩ => ⟨S5x1152, .f32⟩
  | .hbm, ⟨4, _⟩ => ⟨S1024x2304, .f32⟩
  | .hbm, ⟨5, _⟩ => ⟨S1024x1536, .f32⟩
  | .hbm, ⟨6, _⟩ => ⟨S1024x24, .f32⟩
  | .hbm, ⟨7, _⟩ => ⟨S1024x24, .f32⟩
  | .hbm, ⟨8, _⟩ => ⟨S_, .f32⟩
  | .hbm, ⟨9, _⟩ => ⟨S1024x80, .f32⟩
  | .hbm, ⟨10, _⟩ => ⟨S1024x3968, .f32⟩
  | .hbm, ⟨11, _⟩ => ⟨S1024x3968, .bf16⟩
  | .hbm, ⟨12, _⟩ => ⟨S_, .f32⟩
  | .hbm, ⟨13, _⟩ => ⟨S3x1152, .f32⟩
  | .hbm, ⟨14, _⟩ => ⟨S8x1152, .f32⟩
  | .hbm, ⟨15, _⟩ => ⟨S1x1024, .f32⟩
  | .hbm, ⟨16, _⟩ => ⟨S65536x768, .bf16⟩
  | .hbm, ⟨17, _⟩ => ⟨S65536x1152, .f32⟩
  | .hbm, ⟨18, _⟩ => ⟨S65536x384, .bf16⟩
  | .hbm, ⟨19, _⟩ => ⟨S65536x1152, .f32⟩
  | .hbm, ⟨20, _⟩ => ⟨S65536x384, .bf16⟩
  | .hbm, ⟨21, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S1x1024, .f32⟩
  | .local _ .vmem, ⟨7, _⟩ => ⟨S1024x3968, .bf16⟩
  | .local _ .vmem, ⟨8, _⟩ => ⟨S8x1152, .f32⟩
  | .local _ .vmem, ⟨9, _⟩ => ⟨S512x768, .bf16⟩
  | .local _ .vmem, ⟨10, _⟩ => ⟨S512x768, .bf16⟩
  | .local _ .vmem, ⟨11, _⟩ => ⟨S512x1152, .f32⟩
  | .local _ .vmem, ⟨12, _⟩ => ⟨S512x1152, .f32⟩
  | .local _ .vmem, ⟨13, _⟩ => ⟨S512x384, .bf16⟩
  | .local _ .vmem, ⟨14, _⟩ => ⟨S512x384, .bf16⟩
  | .local _ .vmem, ⟨15, _⟩ => ⟨S512x1152, .f32⟩
  | .local _ .vmem, ⟨16, _⟩ => ⟨S512x1152, .f32⟩
  | .local _ .vmem, ⟨17, _⟩ => ⟨S512x384, .bf16⟩
  | .local _ .vmem, ⟨18, _⟩ => ⟨S512x384, .bf16⟩
  | .local _ .vmem, ⟨19, _⟩ => ⟨S512x128, .f32⟩
  | .local _ .vmem, ⟨20, _⟩ => ⟨S512x128, .f32⟩
  | .local _ .smem, ⟨0, _⟩ => ⟨S128, .i32⟩
  | .local _ .smem, ⟨1, _⟩ => ⟨S128, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev main_v10_5 : Ref sig .tc := ⟨.hbm, 21, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3968 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1152 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1152 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S65536x1024 : Shape := ⟨2, ![65536, 1024]⟩
abbrev S1024 : Shape := ⟨1, ![1024]⟩
abbrev S1024x3888 : Shape := ⟨2, ![1024, 3888]⟩
abbrev S5x1152 : Shape := ⟨2, ![5, 1152]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3888 : Shape := ⟨2, ![65536, 3888]⟩
abbrev S65536x768 : Shape := ⟨2, ![65536, 768]⟩
abbrev S65536x1152 : Shape := ⟨2, ![65536, 1152]⟩
abbrev S65536x384 : Shape := ⟨2, ![65536, 384]⟩
abbrev S65536x24 : Shape := ⟨2, ![65536, 24]⟩
abbrev S65536x48 : Shape := ⟨2, ![65536, 48]⟩
abbrev S65536x128 : Shape := ⟨2, ![65536, 128]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3888, .f32⟩
  | .hbm, ⟨3, _⟩ => ⟨S5x1152, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S65536x3888, .f32⟩
  | .hbm, ⟨21, _⟩ => ⟨S65536x768, .f32⟩
  | .hbm, ⟨22, _⟩ => ⟨S65536x1152, .f32⟩
  | .hbm, ⟨23, _⟩ => ⟨S65536x384, .f32⟩
  | .hbm, ⟨24, _⟩ => ⟨S65536x24, .f32⟩
  | .hbm, ⟨25, _⟩ => ⟨S65536x1152, .f32⟩
  | .hbm, ⟨26, _⟩ => ⟨S65536x384, .f32⟩
  | .hbm, ⟨27, _⟩ => ⟨S65536x24, .f32⟩
  | .hbm, ⟨28, _⟩ => ⟨S65536x48, .f32⟩
  | .hbm, ⟨29, _⟩ => ⟨S_, .i32⟩
  | .hbm, ⟨30, _⟩ => ⟨S_, .f32⟩
  | .hbm, ⟨31, _⟩ => ⟨S65536x128, .f32⟩
  | .hbm, ⟨32, _⟩ => ⟨S65536x768, .bf16⟩
  | .hbm, ⟨33, _⟩ => ⟨S65536x384, .bf16⟩
  | .hbm, ⟨34, _⟩ => ⟨S65536x384, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_call0_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Proof.NA.Gather.lean ====
/- The reference's two kinds of gather, read at an entry. -/
module

public import proofs.«01_k».proof.Proof.Gen.ReferenceIdeal.Read
public import Idealize.ShloMosaic.Lib.ValueIdx

@[expose] public section

set_option maxRecDepth 16384

noncomputable section

namespace Cert.ReferenceIdeal.NAGather

open Cert.ReferenceIdeal Cert.ReferenceIdeal.Gen
open Idealize.ShloMosaic
open Idealize.ShloMosaic.TcCoe Idealize.ShloMosaic.ValueIdx Idealize.SL.Sem

/-- A small number read as a signed word is itself. -/
theorem toInt_small (k : ℕ) (h : k < 2147483648) : (BitVec.ofNat 32 k).toInt = (k : ℤ) := by
  have hk : (BitVec.ofNat 32 k).toNat = k := by rw [BitVec.toNat_ofNat, Nat.mod_eq_of_lt (by omega)]
  rw [BitVec.toInt_eq_toNat_of_lt (by omega), hk]

/-- A gather of whole rows, one row index per query and key. -/
theorem rows_apply {α : Type} (x : S65536x4x64.Idx → α) (idx : IVec S65536x128x1 32) (n : Fin 65536) (i : Fin 128) (h : Fin 4) (d : Fin 64) (k : Fin 65536)
    (hk : idx (ix3 n i 0) = BitVec.ofNat 32 k.val) :
    Host.gather gather_S65536x4x64_S65536x128x1_S65536x128x4x64_23_0_n_n_0_2_1464 x idx (ix4 n i h d) = x (ix3 k h d) := by
  unfold Host.gather
  refine congrArg x (funext fun a => Fin.ext ?_)
  match a with
  | ⟨0, _⟩ =>
    show gather_S65536x4x64_S65536x128x1_S65536x128x4x64_23_0_n_n_0_2_1464.start (ix4 n i h d) idx 0 + gather_S65536x4x64_S65536x128x1_S65536x128x4x64_23_0_n_n_0_2_1464.batchCoord (ix4 n i h d) 0 + gather_S65536x4x64_S65536x128x1_S65536x128x4x64_23_0_n_n_0_2_1464.offCoord (ix4 n i h d) 0 = k.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S65536x4x64_S65536x128x1_S65536x128x4x64_23_0_n_n_0_2_1464.startIndexMap from List.mem_singleton.mpr rfl)]
    have hsi : gather_S65536x4x64_S65536x128x1_S65536x128x4x64_23_0_n_n_0_2_1464.siIdx (ix4 n i h d)
        ⟨List.idxOf (0 : Fin 3) gather_S65536x4x64_S65536x128x1_S65536x128x4x64_23_0_n_n_0_2_1464.startIndexMap,
          List.idxOf_lt_length_iff.2 (List.mem_singleton.mpr rfl)⟩ = ix3 n i 0 := by
      funext b; refine Fin.ext ?_
      match b with
      | ⟨0, _⟩ => rfl
      | ⟨1, _⟩ => rfl
      | ⟨2, _⟩ => rfl
    rw [hsi, hk]
    show min (BitVec.toInt (BitVec.ofNat 32 k.val)).toNat 65535 = k.val
    have := k.isLt
    rw [toInt_small _ (by omega)]
    omega
  | ⟨1, _⟩ => exact Nat.zero_add _
  | ⟨2, _⟩ => exact Nat.zero_add _

/-- A gather of one bias per head, by two indices per query and key. -/
theorem pairs_apply {α : Type} (x : S4x15x31.Idx → α) (idx : IVec S65536x128x2 32) (h : Fin 4) (n : Fin 65536) (i : Fin 128) (r : Fin 15) (s : Fin 31)
    (hr : idx (ix3 n i 0) = BitVec.ofNat 32 r.val) (hs : idx (ix3 n i 1) = BitVec.ofNat 32 s.val) :
    Host.gather gather_S4x15x31_S65536x128x2_S4x65536x128_0_12_n_n_12_2_411 x idx (ix3 h n i) = x (ix3 h r s) := by
  unfold Host.gather
  refine congrArg x (funext fun a => Fin.ext ?_)
  match a with
  | ⟨0, _⟩ => exact Nat.zero_add _
  | ⟨1, _⟩ =>
    show gather_S4x15x31_S65536x128x2_S4x65536x128_0_12_n_n_12_2_411.start (ix3 h n i) idx 1 + gather_S4x15x31_S65536x128x2_S4x65536x128_0_12_n_n_12_2_411.batchCoord (ix3 h n i) 1 + gather_S4x15x31_S65536x128x2_S4x65536x128_0_12_n_n_12_2_411.offCoord (ix3 h n i) 1 = r.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S4x15x31_S65536x128x2_S4x65536x128_0_12_n_n_12_2_411.startIndexMap by decide)]
    have hsi : gather_S4x15x31_S65536x128x2_S4x65536x128_0_12_n_n_12_2_411.siIdx (ix3 h n i)
        ⟨List.idxOf (1 : Fin 3) gather_S4x15x31_S65536x128x2_S4x65536x128_0_12_n_n_12_2_411.startIndexMap,
          List.idxOf_lt_length_iff.2 (by decide)⟩ = ix3 n i 0 := by
      funext b; refine Fin.ext ?_
      match b with
      | ⟨0, _⟩ => rfl
      | ⟨1, _⟩ => rfl
      | ⟨2, _⟩ => rfl
    rw [hsi, hr]
    show min (BitVec.toInt (BitVec.ofNat 32 r.val)).toNat 14 = r.val
    have := r.isLt
    rw [toInt_small _ (by omega)]
    omega
  | ⟨2, _⟩ =>
    show gather_S4x15x31_S65536x128x2_S4x65536x128_0_12_n_n_12_2_411.start (ix3 h n i) idx 2 + gather_S4x15x31_S65536x128x2_S4x65536x128_0_12_n_n_12_2_411.batchCoord (ix3 h n i) 2 + gather_S4x15x31_S65536x128x2_S4x65536x128_0_12_n_n_12_2_411.offCoord (ix3 h n i) 2 = s.val
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 3) ∈ gather_S4x15x31_S65536x128x2_S4x65536x128_0_12_n_n_12_2_411.startIndexMap by decide)]
    have hsi : gather_S4x15x31_S65536x128x2_S4x65536x128_0_12_n_n_12_2_411.siIdx (ix3 h n i)
        ⟨List.idxOf (2 : Fin 3) gather_S4x15x31_S65536x128x2_S4x65536x128_0_12_n_n_12_2_411.startIndexMap,
          List.idxOf_lt_length_iff.2 (by decide)⟩ = ix3 n i 1 := by
      funext b; refine Fin.ext ?_
      match b with
      | ⟨0, _⟩ => rfl
      | ⟨1, _⟩ => rfl
      | ⟨2, _⟩ => rfl
    rw [hsi, hs]
    show min (BitVec.toInt (BitVec.ofNat 32 s.val)).toNat 30 = s.val
    have := s.isLt
    rw [toInt_small _ (by omega)]
    omega

end Cert.ReferenceIdeal.NAGather

end
-- ==== Proof.NA.Core.lean ====
/- Attention of one query over a set of keys, as extended reals: the maximum over all keys of which the masked ones
   score −∞ is the maximum over the window, and the weighted mean does not depend on where the division stands. -/
module

public import Idealize.ShloMosaic.PureOps.Ideal
public import Idealize.ShloMosaic.PureOps.Ideal.Laws

@[expose] public section

noncomputable section

namespace Cert.NA

open Idealize.ShloMosaic

/-- The greatest score. -/
def top {n : ℕ} (s : Fin n → EReal) : EReal := Finset.univ.fold max ⊥ s

/-- The mean of the values weighted by `exp (score − greatest score)`, divided at the end. -/
def meanLate {n : ℕ} (s v : Fin n → EReal) : EReal :=
  Ideal.div (∑ j, Ideal.exp (s j - top s) * v j) (∑ j, Ideal.exp (s j - top s))

/-- The mean of the values weighted by the softmax of the scores. -/
def meanSoft {n : ℕ} (s v : Fin n → EReal) : EReal :=
  ∑ j, Ideal.div (Ideal.exp (s j - max ⊥ (top s))) (0 + ∑ k, Ideal.exp (s k - max ⊥ (top s))) * v j

theorem top_eq_sup {n : ℕ} (s : Fin n → EReal) : top s = Finset.univ.sup s := rfl

theorem top_embed {m n : ℕ} (e : Fin m → Fin n) (s : Fin n → EReal) (hout : ∀ j, (∀ i, e i ≠ j) → s j = ⊥) :
    top s = top fun i => s (e i) := by
  rw [top_eq_sup, top_eq_sup]
  apply le_antisymm
  · refine Finset.sup_le fun j _ => ?_
    by_cases h : ∃ i, e i = j
    · obtain ⟨i, rfl⟩ := h
      exact Finset.le_sup (f := fun i => s (e i)) (Finset.mem_univ i)
    · rw [hout j (fun i hi => h ⟨i, hi⟩)]; exact bot_le
  · exact Finset.sup_le fun i _ => Finset.le_sup (f := s) (Finset.mem_univ (e i))

theorem sum_embed {m n : ℕ} (e : Fin m → Fin n) (he : Function.Injective e) (f : Fin n → EReal)
    (hout : ∀ j, (∀ i, e i ≠ j) → f j = 0) : ∑ j, f j = ∑ i, f (e i) := by
  rw [← Finset.sum_image (s := Finset.univ) (g := e) (fun a _ b _ h => he h)]
  symm
  refine Finset.sum_subset (Finset.subset_univ _) fun j _ hj => hout j fun i hi => hj ?_
  rw [← hi]; exact Finset.mem_image_of_mem _ (Finset.mem_univ i)

/-- The mean over all keys is the mean over a window outside of which every key scores −∞. -/
theorem meanLate_embed {m n : ℕ} (e : Fin m → Fin n) (he : Function.Injective e) (s v : Fin n → EReal)
    (hout : ∀ j, (∀ i, e i ≠ j) → s j = ⊥) :
    meanLate s v = meanLate (fun i => s (e i)) fun i => v (e i) := by
  have h0 : ∀ j, (∀ i, e i ≠ j) → Ideal.exp (s j - top s) = 0 := fun j hj => by
    rw [hout j hj, sub_eq_add_neg, EReal.bot_add, Ideal.exp_bot]
  unfold meanLate
  rw [sum_embed e he _ (fun j hj => by rw [h0 j hj, zero_mul]), sum_embed e he (fun j => Ideal.exp (s j - top s)) h0,
    top_embed e s hout]

/-- A finite nonnegative factor moves into a sum. -/
theorem coe_mul_sum {n : ℕ} (c : ℝ) (hc : 0 ≤ c) (f : Fin n → EReal) : (c : EReal) * ∑ j, f j = ∑ j, (c : EReal) * f j := by
  induction (Finset.univ : Finset (Fin n)) using Finset.induction_on with
  | empty => simp
  | insert a S ha ih =>
    rw [Finset.sum_insert ha, Finset.sum_insert ha, ← ih]
    exact EReal.left_distrib_of_nonneg_of_ne_top (by exact_mod_cast hc) (EReal.coe_ne_top c) _ _

theorem top_mem {n : ℕ} (hn : 0 < n) (s : Fin n → EReal) : ∃ i, top s = s i := by
  rw [top_eq_sup]
  haveI : Nonempty (Fin n) := ⟨⟨0, hn⟩⟩
  obtain ⟨i, _, h⟩ := Finset.exists_mem_eq_sup Finset.univ Finset.univ_nonempty s
  exact ⟨i, h⟩

theorem sum_coe {n : ℕ} (f : Fin n → ℝ) : ∑ j, ((f j : ℝ) : EReal) = ((∑ j, f j : ℝ) : EReal) := by
  induction (Finset.univ : Finset (Fin n)) using Finset.induction_on with
  | empty => simp
  | insert a S ha ih => rw [Finset.sum_insert ha, Finset.sum_insert ha, ih, EReal.coe_add]

/-- With finite scores the two means are one number. -/
theorem meanLate_eq_meanSoft {n : ℕ} (hn : 0 < n) (s : Fin n → ℝ) (v : Fin n → EReal) :
    meanLate (fun j => (s j : EReal)) v = meanSoft (fun j => (s j : EReal)) v := by
  obtain ⟨i, hi⟩ := top_mem hn fun j => (s j : EReal)
  unfold meanLate meanSoft
  rw [bot_sup_eq, hi, zero_add]
  simp only [← EReal.coe_sub, Ideal.exp_coe]
  rw [sum_coe]
  set L : ℝ := ∑ j, Real.exp (s j - s i) with hL
  have hpos : 0 < L := by
    haveI : Nonempty (Fin n) := ⟨⟨0, hn⟩⟩
    exact Finset.sum_pos (fun j _ => Real.exp_pos _) Finset.univ_nonempty
  rw [Ideal.div_coe hpos.ne', mul_comm, coe_mul_sum _ (by positivity)]
  refine Finset.sum_congr rfl fun j _ => ?_
  rw [Ideal.div_coe hpos.ne', ← mul_assoc, mul_comm (((1 / L : ℝ)) : EReal)]

/-- The window's mean by the softmax is the late mean over all the keys, the masked ones scoring −∞. -/
theorem mean_window {m n : ℕ} (hm : 0 < m) (e : Fin m → Fin n) (he : Function.Injective e) (s v : Fin n → EReal)
    (s' : Fin m → ℝ) (hs : ∀ i, s (e i) = s' i) (hout : ∀ j, (∀ i, e i ≠ j) → s j = ⊥) :
    meanLate s v = meanSoft (fun i => (s' i : EReal)) fun i => v (e i) := by
  rw [meanLate_embed e he s v hout, ← meanLate_eq_meanSoft hm]
  simp only [hs]

/-- Scaling before the product of finite vectors or after it. -/
theorem dot_scaled {n : ℕ} (c : ℝ) (q k : Fin n → EReal) (hc : 0 ≤ c) :
    ∑ d, (q d * (c : EReal)) * k d = (∑ d, q d * k d) * (c : EReal) := by
  rw [mul_comm, coe_mul_sum c hc]
  refine Finset.sum_congr rfl fun d _ => ?_
  rw [mul_comm (q d), mul_assoc]

end Cert.NA

end
-- ==== Proof.IFrame.Runs.lean ====
/- The frame of the program `KernelIdeal` for every contents of its four prefetched tables (Runs). -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S128 .i32 := Memref.whole main_c
abbrev htbM0_0 : tbM0_0.IsWhole := Memref.isWhole_whole _
abbrev tbM0_1 : Memref sig .tc .smem S128 .i32 := Memref.whole main_c_0
abbrev htbM0_1 : tbM0_1.IsWhole := Memref.isWhole_whole _
abbrev tbM0_2 : Memref sig .tc .smem S128 .i32 := Memref.whole main_c_1
abbrev htbM0_2 : tbM0_2.IsWhole := Memref.isWhole_whole _
abbrev tbM0_3 : Memref sig .tc .smem S128 .i32 := Memref.whole main_c_2
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = {0, 1, 2, 3} from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 6).trans (((dats 0 c).arrAt_in 6 rfl _).trans ((hA c 6).trans (V_main_arg0 m c))),
      ((h c).2 main_arg1 (by decide : main_arg1 ∈ Pipeline.restRefs sig spec0)).trans (V_main_arg1 m c)⟩) h

/-! ## The kernel body on any staging memrefs: a subtype the run finds -/

/-- One staging buffer of output window 8, through which its contents are stated (`View.read_writes_of_cover`: the
    choice does not matter). -/
abbrev VO0_8 : View sig .tc .vmem S512x256 .bf16 := (Memref.whole cc0_stg8_0 : Memref sig .tc .vmem S512x256 .bf16).view
/-- Each window's current staging memref at point `t`, spelled as the pipeline passes it (`bodyAt0`), and its wholeness. -/
abbrev ms0_0 (hO : Ok m) (t : Fin (cfgM m hO).N) : Memref sig .tc .vmem S512x256 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x256 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x256 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S512x256 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x256 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S4x8x64x512 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S512x256 .bf16 := spec0_8.stage ((cfgM m hO).slots t 8)
abbrev hs0_8 (hO : Ok m) (t : Fin (cfgM m hO).N) : (ms0_8 m hO t).IsWhole := hstage0_8 (((cfgM m hO).slots t 8).cast nbuf0_8)
/-- The scratch operands: whole scoped buffers of the kernel's own, passed beside the windows. -/
abbrev scM0_0 : Memref sig .tc .vmem S1536x256 .bf16 := Memref.whole cc0_scratch0
abbrev scM0_1 : Memref sig .tc .vmem S1536x256 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.IFrame.Tables.lean ====
/- The four prefetched tables of the program `KernelIdeal`: which blocks begin and end a sequence, and the blocks before and
   after each block. -/
module

public import proofs.«01_k».proof.Proof.IFrame.Runs
public import Idealize.ShloMosaic.Lib.StableHlo.RunRead

@[expose] public section

set_option maxRecDepth 16384

noncomputable section

namespace Cert.KernelIdeal.NATables

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem tbl0 : tbl m 0 = fun i => lit0 (S128.rowMajor i) := by
  show V m 0 main_c = _
  unfold V hostOps0 hostOps0_1 hostOps0_2 hostOps0_3 hostOps0_4 hostOps0_5 hostOps0_6
  simp only [List.flatten_cons, List.flatten_nil, List.append_nil, List.cons_append, List.nil_append]
  after_reads_simp
  rfl
theorem tbl1 : tbl m 1 = fun i => lit1 (S128.rowMajor i) := by
  show V m 0 main_c_0 = _
  unfold V hostOps0 hostOps0_1 hostOps0_2 hostOps0_3 hostOps0_4 hostOps0_5 hostOps0_6
  simp only [List.flatten_cons, List.flatten_nil, List.append_nil, List.cons_append, List.nil_append]
  after_reads_simp
  rfl
theorem tbl2 : tbl m 2 = fun i => lit2 (S128.rowMajor i) := by
  show V m 0 main_c_1 = _
  unfold V hostOps0 hostOps0_1 hostOps0_2 hostOps0_3 hostOps0_4 hostOps0_5 hostOps0_6
  simp only [List.flatten_cons, List.flatten_nil, List.append_nil, List.cons_append, List.nil_append]
  after_reads_simp
  rfl
theorem tbl3 : tbl m 3 = fun i => lit3 (S128.rowMajor i) := by
  show V m 0 main_c_2 = _
  unfold V hostOps0 hostOps0_1 hostOps0_2 hostOps0_3 hostOps0_4 hostOps0_5 hostOps0_6
  simp only [List.flatten_cons, List.flatten_nil, List.append_nil, List.cons_append, List.nil_append]
  after_reads_simp
  rfl

/-- The first block of a sequence: two sequences of 32 blocks, then sixteen of 4. -/
def isFirst (g : ℕ) : Bool := if g < 64 then g % 32 == 0 else g % 4 == 0
/-- The last block of a sequence. -/
def isLast (g : ℕ) : Bool := if g < 64 then g % 32 == 31 else g % 4 == 3

theorem lit0_eq : ∀ g : Fin 128, lit0 g = if isFirst g.val then 1#32 else 0#32 := by decide +kernel
theorem lit1_eq : ∀ g : Fin 128, lit1 g = if isLast g.val then 1#32 else 0#32 := by decide +kernel
theorem lit2_eq : ∀ g : Fin 128, lit2 g = BitVec.ofNat 32 (if isFirst g.val then g.val else g.val - 1) := by decide +kernel
theorem lit3_eq : ∀ g : Fin 128, lit3 g = BitVec.ofNat 32 (if isLast g.val then g.val else g.val + 1) := by decide +kernel

theorem coord_lt (i : grid0.Coords) : (i 0).val < 128 := (i 0).isLt

/-- The entry of a table that the grid point `i` reads is entry `i`. -/
theorem at_point (i : grid0.Coords) (h : ∀ a, (k0_off1 i) a + S1.size a ≤ S128.size a) (hn : 0 < (Rect.unit (s := S128) (k0_off1 i) S1.size h).shape.numel) :
    S128.rowMajor ((Rect.unit (s := S128) (k0_off1 i) S1.size h).emb (Shape.Idx.first hn)) = (⟨(i 0).val, coord_lt i⟩ : Fin 128) := by
  have hi := coord_lt i
  apply Fin.ext
  rw [Shape.rowMajor_val_one]
  show k0_off1 i 0 + 0 * 1 = (i 0).val
  show (BitVec.ofNat 32 (i 0).val).toNat + 0 * 1 = (i 0).val
  rw [BitVec.toNat_ofNat]; omega

/-- The block before, as the index maps read it. -/
theorem at_prev (i : grid0.Coords) : (tbl m).at 2 (Rect.unit (s := S128) (k0_off1 i) S1.size (k0_off1_inb i)) numel1_S1
    = BitVec.ofNat 32 (if isFirst (i 0).val then (i 0).val else (i 0).val - 1) := by
  show tbl m 2 _ = _
  rw [tbl2]
  exact (congrArg lit2 (at_point i _ _)).trans (lit2_eq _)

/-- The block after, as the index maps read it. -/
theorem at_next (i : grid0.Coords) : (tbl m).at 3 (Rect.unit (s := S128) (k0_off1 i) S1.size (k0_off1_inb i)) numel1_S1
    = BitVec.ofNat 32 (if isLast (i 0).val then (i 0).val else (i 0).val + 1) := by
  show tbl m 3 _ = _
  rw [tbl3]
  exact (congrArg lit3 (at_point i _ _)).trans (lit3_eq _)

theorem prev_lt : ∀ g : Fin 128, (if isFirst g.val then g.val else g.val - 1) < 128 := by decide +kernel
theorem next_lt : ∀ g : Fin 128, (if isLast g.val then g.val else g.val + 1) < 128 := by decide +kernel

theorem transform_1_eq (i : grid0.Coords) : cc0_transform_1 k0_off1_inb numel1_S1 (tbl m) i
    = ![if isFirst (i 0).val then (i 0).val else (i 0).val - 1, 1] := by
  have h := prev_lt ⟨(i 0).val, coord_lt i⟩
  show ![((tbl m).at 2 (Rect.unit (s := S128) (k0_off1 i) S1.size (k0_off1_inb i)) numel1_S1 : BitVec 32).toNat, _] = _
  rw [at_prev, BitVec.toNat_ofNat, Nat.mod_eq_of_lt (by simp only [] at h; omega)]; rfl
theorem transform_3_eq (i : grid0.Coords) : cc0_transform_3 k0_off1_inb numel1_S1 (tbl m) i
    = ![if isLast (i 0).val then (i 0).val else (i 0).val + 1, 1] := by
  have h := next_lt ⟨(i 0).val, coord_lt i⟩
  show ![((tbl m).at 3 (Rect.unit (s := S128) (k0_off1 i) S1.size (k0_off1_inb i)) numel1_S1 : BitVec 32).toNat, _] = _
  rw [at_next, BitVec.toNat_ofNat, Nat.mod_eq_of_lt (by simp only [] at h; omega)]; rfl
theorem transform_4_eq (i : grid0.Coords) : cc0_transform_4 k0_off1_inb numel1_S1 (tbl m) i
    = ![if isFirst (i 0).val then (i 0).val else (i 0).val - 1, 2] := by
  have h := prev_lt ⟨(i 0).val, coord_lt i⟩
  show ![((tbl m).at 2 (Rect.unit (s := S128) (k0_off1 i) S1.size (k0_off1_inb i)) numel1_S1 : BitVec 32).toNat, _] = _
  rw [at_prev, BitVec.toNat_ofNat, Nat.mod_eq_of_lt (by simp only [] at h; omega)]; rfl
theorem transform_6_eq (i : grid0.Coords) : cc0_transform_6 k0_off1_inb numel1_S1 (tbl m) i
    = ![if isLast (i 0).val then (i 0).val else (i 0).val + 1, 2] := by
  have h := next_lt ⟨(i 0).val, coord_lt i⟩
  show ![((tbl m).at 3 (Rect.unit (s := S128) (k0_off1 i) S1.size (k0_off1_inb i)) numel1_S1 : BitVec 32).toNat, _] = _
  rw [at_next, BitVec.toNat_ofNat, Nat.mod_eq_of_lt (by simp only [] at h; omega)]; rfl

/-- A block of 512 rows and 256 columns lies inside the array and begins and ends on whole words. -/
theorem block_inside (f : Fin 2 → ℕ) (x y : ℕ) (hx : x < 128) (hy : y < 3) (hf : f = ![x, y]) :
    ∃ h : (∀ a, (f a + 1) * S512x256.size a ≤ S65536x768.size a),
      EltTy.bits .bf16 = 32 ∨ (Rect.block (s := S65536x768) S512x256.size f h).WholeWords (EltTy.packing .bf16) := by
  subst hf
  have h : ∀ a, ((![x, y] : Fin 2 → ℕ) a + 1) * S512x256.size a ≤ S65536x768.size a := by
    intro a; fin_cases a
    · show (x + 1) * 512 ≤ 65536; omega
    · show (y + 1) * 256 ≤ 768; omega
  exact ⟨h, Or.inr (Affine.block_words_dvd (of_decide_eq_true rfl) (by decide))⟩

theorem ok : Ok m := by
  have hp := fun i : grid0.Coords => prev_lt ⟨(i 0).val, coord_lt i⟩
  have hn := fun i : grid0.Coords => next_lt ⟨(i 0).val, coord_lt i⟩
  exact ⟨fun i => block_inside _ _ _ (hp i) (by omega) (transform_1_eq m i), fun i => block_inside _ _ _ (hn i) (by omega) (transform_3_eq m i),
    fun i => block_inside _ _ _ (hp i) (by omega) (transform_4_eq m i), fun i => block_inside _ _ _ (hn i) (by omega) (transform_6_eq m i)⟩

end Cert.KernelIdeal.NATables

end
-- ==== Proof.NA.Spec.lean ====
/- The attention as one function of the two arrays the kernel reads: the queries, keys and values, and the table of biases. -/
module

public import proofs.«01_k».proof.Proof.NA.Core
public import proofs.«01_k».proof.Proof.IFrame.Tables
public import Idealize.ShloMosaic.Lib.ValueIdx

@[expose] public section

noncomputable section

namespace Cert.NA

open Idealize.ShloMosaic Idealize.ShloMosaic.ValueIdx
open Cert.KernelIdeal.NATables (isFirst isLast)
open scoped BigOperators

/-- An entry of a matrix by its two coordinates, zero outside. -/
def at2 {M N : ℕ} (x : (⟨2, ![M, N]⟩ : Shape).Idx → EReal) (i j : ℕ) : EReal :=
  if h : i < M ∧ j < N then x (ix2 ⟨i, h.1⟩ ⟨j, h.2⟩) else 0

theorem at2_eq {M N : ℕ} (x : (⟨2, ![M, N]⟩ : Shape).Idx → EReal) {i j : ℕ} (hi : i < M) (hj : j < N) :
    at2 x i j = x (ix2 ⟨i, hi⟩ ⟨j, hj⟩) := dif_pos ⟨hi, hj⟩

theorem at2_ix2 {M N : ℕ} (x : (⟨2, ![M, N]⟩ : Shape).Idx → EReal) (i : Fin M) (j : Fin N) :
    x (ix2 i j) = at2 x i.val j.val := (at2_eq x i.isLt j.isLt).symm

/-- An entry of the table of biases: a head, the window's place, a query's column and a key. -/
def at4 {K L M N : ℕ} (x : (⟨4, ![K, L, M, N]⟩ : Shape).Idx → EReal) (h v q j : ℕ) : EReal :=
  if H : h < K ∧ v < L ∧ q < M ∧ j < N then x (ix4 ⟨h, H.1⟩ ⟨v, H.2.1⟩ ⟨q, H.2.2.1⟩ ⟨j, H.2.2.2⟩) else 0

theorem at4_eq {K L M N : ℕ} (x : (⟨4, ![K, L, M, N]⟩ : Shape).Idx → EReal) {h v q j : ℕ} (hh : h < K) (hv : v < L) (hq : q < M) (hj : j < N) :
    at4 x h v q j = x (ix4 ⟨h, hh⟩ ⟨v, hv⟩ ⟨q, hq⟩ ⟨j, hj⟩) := dif_pos ⟨hh, hv, hq, hj⟩

/-- Whether row `a` of block `g` stands too near an end of its sequence for a window centred on it. -/
def edge (g a : ℕ) : Bool := if a < 4 then isFirst g else isLast g
/-- The first row of the window of row `a` of block `g`. -/
def keyRow (g a : ℕ) : ℕ := if edge g a then 8 * g else 8 * g + a - 4
/-- The row's place in its window. -/
def variant (g a : ℕ) : ℕ := if edge g a then a else 4

/-- The score of query `n`, for the head of column `l`, against the 512 keys of the window's eight rows. -/
def score (A : (⟨2, ![65536, 768]⟩ : Shape).Idx → EReal) (B : (⟨4, ![4, 8, 64, 512]⟩ : Shape).Idx → EReal) (n l : ℕ) (j : Fin 512) : EReal :=
  (∑ d : Fin 64, at2 A n (l / 64 * 64 + d.val) * (((1 : ℝ) / 8 : ℝ) : EReal)
      * at2 A (64 * keyRow (n / 512) (n / 64 % 8) + j.val) (256 + (l / 64 * 64 + d.val)))
    + at4 B (l / 64) (variant (n / 512) (n / 64 % 8)) (n % 64) j.val

/-- Column `l` of the attention of query `n`. -/
def attn (A : (⟨2, ![65536, 768]⟩ : Shape).Idx → EReal) (B : (⟨4, ![4, 8, 64, 512]⟩ : Shape).Idx → EReal) (n l : ℕ) : EReal :=
  meanLate (score A B n l) fun j => at2 A (64 * keyRow (n / 512) (n / 64 % 8) + j.val) (512 + l)

end Cert.NA

end
-- ==== Proof.NA.RefTables.lean ====
/- The reference's integer tables: which keys a query sees and which biases it takes. -/
module

public import proofs.«01_k».proof.Proof.NA.Gather
public import proofs.«01_k».proof.Proof.NA.Spec
public import Idealize.ShloMosaic.Lib.ValueIdx

@[expose] public section

set_option maxRecDepth 16384

noncomputable section

namespace Cert.ReferenceIdeal.NATables

open Cert.NA (keyRow variant edge)
open Cert.ReferenceIdeal Cert.ReferenceIdeal.Gen Cert.ReferenceIdeal.Read
open Idealize.ShloMosaic Idealize.ShloMosaic.TcCoe Idealize.ShloMosaic.ValueIdx Idealize.SL.Sem

/-- The first row of each row's window. -/
theorem rowStart : ∀ R : Fin 1024, val_main_v18 (F := Ideal) (ix1 R) = BitVec.ofNat 32 (keyRow (R.val / 8) (R.val % 8)) := by decide +kernel
/-- The window starts at most seven rows above its row. -/
theorem variant_eq : ∀ R : Fin 1024, keyRow (R.val / 8) (R.val % 8) + variant (R.val / 8) (R.val % 8) = R.val := by decide +kernel
theorem variant_lt : ∀ R : Fin 1024, variant (R.val / 8) (R.val % 8) < 8 ∧ keyRow (R.val / 8) (R.val % 8) + 8 ≤ 1024 := by decide +kernel
/-- The columns of each column's window. -/
theorem keyCol : ∀ (q : Fin 64) (x : Fin 16), val_main_v34 (F := Ideal) (ix2 q x) = BitVec.ofNat 32 (min (q.val - 8) 48 + x.val) := by decide +kernel
/-- Their distances, counted from zero. -/
theorem distCol : ∀ (q : Fin 64) (x : Fin 16), val_main_v54 (F := Ideal) (ix2 q x) = BitVec.ofNat 32 (min (q.val - 8) 48 + x.val + 15 - q.val) := by decide +kernel

/-- The key that query `n` sees in place `i` of its window. -/
def keyOf (n i : ℕ) : ℕ := 64 * (keyRow (n / 512) (n / 64 % 8) + i / 16) + (min (n % 64 - 8) 48 + i % 16)

theorem variant_at (n : Fin 65536) : keyRow (n.val / 512) (n.val / 64 % 8) + variant (n.val / 512) (n.val / 64 % 8) = n.val / 64
    ∧ variant (n.val / 512) (n.val / 64 % 8) < 8 ∧ keyRow (n.val / 512) (n.val / 64 % 8) + 8 ≤ 1024 := by
  have h := variant_eq ⟨n.val / 64, by omega⟩
  have h' := variant_lt ⟨n.val / 64, by omega⟩
  have e : n.val / 64 / 8 = n.val / 512 := by omega
  simp only [e] at h h'
  exact ⟨h, h'⟩

theorem keyOf_lt (n : Fin 65536) (i : Fin 128) : keyOf n.val i.val < 65536 := by
  have := (variant_at n).2.2
  unfold keyOf
  omega

theorem row_at (n : Fin 65536) (i : Fin 128) (j : S1024x8.Idx) (h0 : (j 0).val = n.val / 64) (h1 : (j 1).val = i.val / 16) :
    val_main_v28 (F := Ideal) j = BitVec.ofNat 32 (keyRow (n.val / 512) (n.val / 64 % 8) + i.val / 16) := by
  rw [val_main_v28_apply, val_main_v26_apply, val_main_v23_apply, val_main_v27_apply, val_main_v25_apply]
  have hi : idx_main_v23 (idx_main_v26 j) = ix1 ⟨n.val / 64, by omega⟩ := funext fun a => Fin.ext (by
    match a with
    | ⟨0, _⟩ => exact h0)
  rw [hi, rowStart]
  show BitVec.ofNat 32 (keyRow (n.val / 64 / 8) (n.val / 64 % 8)) + BitVec.ofNat 32 (j 1).val = _
  rw [h1, Nat.div_div_eq_div_mul, BitVec.ofNat_add]

/-- The keys. -/
theorem key_at (n : Fin 65536) (i : Fin 128) : val_main_v63 (F := Ideal) (ix2 n i) = BitVec.ofNat 32 (keyOf n.val i.val) := by
  have hr : val_main_v37 (F := Ideal) (ix2 n i) = BitVec.ofNat 32 (keyRow (n.val / 512) (n.val / 64 % 8) + i.val / 16) := by
    rw [val_main_v37_apply, val_main_v36_apply, val_main_v35_apply]
    refine row_at n i _ ?_ ?_
    · show (n.val * 128 + i.val) / 8192 = n.val / 64
      omega
    · show (n.val * 128 + i.val) / 16 % 8 = i.val / 16
      omega
  have hc : val_main_v40 (F := Ideal) (ix2 n i) = BitVec.ofNat 32 (min (n.val % 64 - 8) 48 + i.val % 16) := by
    rw [val_main_v40_apply, val_main_v39_apply, val_main_v38_apply]
    have e : idx_main_v38 (idx_main_v39 (idx_main_v40 (ix2 n i))) = ix2 ⟨n.val % 64, by omega⟩ ⟨i.val % 16, by omega⟩ := funext fun a => Fin.ext (by
      match a with
      | ⟨0, _⟩ => show (n.val * 128 + i.val) / 128 % 64 = n.val % 64; omega
      | ⟨1, _⟩ => show (n.val * 128 + i.val) % 16 = i.val % 16; omega)
    rw [e, keyCol]
  rw [val_main_v63_apply, val_main_v62_apply, hr, hc]
  show BitVec.ofNat 32 _ * BitVec.ofNat 32 64 + BitVec.ofNat 32 _ = _
  rw [← BitVec.ofNat_mul, ← BitVec.ofNat_add]
  unfold keyOf
  rw [Nat.mul_comm 64]

/-- The biases' row. -/
theorem distRow_at (n : Fin 65536) (i : Fin 128) : val_main_v57 (F := Ideal) (ix2 n i) = BitVec.ofNat 32 (7 - variant (n.val / 512) (n.val / 64 % 8) + i.val / 16) := by
  rw [val_main_v57_apply, val_main_v56_apply, val_main_v55_apply, val_main_v47_apply, val_main_v45_apply, val_main_v43_apply,
    row_at n i _ (by show (n.val * 128 + i.val) / 8192 = n.val / 64; omega) (by show (n.val * 128 + i.val) / 16 % 8 = i.val / 16; omega)]
  have hn : val_main_v42 (F := Ideal) (idx_main_v55 (idx_main_v56 (idx_main_v57 (ix2 n i)))) = BitVec.ofNat 32 (n.val / 64) := by
    rw [val_main_v42_apply, val_main_v41_apply]
    show BitVec.ofNat 32 ((n.val * 128 + i.val) / 8192) = _
    congr 1
    omega
  rw [hn]
  show BitVec.ofNat 32 _ - BitVec.ofNat 32 _ + 8#32 - 1#32 = _
  have h := variant_at n
  generalize keyRow (n.val / 512) (n.val / 64 % 8) = kr at h ⊢
  generalize variant (n.val / 512) (n.val / 64 % 8) = v at h ⊢
  apply BitVec.eq_of_toNat_eq
  simp only [BitVec.toNat_sub, BitVec.toNat_add, BitVec.toNat_ofNat]
  omega

/-- The biases' column. -/
theorem distCol_at (n : Fin 65536) (i : Fin 128) : val_main_v60 (F := Ideal) (ix2 n i) = BitVec.ofNat 32 (min (n.val % 64 - 8) 48 + i.val % 16 + 15 - n.val % 64) := by
  rw [val_main_v60_apply, val_main_v59_apply, val_main_v58_apply]
  have e : idx_main_v58 (idx_main_v59 (idx_main_v60 (ix2 n i))) = ix2 ⟨n.val % 64, by omega⟩ ⟨i.val % 16, by omega⟩ := funext fun a => Fin.ext (by
    match a with
    | ⟨0, _⟩ => show (n.val * 128 + i.val) / 128 % 64 = n.val % 64; omega
    | ⟨1, _⟩ => show (n.val * 128 + i.val) % 16 = i.val % 16; omega)
  rw [e, distCol]

/-- A small number is not negative. -/
theorem pick_small (k : ℕ) (h : k < 2147483648) (x : BitVec 32) :
    Scalar.select (BitVec.ofBool ((BitVec.ofNat 32 k).slt 0#32)) x (BitVec.ofNat 32 k) = BitVec.ofNat 32 k := by
  have : (BitVec.ofNat 32 k).slt 0#32 = false := by
    rw [BitVec.slt, NAGather.toInt_small k h]
    simp
  rw [this]
  rfl

/-- The rows the keys are gathered from. -/
theorem keyIndex (n : Fin 65536) (i : Fin 128) : val_main_v69 (F := Ideal) (ix3 n i 0) = BitVec.ofNat 32 (keyOf n.val i.val) := by
  have e : idx_main_v69 (ix3 n i 0) = ix2 n i := funext fun a => Fin.ext (by
    match a with
    | ⟨0, _⟩ => rfl
    | ⟨1, _⟩ => rfl)
  rw [val_main_v69_apply, e, val_main_v68_apply, val_main_v65_apply, key_at]
  exact pick_small _ (by have := keyOf_lt n i; omega) _
/-- The rows the values are gathered from. -/
theorem valueIndex (n : Fin 65536) (i : Fin 128) : val_main_v105 (F := Ideal) (ix3 n i 0) = BitVec.ofNat 32 (keyOf n.val i.val) := by
  have e : idx_main_v105 (ix3 n i 0) = ix2 n i := funext fun a => Fin.ext (by
    match a with
    | ⟨0, _⟩ => rfl
    | ⟨1, _⟩ => rfl)
  rw [val_main_v105_apply, e, val_main_v104_apply, val_main_v101_apply, key_at]
  exact pick_small _ (by have := keyOf_lt n i; omega) _
/-- The two indices side by side. -/
theorem pair0 (x y : IVec S65536x128x1 32) (n : Fin 65536) (i : Fin 128) :
    concatenate S65536x128x2 2 [⟨S65536x128x1, x⟩, ⟨S65536x128x1, y⟩] concatenates_S65536x128x1_S65536x128x1_S65536x128x2_d2 (ix3 n i 0) = x (ix3 n i 0) :=
  concatenate_ofFn_unit_apply (t := S65536x128x2) 2 (fun v : Fin 2 => (![x, y] : Fin 2 → IVec S65536x128x1 32) v)
    concatenates_S65536x128x1_S65536x128x1_S65536x128x2_d2 rfl rfl (ix3 n i 0) 0 rfl (ix3 n i 0) (by
      intro b hb
      match b with
      | ⟨0, _⟩ => rfl
      | ⟨1, _⟩ => rfl
      | ⟨2, _⟩ => exact absurd rfl hb)
theorem pair1 (x y : IVec S65536x128x1 32) (n : Fin 65536) (i : Fin 128) :
    concatenate S65536x128x2 2 [⟨S65536x128x1, x⟩, ⟨S65536x128x1, y⟩] concatenates_S65536x128x1_S65536x128x1_S65536x128x2_d2 (ix3 n i 1) = y (ix3 n i 0) :=
  concatenate_ofFn_unit_apply (t := S65536x128x2) 2 (fun v : Fin 2 => (![x, y] : Fin 2 → IVec S65536x128x1 32) v)
    concatenates_S65536x128x1_S65536x128x1_S65536x128x2_d2 rfl rfl (ix3 n i 1) 1 rfl (ix3 n i 0) (by
      intro b hb
      match b with
      | ⟨0, _⟩ => rfl
      | ⟨1, _⟩ => rfl
      | ⟨2, _⟩ => exact absurd rfl hb)
/-- The first index of a bias. -/
theorem biasIndex0 (n : Fin 65536) (i : Fin 128) :
    val_main_v86 (F := Ideal) (ix3 n i 0) = BitVec.ofNat 32 (7 - variant (n.val / 512) (n.val / 64 % 8) + i.val / 16) := by
  unfold val_main_v86
  rw [pair0]
  have e : idx_main_v84 (ix3 n i 0) = ix2 n i := funext fun a => Fin.ext (by
    match a with
    | ⟨0, _⟩ => rfl
    | ⟨1, _⟩ => rfl)
  rw [val_main_v84_apply, e, val_main_v78_apply, val_main_v75_apply, distRow_at]
  exact pick_small _ (by omega) _
/-- The second. -/
theorem biasIndex1 (n : Fin 65536) (i : Fin 128) :
    val_main_v86 (F := Ideal) (ix3 n i 1) = BitVec.ofNat 32 (min (n.val % 64 - 8) 48 + i.val % 16 + 15 - n.val % 64) := by
  unfold val_main_v86
  rw [pair1]
  have e : idx_main_v85 (ix3 n i 0) = ix2 n i := funext fun a => Fin.ext (by
    match a with
    | ⟨0, _⟩ => rfl
    | ⟨1, _⟩ => rfl)
  rw [val_main_v85_apply, e, val_main_v83_apply, val_main_v80_apply, distCol_at]
  exact pick_small _ (by omega) _

end Cert.ReferenceIdeal.NATables

end
-- ==== Proof.NA.Ref.lean ====
/- The reference's value: for a query and a column, the softmax mean of the values over the window of 128 keys. -/
module

public import proofs.«01_k».proof.Proof.NA.RefTables
public import proofs.«01_k».proof.Proof.NA.Core

@[expose] public section

set_option maxRecDepth 16384

noncomputable section

namespace Cert.ReferenceIdeal.NAValue

open Cert.NA (keyRow variant at2 at2_eq at2_ix2 meanSoft top)
open Cert.ReferenceIdeal Cert.ReferenceIdeal.Gen Cert.ReferenceIdeal.Read Cert.ReferenceIdeal.NATables
open Idealize.ShloMosaic Idealize.ShloMosaic.TcCoe Idealize.ShloMosaic.ValueIdx Idealize.SL.Sem
open scoped BigOperators

variable (A : FVec Ideal S65536x768 .bf16) (R : FVec Ideal S4x15x31 .f32)

/-- A relative position bias by its three coordinates, zero outside. -/
def at3 {K M N : ℕ} (x : (⟨3, ![K, M, N]⟩ : Shape).Idx → EReal) (h r s : ℕ) : EReal :=
  if H : h < K ∧ r < M ∧ s < N then x (ix3 ⟨h, H.1⟩ ⟨r, H.2.1⟩ ⟨s, H.2.2⟩) else 0

theorem at3_eq {K M N : ℕ} (x : (⟨3, ![K, M, N]⟩ : Shape).Idx → EReal) {h r s : ℕ} (hh : h < K) (hr : r < M) (hs : s < N) :
    at3 x h r s = x (ix3 ⟨h, hh⟩ ⟨r, hr⟩ ⟨s, hs⟩) := dif_pos ⟨hh, hr, hs⟩

/-- The score of query `n`, for the head `h`, against the key in place `i` of its window. -/
def score (n h i : ℕ) : EReal :=
  (∑ d : Fin 64, at2 A n (h * 64 + d.val) * at2 A (keyOf n i) (256 + (h * 64 + d.val))) * (((1 : ℝ) / 8 : ℝ) : EReal)
    + at3 R h (7 - variant (n / 512) (n / 64 % 8) + i / 16) (min (n % 64 - 8) 48 + i % 16 + 15 - n % 64)

theorem query_at (n : Fin 65536) (h : Fin 4) (d : Fin 64) : val_main_v4 (F := Ideal) A (ix3 n h d) = at2 A n.val (h.val * 64 + d.val) := by
  rw [val_main_v4_apply, val_main_v1_apply, val_main_v0_apply]
  refine Eq.trans (b := A (ix2 n ⟨h.val * 64 + d.val, by omega⟩)) (congrArg A (funext fun a => Fin.ext ?_)) (at2_ix2 A _ _)
  match a with
  | ⟨0, _⟩ => show ((n.val * 4 + h.val) * 64 + d.val) / 256 = n.val; omega
  | ⟨1, _⟩ => show ((n.val * 4 + h.val) * 64 + d.val) % 256 = h.val * 64 + d.val; omega
theorem key_at (n : Fin 65536) (h : Fin 4) (d : Fin 64) : val_main_v5 (F := Ideal) A (ix3 n h d) = at2 A n.val (256 + (h.val * 64 + d.val)) := by
  rw [val_main_v5_apply, val_main_v2_apply, val_main_v0_apply]
  refine Eq.trans (b := A (ix2 n ⟨256 + (h.val * 64 + d.val), by omega⟩)) (congrArg A (funext fun a => Fin.ext ?_)) (at2_ix2 A _ _)
  match a with
  | ⟨0, _⟩ => show ((n.val * 4 + h.val) * 64 + d.val) / 256 = n.val; omega
  | ⟨1, _⟩ => show 256 + ((n.val * 4 + h.val) * 64 + d.val) % 256 = 256 + (h.val * 64 + d.val); omega
theorem value_at (n : Fin 65536) (h : Fin 4) (d : Fin 64) : val_main_v6 (F := Ideal) A (ix3 n h d) = at2 A n.val (512 + (h.val * 64 + d.val)) := by
  rw [val_main_v6_apply, val_main_v3_apply, val_main_v0_apply]
  refine Eq.trans (b := A (ix2 n ⟨512 + (h.val * 64 + d.val), by omega⟩)) (congrArg A (funext fun a => Fin.ext ?_)) (at2_ix2 A _ _)
  match a with
  | ⟨0, _⟩ => show ((n.val * 4 + h.val) * 64 + d.val) / 256 = n.val; omega
  | ⟨1, _⟩ => show 512 + ((n.val * 4 + h.val) * 64 + d.val) % 256 = 512 + (h.val * 64 + d.val); omega

theorem eighth : Ideal.ofBits .f32 0x3E000000#32 = (((1 : ℝ) / 8 : ℝ) : EReal) := by
  simp [Ideal.ofBits, Ideal.ieee]
  rw [← EReal.coe_mul]
  norm_num

/-- The scores. -/
theorem score_at (h : Fin 4) (n : Fin 65536) (i : Fin 128) : val_main_v88 (F := Ideal) A R (ix3 h n i) = score A R n.val h.val i.val := by
  rw [val_main_v88_apply, val_main_v73_apply, val_main_v71_apply]
  have hq : ∀ d : Fin 64, val_main_v4 (F := Ideal) A (lidx_main_v71 (ix3 h n i) d) = at2 A n.val (h.val * 64 + d.val) := by
    intro d
    refine Eq.trans (congrArg _ (funext fun a => Fin.ext ?_)) (query_at A n h d)
    match a with
    | ⟨0, _⟩ => rfl
    | ⟨1, _⟩ => rfl
    | ⟨2, _⟩ => rfl
  have hk : ∀ d : Fin 64, val_main_v70 (F := Ideal) A (ridx_main_v71 (ix3 h n i) d) = at2 A (keyOf n.val i.val) (256 + (h.val * 64 + d.val)) := by
    intro d
    have e : ridx_main_v71 (ix3 h n i) d = ix4 n i h d := by
      refine funext fun a => Fin.ext ?_
      match a with
      | ⟨0, _⟩ => rfl
      | ⟨1, _⟩ => rfl
      | ⟨2, _⟩ => rfl
      | ⟨3, _⟩ => rfl
    rw [e]
    exact (NAGather.rows_apply _ _ n i h d ⟨keyOf n.val i.val, keyOf_lt n i⟩ (keyIndex n i)).trans (key_at A _ h d)
  have hb : val_main_v87 (F := Ideal) R (ix3 h n i)
      = at3 R h.val (7 - variant (n.val / 512) (n.val / 64 % 8) + i.val / 16) (min (n.val % 64 - 8) 48 + i.val % 16 + 15 - n.val % 64) := by
    have h1 : 7 - variant (n.val / 512) (n.val / 64 % 8) + i.val / 16 < 15 := by omega
    have h2 : min (n.val % 64 - 8) 48 + i.val % 16 + 15 - n.val % 64 < 31 := by omega
    rw [at3_eq R h.isLt h1 h2]
    exact NAGather.pairs_apply _ _ h n i ⟨_, h1⟩ ⟨_, h2⟩ (biasIndex0 n i) (biasIndex1 n i)
  have hc : val_main_v72 (F := Ideal) (ix3 h n i) = (((1 : ℝ) / 8 : ℝ) : EReal) := by
    rw [val_main_v72_apply]
    exact eighth
  rw [hb, hc]
  simp only [hq, hk]
  rfl

theorem reduces_last : S4x65536x128.Reduces [2] S4x65536 := by decide

theorem lift_last (h : Fin 4) (n : Fin 65536) (i : Fin 128) : reduces_last.lift (ix2 h n) i = ix3 h n i := by
  funext a; apply Fin.ext
  match a with
  | ⟨0, _⟩ => rfl
  | ⟨1, _⟩ => rfl
  | ⟨2, _⟩ => rfl

/-- The greatest along the last axis. -/
theorem max_last (x : FVec Ideal S4x65536x128 .f32) (h : Fin 4) (n : Fin 65536) :
    Host.reduce FloatOps.maximumf x (val_main_cst_19 (F := Ideal)) reducesTo_S4x65536x128_S4x65536_d2 h_S_ (ix2 h n)
      = top fun i : Fin 128 => (x (ix3 h n i) : EReal) := by
  refine (Host.reduce_eq_fold_single (α := EReal) (FloatOps.maximumf (F := Ideal) (φ := .f32)) x (val_main_cst_19 (F := Ideal)) reducesTo_S4x65536x128_S4x65536_d2 reduces_last h_S_ (ix2 h n)).trans ?_
  show Finset.univ.fold max (Ideal.ofBits .f32 0xFF800000#32) _ = _
  rw [show Ideal.ofBits .f32 0xFF800000#32 = (⊥ : EReal) by simp [Ideal.ofBits, Ideal.ieee]]
  exact congrArg (Finset.univ.fold max ⊥) (funext fun i => congrArg x (lift_last h n i))

/-- The greatest score. -/
theorem top_at (h : Fin 4) (n : Fin 65536) : val_main_v89 (F := Ideal) A R (ix2 h n) = top fun i : Fin 128 => score A R n.val h.val i.val := by
  unfold val_main_v89
  rw [max_last]
  exact congrArg top (funext fun i => score_at A R h n i)

/-- The exponentials. -/
theorem exp_at (h : Fin 4) (n : Fin 65536) (i : Fin 128) : val_main_v95 (F := Ideal) A R (ix3 h n i)
    = Ideal.exp (score A R n.val h.val i.val - max ⊥ (top fun i : Fin 128 => score A R n.val h.val i.val)) := by
  rw [val_main_v95_apply, val_main_v94_apply, score_at, val_main_v93_apply, val_main_v92_apply, val_main_v91_apply, val_main_v90_apply]
  have e : idx_main_v92 (idx_main_v93 (ix3 h n i)) = ix2 h n := by
    refine funext fun a => Fin.ext ?_
    match a with
    | ⟨0, _⟩ => rfl
    | ⟨1, _⟩ => rfl
  rw [e, top_at]
  show Ideal.exp (_ - max (Ideal.ofBits .f32 0xFF800000#32) _) = _
  rw [show Ideal.ofBits .f32 0xFF800000#32 = (⊥ : EReal) by simp [Ideal.ofBits, Ideal.ieee]]

/-- Their sum. -/
theorem sum_at (h : Fin 4) (n : Fin 65536) : val_main_v96 (F := Ideal) A R (ix2 h n)
    = 0 + ∑ k : Fin 128, Ideal.exp (score A R n.val h.val k.val - max ⊥ (top fun i : Fin 128 => score A R n.val h.val i.val)) := by
  rw [val_main_v96_apply]
  refine congrArg₂ (fun a b : EReal => a + b) (Ideal.ofBits_zero_f32) (Finset.sum_congr rfl fun k _ => ?_)
  refine Eq.trans (congrArg _ (funext fun a => Fin.ext ?_)) (exp_at A R h n k)
  match a with
  | ⟨0, _⟩ => rfl
  | ⟨1, _⟩ => rfl
  | ⟨2, _⟩ => rfl

/-- The weights. -/
theorem weight_at (h : Fin 4) (n : Fin 65536) (i : Fin 128) : val_main_v99 (F := Ideal) A R (ix3 h n i)
    = Ideal.div (Ideal.exp (score A R n.val h.val i.val - max ⊥ (top fun i : Fin 128 => score A R n.val h.val i.val)))
        (0 + ∑ k : Fin 128, Ideal.exp (score A R n.val h.val k.val - max ⊥ (top fun i : Fin 128 => score A R n.val h.val i.val))) := by
  rw [val_main_v99_apply, exp_at, val_main_v98_apply, val_main_v97_apply]
  have e : idx_main_v97 (idx_main_v98 (ix3 h n i)) = ix2 h n := by
    refine funext fun a => Fin.ext ?_
    match a with
    | ⟨0, _⟩ => rfl
    | ⟨1, _⟩ => rfl
  rw [e, sum_at]
  rfl

/-- The reference's result at an entry. -/
theorem result_at (n : Fin 65536) (l : Fin 256) : val_main_v109 (F := Ideal) A R (ix2 n l)
    = meanSoft (fun i : Fin 128 => score A R n.val (l.val / 64) i.val) fun i => at2 A (keyOf n.val i.val) (512 + l.val) := by
  rw [val_main_v109_apply, val_main_v108_apply]
  show val_main_v107 (F := Ideal) A R _ = _
  have e : idx_main_v108 (ix2 n l) = ix3 n ⟨l.val / 64, by omega⟩ ⟨l.val % 64, by omega⟩ := by
    refine funext fun a => Fin.ext ?_
    match a with
    | ⟨0, _⟩ => show (n.val * 256 + l.val) / 256 = n.val; omega
    | ⟨1, _⟩ => show (n.val * 256 + l.val) / 64 % 4 = l.val / 64; omega
    | ⟨2, _⟩ => show (n.val * 256 + l.val) % 64 = l.val % 64; omega
  rw [e, val_main_v107_apply]
  unfold meanSoft
  refine Finset.sum_congr rfl fun i _ => congrArg₂ (fun a b : EReal => a * b) ?_ ?_
  · refine Eq.trans (congrArg _ (funext fun a => Fin.ext ?_)) (weight_at A R ⟨l.val / 64, by omega⟩ n i)
    match a with
    | ⟨0, _⟩ => rfl
    | ⟨1, _⟩ => rfl
    | ⟨2, _⟩ => rfl
  · have e' : ridx_main_v107 (ix3 n ⟨l.val / 64, by omega⟩ ⟨l.val % 64, by omega⟩) i = ix4 n i ⟨l.val / 64, by omega⟩ ⟨l.val % 64, by omega⟩ := by
      refine funext fun a => Fin.ext ?_
      match a with
      | ⟨0, _⟩ => rfl
      | ⟨1, _⟩ => rfl
      | ⟨2, _⟩ => rfl
      | ⟨3, _⟩ => rfl
    rw [e']
    refine (NAGather.rows_apply _ _ n i _ _ ⟨keyOf n.val i.val, keyOf_lt n i⟩ (valueIndex n i)).trans ((value_at A _ _ _).trans ?_)
    show at2 A (keyOf n.val i.val) (512 + (l.val / 64 * 64 + l.val % 64)) = _
    rw [Nat.div_add_mod']

end Cert.ReferenceIdeal.NAValue

end
-- ==== Proof.NA.Bias.lean ====
/- The table of biases that the host prepares: for a head, the window's place, a query's column and a key of the window's eight
   rows, the relative position bias, or minus infinity where the key's column is outside the query's window. -/
module

public import proofs.«01_k».proof.Proof.IFrame.Tables
public import Idealize.ShloMosaic.Lib.ValueIdx
public import Idealize.ShloMosaic.Lib.Pointwise
public import Idealize.ShloMosaic.Lib.Pipeline.Value
public import Idealize.ShloMosaic.Lib.IdealHost

@[expose] public section

set_option maxRecDepth 16384

noncomputable section

namespace Cert.KernelIdeal.NABias

open Cert.KernelIdeal Cert.KernelIdeal.Gen
open Idealize.ShloMosaic hiding ix1 ix2 ix3 ix4 ix5 eq_ix1 eq_ix2 eq_ix3 eq_ix4 eq_ix5
open Idealize.ShloMosaic.TcCoe Idealize.ShloMosaic.ValueIdx Idealize.SL.Sem
open scoped BigOperators

/-- The first column of each column's window. -/
def colStart : IVec S64 32 :=
  minsi (broadcastInDim S64 ![] bcast_S_S64 (constantI S_ 32 48#32))
    (maxsi (broadcastInDim S64 ![] bcast_S_S64 (constantI S_ 32 0#32)) (subi (iotaInDim S64 32 0) (broadcastInDim S64 ![] bcast_S_S64 (constantI S_ 32 8#32))))
/-- Whether a key's column lies in a query's window. -/
def inWin : IVec S64x64 1 :=
  andi (cmpi .sge (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (broadcastInDim S64x1 ![0] bcast_S64_S64x1_0 colStart)))
    (cmpi .slt (broadcastInDim S64x64 ![0, 1] bcast_S1x64_S64x64_0_1 (broadcastInDim S1x64 ![1] bcast_S64_S1x64_1 (iotaInDim S64 32 0)))
      (broadcastInDim S64x64 ![0, 1] bcast_S64x1_S64x64_0_1 (addi (broadcastInDim S64x1 ![0] bcast_S64_S64x1_0 colStart)
        (broadcastInDim S64x1 ![] bcast_S_S64x1 (constantI S_ 32 16#32)))))
/-- How far a key's column lies from a query's, as a place in the table of relative position biases. -/
def dcol : IVec S64x64 32 :=
  subi (addi (minsi (broadcastInDim S64x64 ![] bcast_S_S64x64 (constantI S_ 32 15#32))
      (maxsi (broadcastInDim S64x64 ![] bcast_S_S64x64 (constantI S_ 32 (-15#32)))
        (subi (broadcastInDim S64x64 ![0, 1] bcast_S1x64_S64x64_0_1 (broadcastInDim S1x64 ![1] bcast_S64_S1x64_1 (iotaInDim S64 32 0)))
          (broadcastInDim S64x64 ![0, 1] bcast_S64x1_S64x64_0_1 (broadcastInDim S64x1 ![0] bcast_S64_S64x1_0 (iotaInDim S64 32 0))))))
    (broadcastInDim S64x64 ![] bcast_S_S64x64 (constantI S_ 32 16#32))) (broadcastInDim S64x64 ![] bcast_S_S64x64 (constantI S_ 32 1#32))
/-- One row of ones per distance. -/
def oneHot : FVec Ideal S31x64x64 .f32 :=
  uitofp .f32 (cmpi .eq (broadcastInDim S31x64x64 ![0, 1, 2] bcast_S1x64x64_S31x64x64_0_1_2 (broadcastInDim S1x64x64 ![1, 2] bcast_S64x64_S1x64x64_1_2 dcol))
    (broadcastInDim S31x64x64 ![0, 1, 2] bcast_S31x1x1_S31x64x64_0_1_2 (broadcastInDim S31x1x1 ![0] bcast_S31_S31x1x1_0 (iotaInDim S31 32 0))))
/-- The biases spread over pairs of columns. -/
def byCol (r : FVec Ideal S4x15x31 .f32) : FVec Ideal S4x15x64x64 .f32 :=
  Host.dotGeneral dot_S4x15x31_S31x64x64_S4x15x64x64_2_0_01_12_n_n (some ContractPrecision.fp32) r oneHot
theorem plane_slices (v : Fin 8) : S4x15x64x64.Slices ![0, 7 - v.val, 0, 0] S4x8x64x64 := by revert v; decide
/-- The eight rows of biases of a query in place `v` of its window. -/
def plane (r : FVec Ideal S4x15x31 .f32) (v : Fin 8) : FVec Ideal S4x1x8x64x64 .f32 :=
  broadcastInDim S4x1x8x64x64 ![0, 2, 3, 4] bcast_S4x8x64x64_S4x1x8x64x64_0_2_3_4 (extractStridedSlice S4x8x64x64 ![0, 7 - v.val, 0, 0] (byCol r) (plane_slices v))
/-- The table the host prepares. -/
def table (r : FVec Ideal S4x15x31 .f32) : FVec Ideal S4x8x64x512 .f32 :=
  shapeCast S4x8x64x512 (transpose S4x8x64x8x64 [0, 1, 3, 2, 4]
    (select (broadcastInDim S4x8x8x64x64 ![0, 1, 2, 3, 4] bcast_S1x1x1x64x64_S4x8x8x64x64_0_1_2_3_4 (broadcastInDim S1x1x1x64x64 ![3, 4] bcast_S64x64_S1x1x1x64x64_3_4 inWin))
      (concatenate S4x8x8x64x64 1 (List.ofFn fun v : Fin 8 => (⟨S4x1x8x64x64, plane r v⟩ : (s : Shape) × (s.Idx → EReal)))
        concatenates_S4x1x8x64x64_S4x1x8x64x64_S4x1x8x64x64_S4x1x8x64x64_S4x1x8x64x64_S4x1x8x64x64_S4x1x8x64x64_S4x1x8x64x64_S4x8x8x64x64_d1)
      (broadcastInDim S4x8x8x64x64 ![] bcast_S_S4x8x8x64x64 (constant (F := Ideal) S_ .f32 0xFF800000#32)))
    transposes_S4x8x8x64x64_S4x8x64x8x64_0_1_3_2_4) shapeCasts_S4x8x64x8x64_S4x8x64x512

/-- The columns' windows, in numbers. -/
theorem inWin_apply : ∀ q k : Fin 64, inWin (ix2 q k) = if min (q.val - 8) 48 ≤ k.val ∧ k.val < min (q.val - 8) 48 + 16 then 1#1 else 0#1 := by decide +kernel
/-- The distance of a key in the window. -/
theorem dcol_apply : ∀ q k : Fin 64, min (q.val - 8) 48 ≤ k.val → k.val < min (q.val - 8) 48 + 16 → dcol (ix2 q k) = BitVec.ofNat 32 (k.val + 15 - q.val) := by decide +kernel

/-- The row of ones picks the distance. -/
theorem oneHot_apply (c : Fin 31) (q k : Fin 64) (h0 : min (q.val - 8) 48 ≤ k.val) (h1 : k.val < min (q.val - 8) 48 + 16) :
    oneHot (ix3 c q k) = if c.val = k.val + 15 - q.val then (1 : EReal) else 0 := by
  have e1 : broadcastInDim S31x64x64 ![0, 1, 2] bcast_S1x64x64_S31x64x64_0_1_2 (broadcastInDim S1x64x64 ![1, 2] bcast_S64x64_S1x64x64_1_2 dcol) (ix3 c q k)
      = BitVec.ofNat 32 (k.val + 15 - q.val) := by
    rw [← dcol_apply q k h0 h1]
    refine congrArg dcol (funext fun a => Fin.ext ?_)
    match a with
    | ⟨0, _⟩ => rfl
    | ⟨1, _⟩ => rfl
  have e2 : broadcastInDim S31x64x64 ![0, 1, 2] bcast_S31x1x1_S31x64x64_0_1_2 (broadcastInDim S31x1x1 ![0] bcast_S31_S31x1x1_0 (iotaInDim S31 32 0)) (ix3 c q k)
      = BitVec.ofNat 32 c.val := rfl
  unfold oneHot
  show FloatOps.uitofp (F := Ideal) .f32 (Scalar.cmpi .eq _ _) = _
  rw [e1, e2]
  have hcmp : Scalar.cmpi .eq (BitVec.ofNat 32 (k.val + 15 - q.val)) (BitVec.ofNat 32 c.val) = if c.val = k.val + 15 - q.val then 1#1 else 0#1 := by
    show BitVec.ofBool (BitVec.ofNat 32 (k.val + 15 - q.val) == BitVec.ofNat 32 c.val) = _
    by_cases h : c.val = k.val + 15 - q.val
    · rw [if_pos h, ← h]; simp
    · rw [if_neg h]
      have : BitVec.ofNat 32 (k.val + 15 - q.val) ≠ BitVec.ofNat 32 c.val := by
        intro e
        have e' := congrArg BitVec.toNat e
        rw [BitVec.toNat_ofNat, BitVec.toNat_ofNat, Nat.mod_eq_of_lt (by omega), Nat.mod_eq_of_lt (by omega)] at e'
        exact h e'.symm
      rw [beq_eq_false_iff_ne.mpr this]; rfl
  rw [hcmp]
  split
  · show ((((1#1 : BitVec 1).toNat : ℕ) : ℝ) : EReal) = 1
    norm_num
  · show ((((0#1 : BitVec 1).toNat : ℕ) : ℝ) : EReal) = 0
    norm_num

theorem byCol_apply (r : FVec Ideal S4x15x31 .f32) (h : Fin 4) (d : Fin 15) (q k : Fin 64) (h0 : min (q.val - 8) 48 ≤ k.val) (h1 : k.val < min (q.val - 8) 48 + 16) :
    byCol r (ix4 h d q k) = r (ix3 h d ⟨k.val + 15 - q.val, by omega⟩) := by
  unfold byCol
  show FloatOps.dotGeneral _ _ _ r oneHot (ix4 h d q k) = _
  rw [Ideal.dotGeneral_apply, ← Equiv.sum_comp (contrEquiv1 dot_S4x15x31_S31x64x64_S4x15x64x64_2_0_01_12_n_n 31 rfl rfl).symm]
  have hs : ∀ c : Fin 31, r (dot_S4x15x31_S31x64x64_S4x15x64x64_2_0_01_12_n_n.lhsIdx (ix4 h d q k) ((contrEquiv1 _ 31 rfl rfl).symm c))
      * oneHot (dot_S4x15x31_S31x64x64_S4x15x64x64_2_0_01_12_n_n.rhsIdx (ix4 h d q k) ((contrEquiv1 _ 31 rfl rfl).symm c))
      = r (ix3 h d c) * (if c.val = k.val + 15 - q.val then (1 : EReal) else 0) := by
    intro c
    have c3 := contrEquiv1_symm_val dot_S4x15x31_S31x64x64_S4x15x64x64_2_0_01_12_n_n 31 rfl rfl c
    rw [← oneHot_apply c q k h0 h1]
    congr 2
    · funext ax; apply Fin.ext
      match ax with
      | ⟨0, _⟩ => simp [DotDims.lhsIdx]; rfl
      | ⟨1, _⟩ => simp [DotDims.lhsIdx]; rfl
      | ⟨2, _⟩ => simp [DotDims.lhsIdx]; exact c3
    · funext ax; apply Fin.ext
      match ax with
      | ⟨0, _⟩ => simp [DotDims.rhsIdx]; exact c3
      | ⟨1, _⟩ => simp [DotDims.rhsIdx]; rfl
      | ⟨2, _⟩ => simp [DotDims.rhsIdx]; rfl
  rw [Finset.sum_congr rfl fun c _ => hs c]
  rw [Finset.sum_eq_single (⟨k.val + 15 - q.val, by omega⟩ : Fin 31)]
  · rw [if_pos rfl, mul_one]
  · intro c _ hc
    rw [if_neg (fun e => hc (Fin.ext e)), mul_zero]
  · intro hc; exact absurd (Finset.mem_univ _) hc

theorem ofBits_neg_inf : Ideal.ofBits .f32 0xFF800000#32 = (⊥ : EReal) := by
  simp [Ideal.ofBits, Ideal.ieee]

/-- A row of biases read in a plane. -/
theorem plane_apply (r : FVec Ideal S4x15x31 .f32) (h : Fin 4) (v w : Fin 8) (q k : Fin 64) :
    plane r v (ix5 h 0 w q k) = byCol r (ix4 h ⟨7 - v.val + w.val, by omega⟩ q k) := by
  unfold plane
  refine congrArg (byCol r) (funext fun a => Fin.ext ?_)
  match a with
  | ⟨0, _⟩ => exact Nat.zero_add _
  | ⟨1, _⟩ => rfl
  | ⟨2, _⟩ => exact Nat.zero_add _
  | ⟨3, _⟩ => exact Nat.zero_add _

/-- An entry of the table. -/
theorem table_apply (r : FVec Ideal S4x15x31 .f32) (h : Fin 4) (v : Fin 8) (q : Fin 64) (w : Fin 8) (k : Fin 64) :
    table r (ix4 h v q ⟨64 * w.val + k.val, by omega⟩)
      = if H : min (q.val - 8) 48 ≤ k.val ∧ k.val < min (q.val - 8) 48 + 16 then r (ix3 h ⟨7 - v.val + w.val, by omega⟩ ⟨k.val + 15 - q.val, by omega⟩) else (⊥ : EReal) := by
  unfold table
  rw [shapeCast_apply _ _ (ix4 h v q ⟨64 * w.val + k.val, by omega⟩) (ix5 h v q w k) (by
    rw [Shape.rowMajor_val_five, Shape.rowMajor_val_four]
    show ((((h.val * 8 + v.val) * 64 + q.val) * 8 + w.val) * 64 + k.val) = (((h.val * 8 + v.val) * 64 + q.val) * 512 + (64 * w.val + k.val))
    omega)]
  have ht : ∀ X : S4x8x8x64x64.Idx → EReal, transpose S4x8x64x8x64 [0, 1, 3, 2, 4] X transposes_S4x8x8x64x64_S4x8x64x8x64_0_1_3_2_4 (ix5 h v q w k) = X (ix5 h v w q k) := by
    intro X
    refine congrArg X (funext fun a => Fin.ext ?_)
    match a with
    | ⟨0, _⟩ => rfl
    | ⟨1, _⟩ => rfl
    | ⟨2, _⟩ => rfl
    | ⟨3, _⟩ => rfl
    | ⟨4, _⟩ => rfl
  rw [ht]
  have hm : broadcastInDim S4x8x8x64x64 ![0, 1, 2, 3, 4] bcast_S1x1x1x64x64_S4x8x8x64x64_0_1_2_3_4 (broadcastInDim S1x1x1x64x64 ![3, 4] bcast_S64x64_S1x1x1x64x64_3_4 inWin) (ix5 h v w q k)
      = inWin (ix2 q k) := by
    refine congrArg inWin (funext fun a => Fin.ext ?_)
    match a with
    | ⟨0, _⟩ => rfl
    | ⟨1, _⟩ => rfl
  have hc := concatenate_ofFn_unit_apply (t := S4x8x8x64x64) 1 (fun v : Fin 8 => plane r v)
    concatenates_S4x1x8x64x64_S4x1x8x64x64_S4x1x8x64x64_S4x1x8x64x64_S4x1x8x64x64_S4x1x8x64x64_S4x1x8x64x64_S4x1x8x64x64_S4x8x8x64x64_d1 rfl rfl
    (ix5 h v w q k) v rfl (ix5 h 0 w q k) (by
      intro b hb
      match b with
      | ⟨0, _⟩ => rfl
      | ⟨1, _⟩ => exact absurd rfl hb
      | ⟨2, _⟩ => rfl
      | ⟨3, _⟩ => rfl
      | ⟨4, _⟩ => rfl)
  show Scalar.select (broadcastInDim S4x8x8x64x64 ![0, 1, 2, 3, 4] bcast_S1x1x1x64x64_S4x8x8x64x64_0_1_2_3_4 (broadcastInDim S1x1x1x64x64 ![3, 4] bcast_S64x64_S1x1x1x64x64_3_4 inWin) (ix5 h v w q k))
    _ (Ideal.ofBits .f32 0xFF800000#32) = _
  rw [hm, hc, inWin_apply, ofBits_neg_inf, plane_apply]
  by_cases H : min (q.val - 8) 48 ≤ k.val ∧ k.val < min (q.val - 8) 48 + 16
  · rw [if_pos H, dif_pos H]
    exact byCol_apply r h _ q k H.1 H.2
  · rw [if_neg H, dif_neg H]; rfl

/-- The distances before they are counted from zero. -/
def dclip : IVec S64x64 32 :=
  minsi (broadcastInDim S64x64 ![] bcast_S_S64x64 (constantI S_ 32 15#32))
    (maxsi (broadcastInDim S64x64 ![] bcast_S_S64x64 (constantI S_ 32 (-15#32)))
      (subi (broadcastInDim S64x64 ![0, 1] bcast_S1x64_S64x64_0_1 (broadcastInDim S1x64 ![1] bcast_S64_S1x64_1 (iotaInDim S64 32 0)))
        (broadcastInDim S64x64 ![0, 1] bcast_S64x1_S64x64_0_1 (broadcastInDim S64x1 ![0] bcast_S64_S64x1_0 (iotaInDim S64 32 0)))))

/-- The first four groups of the host's operations. -/
def opsA : List (HloOp τ sig (Elt Ideal)) := List.flatten [hostOps0, hostOps0_1, hostOps0_2, hostOps0_3]
/-- The group that builds the planes. -/
def opsB : List (HloOp τ sig (Elt Ideal)) := hostOps0_4
/-- The last two groups. -/
def opsC : List (HloOp τ sig (Elt Ideal)) := List.flatten [hostOps0_5, hostOps0_6]

theorem readA_win (W : Valuation τ sig (Elt Ideal)) : StableHlo.after opsA W (Proc.devRef .tc main_v16) = inWin := by
  unfold opsA hostOps0 hostOps0_1 hostOps0_2 hostOps0_3
  simp only [List.flatten_cons, List.flatten_nil, List.append_nil, List.cons_append, List.nil_append]
  after_reads_simp
  rfl
theorem readA_dist (W : Valuation τ sig (Elt Ideal)) : StableHlo.after opsA W (Proc.devRef .tc main_v22) = dclip := by
  unfold opsA hostOps0 hostOps0_1 hostOps0_2 hostOps0_3
  simp only [List.flatten_cons, List.flatten_nil, List.append_nil, List.cons_append, List.nil_append]
  after_reads_simp
  rfl
theorem readA_arg (W : Valuation τ sig (Elt Ideal)) : StableHlo.after opsA W (Proc.devRef .tc main_arg1) = W (Proc.devRef .tc main_arg1) := by
  unfold opsA hostOps0 hostOps0_1 hostOps0_2 hostOps0_3
  simp only [List.flatten_cons, List.flatten_nil, List.append_nil, List.cons_append, List.nil_append]
  after_reads_simp
theorem readC (W : Valuation τ sig (Elt Ideal)) (w : IVec S1x1x1x64x64 1) (hw : W (Proc.devRef .tc main_v52) = w) (p : FVec Ideal S4x8x8x64x64 .f32)
    (hp : W (Proc.devRef .tc main_v51) = p) (z : FVec Ideal S_ .f32) (hz : W (Proc.devRef .tc main_cst) = z) :
    StableHlo.after opsC W (Proc.devRef .tc main_v55) = shapeCast S4x8x64x512 (transpose S4x8x64x8x64 [0, 1, 3, 2, 4]
      (select (broadcastInDim S4x8x8x64x64 ![0, 1, 2, 3, 4] bcast_S1x1x1x64x64_S4x8x8x64x64_0_1_2_3_4 w) p (broadcastInDim S4x8x8x64x64 ![] bcast_S_S4x8x8x64x64 z))
      transposes_S4x8x8x64x64_S4x8x64x8x64_0_1_3_2_4) shapeCasts_S4x8x64x8x64_S4x8x64x512 := by
  subst hw hp hz
  unfold opsC hostOps0_5 hostOps0_6
  simp only [List.flatten_cons, List.flatten_nil, List.append_nil, List.cons_append, List.nil_append]
  after_reads_simp
  rfl
theorem readB_win (W : Valuation τ sig (Elt Ideal)) (w : IVec S64x64 1) (hw : W (Proc.devRef .tc main_v16) = w) :
    StableHlo.after opsB W (Proc.devRef .tc main_v52) = broadcastInDim S1x1x1x64x64 ![3, 4] bcast_S64x64_S1x1x1x64x64_3_4 w := by
  subst hw
  unfold opsB hostOps0_4
  after_reads_simp
theorem readB_cst (W : Valuation τ sig (Elt Ideal)) : StableHlo.after opsB W (Proc.devRef .tc main_cst) = constant (F := Ideal) S_ .f32 0xFF800000#32 := by
  unfold opsB hostOps0_4
  after_reads_simp

/-- The planes, each at its buffer. -/
theorem readB_planes (W : Valuation τ sig (Elt Ideal)) (hd : W (Proc.devRef .tc main_v22) = dclip)
    (r : FVec Ideal S4x15x31 .f32) (hr : W (Proc.devRef .tc main_arg1) = r) :
    StableHlo.upto opsB W 30 (Proc.devRef .tc main_v43) = plane r 0 ∧ StableHlo.upto opsB W 30 (Proc.devRef .tc main_v44) = plane r 1
      ∧ StableHlo.upto opsB W 30 (Proc.devRef .tc main_v45) = plane r 2 ∧ StableHlo.upto opsB W 30 (Proc.devRef .tc main_v46) = plane r 3
      ∧ StableHlo.upto opsB W 30 (Proc.devRef .tc main_v47) = plane r 4 ∧ StableHlo.upto opsB W 30 (Proc.devRef .tc main_v48) = plane r 5
      ∧ StableHlo.upto opsB W 30 (Proc.devRef .tc main_v49) = plane r 6 ∧ StableHlo.upto opsB W 30 (Proc.devRef .tc main_v50) = plane r 7 := by
  refine ⟨?_, ?_, ?_, ?_, ?_, ?_, ?_, ?_⟩
  all_goals
    unfold opsB hostOps0_4
    after_reads_simp
    rw [hr, hd]
    rfl

/-- The planes put together. -/
theorem readB_all (W : Valuation τ sig (Elt Ideal)) (p0 p1 p2 p3 p4 p5 p6 p7 : FVec Ideal S4x1x8x64x64 .f32)
    (h0 : StableHlo.upto opsB W 30 (Proc.devRef .tc main_v43) = p0) (h1 : StableHlo.upto opsB W 30 (Proc.devRef .tc main_v44) = p1)
    (h2 : StableHlo.upto opsB W 30 (Proc.devRef .tc main_v45) = p2) (h3 : StableHlo.upto opsB W 30 (Proc.devRef .tc main_v46) = p3)
    (h4 : StableHlo.upto opsB W 30 (Proc.devRef .tc main_v47) = p4) (h5 : StableHlo.upto opsB W 30 (Proc.devRef .tc main_v48) = p5)
    (h6 : StableHlo.upto opsB W 30 (Proc.devRef .tc main_v49) = p6) (h7 : StableHlo.upto opsB W 30 (Proc.devRef .tc main_v50) = p7) :
    StableHlo.after opsB W (Proc.devRef .tc main_v51)
      = concatenate S4x8x8x64x64 1 [⟨S4x1x8x64x64, p0⟩, ⟨S4x1x8x64x64, p1⟩, ⟨S4x1x8x64x64, p2⟩, ⟨S4x1x8x64x64, p3⟩, ⟨S4x1x8x64x64, p4⟩, ⟨S4x1x8x64x64, p5⟩,
          ⟨S4x1x8x64x64, p6⟩, ⟨S4x1x8x64x64, p7⟩]
        concatenates_S4x1x8x64x64_S4x1x8x64x64_S4x1x8x64x64_S4x1x8x64x64_S4x1x8x64x64_S4x1x8x64x64_S4x1x8x64x64_S4x1x8x64x64_S4x8x8x64x64_d1 := by
  subst h0 h1 h2 h3 h4 h5 h6 h7
  unfold opsB hostOps0_4
  after_reads_simp
  rfl

/-- What the kernel is handed is that table of the biases. -/
theorem bias_eq (m : (ℓ : Loc nD τ sig) → Buf (Elt Ideal) ℓ) (c : Dev nD) : V m c main_v55 = table (m ((c.tc : Thread nD τ).loc main_arg1)) := by
  have hs : List.flatten [hostOps0, hostOps0_1, hostOps0_2, hostOps0_3, hostOps0_4, hostOps0_5, hostOps0_6] = opsA ++ (opsB ++ opsC) := by
    simp only [opsA, opsB, opsC, List.flatten_cons, List.flatten_nil, List.append_nil, List.append_assoc]
  show StableHlo.after (List.flatten [hostOps0, hostOps0_1, hostOps0_2, hostOps0_3, hostOps0_4, hostOps0_5, hostOps0_6]) (fun b => m (c, b))
    (Proc.devRef .tc main_v55) = _
  rw [hs, StableHlo.after_append, StableHlo.after_append]
  obtain ⟨h0, h1, h2, h3, h4, h5, h6, h7⟩ := readB_planes (StableHlo.after opsA fun b => m (c, b)) (readA_dist _) _ (readA_arg _)
  exact readC _ _ (readB_win _ _ (readA_win _)) _ (readB_all _ _ _ _ _ _ _ _ _ h0 h1 h2 h3 h4 h5 h6 h7) _ (readB_cst _)

end Cert.KernelIdeal.NABias

end
-- ==== Proof.NA.Equation.lean ====
/- The kernel's attention and the reference's are one number, where the queries, the keys and the biases are finite. -/
module

public import proofs.«01_k».proof.Proof.NA.Ref
public import proofs.«01_k».proof.Proof.NA.Bias

@[expose] public section

set_option maxRecDepth 16384

noncomputable section

namespace Cert.NA

open Idealize.ShloMosaic hiding ix1 ix2 ix3 ix4 ix5 eq_ix1 eq_ix2 eq_ix3 eq_ix4 eq_ix5
open Idealize.ShloMosaic.ValueIdx
open Cert.KernelIdeal.NABias (table table_apply)
open Cert.ReferenceIdeal.NATables (keyOf variant_at)
open Cert.ReferenceIdeal.NAValue (at3 at3_eq)
open scoped BigOperators

variable (A : (⟨2, ![65536, 768]⟩ : Shape).Idx → EReal) (R : (⟨3, ![4, 15, 31]⟩ : Shape).Idx → EReal)

/-- Where place `i` of the window of a query in column `q` lies among the keys of eight rows. -/
def place (q : ℕ) (i : Fin 128) : Fin 512 := ⟨64 * (i.val / 16) + (min (q % 64 - 8) 48 + i.val % 16), by omega⟩

theorem place_injective (q : ℕ) : Function.Injective (place q) := by
  intro i j h
  have h' : 64 * (i.val / 16) + (min (q % 64 - 8) 48 + i.val % 16) = 64 * (j.val / 16) + (min (q % 64 - 8) 48 + j.val % 16) := congrArg Fin.val h
  exact Fin.ext (by omega)

/-- The biases, in numbers. -/
theorem table_at (h v q j : ℕ) (hh : h < 4) (hv : v < 8) (hq : q < 64) (hj : j < 512) :
    at4 (table R) h v q j = if min (q - 8) 48 ≤ j % 64 ∧ j % 64 < min (q - 8) 48 + 16 then at3 R h (7 - v + j / 64) (j % 64 + 15 - q) else (⊥ : EReal) := by
  rw [at4_eq (table R) hh hv hq hj]
  have e : (⟨j, hj⟩ : Fin 512) = ⟨64 * (⟨j / 64, by omega⟩ : Fin 8).val + (⟨j % 64, by omega⟩ : Fin 64).val, by show 64 * (j / 64) + j % 64 < 512; omega⟩ :=
    Fin.ext (by show j = 64 * (j / 64) + j % 64; omega)
  rw [e, table_apply]
  by_cases H : min (q - 8) 48 ≤ j % 64 ∧ j % 64 < min (q - 8) 48 + 16
  · rw [dif_pos H, if_pos H, at3_eq R hh (show 7 - v + j / 64 < 15 by omega) (show j % 64 + 15 - q < 31 by omega)]
  · rw [dif_neg H, if_neg H]

/-- In the window the two scores agree. -/
theorem score_place (n : Fin 65536) (l : Fin 256) (i : Fin 128) :
    score A (table R) n.val l.val (place n.val i) = Cert.ReferenceIdeal.NAValue.score A R n.val (l.val / 64) i.val := by
  have hv := variant_at n
  unfold score Cert.ReferenceIdeal.NAValue.score
  rw [table_at R _ _ _ _ (by omega) hv.2.1 (by omega) (place n.val i).isLt, dot_scaled _ _ _ (by norm_num)]
  have hp : (place n.val i).val = 64 * (i.val / 16) + (min (n.val % 64 - 8) 48 + i.val % 16) := rfl
  have hk : 64 * keyRow (n.val / 512) (n.val / 64 % 8) + (place n.val i).val = keyOf n.val i.val := by
    rw [hp]
    unfold keyOf
    omega
  rw [hk, if_pos (by rw [hp]; omega)]
  have e1 : (place n.val i).val / 64 = i.val / 16 := by rw [hp]; omega
  have e2 : (place n.val i).val % 64 = min (n.val % 64 - 8) 48 + i.val % 16 := by rw [hp]; omega
  rw [e1, e2]

/-- Outside it the kernel's score is minus infinity. -/
theorem score_outside (n : Fin 65536) (l : Fin 256) (j : Fin 512) (hj : ∀ i, place n.val i ≠ j) : score A (table R) n.val l.val j = ⊥ := by
  have hv := variant_at n
  unfold score
  rw [table_at R _ _ _ _ (by omega) hv.2.1 (by omega) j.isLt, if_neg, EReal.add_bot]
  intro H
  refine hj ⟨16 * (j.val / 64) + (j.val % 64 - min (n.val % 64 - 8) 48), by omega⟩ (Fin.ext ?_)
  show 64 * ((16 * (j.val / 64) + (j.val % 64 - min (n.val % 64 - 8) 48)) / 16)
    + (min (n.val % 64 - 8) 48 + (16 * (j.val / 64) + (j.val % 64 - min (n.val % 64 - 8) 48)) % 16) = j.val
  omega

/-- A score of finite numbers is finite. -/
theorem score_real (hA : ∀ (n : Fin 65536) (d : Fin 768), d.val < 512 → ∃ r : ℝ, A (ix2 n d) = r) (hR : ∀ h r s, ∃ x : ℝ, R (ix3 h r s) = x)
    (n h i : ℕ) (hh : h < 4) : ∃ x : ℝ, Cert.ReferenceIdeal.NAValue.score A R n h i = x := by
  have hA' : ∀ a b, b < 512 → ∃ r : ℝ, at2 A a b = r := by
    intro a b hb
    unfold at2
    split
    · exact hA _ _ hb
    · exact ⟨0, rfl⟩
  have hR' : ∀ a b c, ∃ r : ℝ, at3 R a b c = r := by
    intro a b c
    unfold at3
    split
    · exact hR _ _ _
    · exact ⟨0, rfl⟩
  choose q hq using fun d : Fin 64 => hA' n (h * 64 + d.val) (by omega)
  choose k hk using fun d : Fin 64 => hA' (keyOf n i) (256 + (h * 64 + d.val)) (by omega)
  obtain ⟨b, hb⟩ := hR' h (7 - variant (n / 512) (n / 64 % 8) + i / 16) (min (n % 64 - 8) 48 + i % 16 + 15 - n % 64)
  refine ⟨(∑ d, q d * k d) * (1 / 8) + b, ?_⟩
  unfold Cert.ReferenceIdeal.NAValue.score
  simp only [hq, hk, hb, ← EReal.coe_mul]
  rw [sum_coe, ← EReal.coe_mul, ← EReal.coe_add]

/-- The kernel's attention is the reference's. -/
theorem attn_eq (hA : ∀ (n : Fin 65536) (d : Fin 768), d.val < 512 → ∃ r : ℝ, A (ix2 n d) = r) (hR : ∀ h r s, ∃ x : ℝ, R (ix3 h r s) = x)
    (n : Fin 65536) (l : Fin 256) : attn A (table R) n.val l.val
      = meanSoft (fun i : Fin 128 => Cert.ReferenceIdeal.NAValue.score A R n.val (l.val / 64) i.val) fun i => at2 A (keyOf n.val i.val) (512 + l.val) := by
  choose s hs using fun i : Fin 128 => score_real A R hA hR n.val (l.val / 64) i.val (by omega)
  unfold attn
  rw [mean_window (by norm_num) (place n.val) (place_injective n.val) _ _ s (fun i => (score_place A R n l i).trans (hs i)) (score_outside A R n l)]
  simp only [hs]
  refine congrArg (meanSoft _) (funext fun i => ?_)
  congr 1
  show 64 * keyRow (n.val / 512) (n.val / 64 % 8) + (64 * (i.val / 16) + (min (n.val % 64 - 8) 48 + i.val % 16)) = keyOf n.val i.val
  unfold keyOf
  omega

end Cert.NA

end
-- ==== Proof.IFrame.RunA.lean ====
/- The frame of the program `KernelIdeal` for every contents of its four prefetched tables (RunA). -/
module

public import proofs.«01_k».proof.Proof.IFrame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1844000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S4x8x64x512 .f32) (harg12 : arg12.IsWhole) (arg13 : Memref sig .tc .vmem S512x256 .bf16) (harg13 : arg13.IsWhole) (arg14 : Memref sig .tc .vmem S1536x256 .bf16) (harg14 : arg14.IsWhole) (arg15 : Memref sig .tc .vmem S1536x256 .bf16) (harg15 : arg15.IsWhole)
    (x0 : Vec F S512x256 .bf16) (x1 : Vec F S512x256 .bf16) (x2 : Vec F S512x256 .bf16) (x3 : Vec F S512x256 .bf16) (x4 : Vec F S512x256 .bf16) (x5 : Vec F S512x256 .bf16) (x6 : Vec F S512x256 .bf16) (x7 : Vec F S4x8x64x512 .f32) (xt0 : TbBuf0 (F := F) c tbM0_0) (xt1 : TbBuf0 (F := F) c tbM0_1) (xt2 : TbBuf0 (F := F) c tbM0_2) (xt3 : TbBuf0 (F := F) c tbM0_3) :
    Σ' (L8 : List (View.Piece (Elt F) S512x256 .bf16)), Σ' (LT0 : List (View.Piece (Elt F) S1536x256 .bf16)), { LT1 : List (View.Piece (Elt F) S1536x256 .bf16) //
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f LT0) ∗ (∃ f, arg15.view.loc (c : Thread nD τ) ↦[arg15.view.set]{fullShare} arg15.view.writes (Elt F) f LT1) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_na i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15) K } := by
  refine ⟨?_, ?_, ?_, fun E K => ?run⟩
  case run =>
    simp only [cc0_na_eq_skeleton]; unfold cc0_na_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]; · iexists _; iexact H8
    isplitl [HS0]; · iexists _; iexact HS0
    isplitl [HS1]; · iexists _; iexact HS1
    isplitl [HT0]; · iexact HT0
    isplitl [HT1]; · iexact HT1
    isplitl [HT2]; · iexact HT2
    iexact HT3

end Cert.KernelIdeal.Gen

end
-- ==== Proof.NA.Pieces.lean ====
/- What one grid point stores: sixteen tiles, two per row of the block, each the attention of 64 queries for two heads. -/
module

public import proofs.«01_k».proof.Proof.IFrame.RunA

@[expose] public section

set_option maxRecDepth 16384

noncomputable section

namespace Cert.KernelIdeal.NAPieces

open Cert.KernelIdeal Cert.KernelIdeal.Gen Idealize.ShloMosaic Idealize.ShloMosaic.TcCoe

variable {F : FTy → Type} [FloatOps F]

/-- The queries of the first head of a pair, scaled, the other head's columns zero. -/
def qlo (q : Vec F S64x128 .bf16) : FVec F S64x128 .bf16 :=
  select k0_pay9 (mulf q (broadcast S64x128 (Scalar.ofBits .bf16 0x3E00#16))) (broadcast S64x128 (Scalar.ofBits .bf16 0x0000#16))
/-- The queries of the second head of a pair, scaled, the other head's columns zero. -/
def qhi (q : Vec F S64x128 .bf16) : FVec F S64x128 .bf16 :=
  select (xori k0_pay9 (constantI S64x128 1 1#1)) (mulf q (broadcast S64x128 (Scalar.ofBits .bf16 0x3E00#16)))
    (broadcast S64x128 (Scalar.ofBits .bf16 0x0000#16))
/-- The scores of 64 queries against 512 keys. -/
def scores (q : FVec F S64x128 .bf16) (k : Vec F S512x128 .bf16) (b : Vec F S1x1x64x512 .f32) : FVec F S64x512 .f32 :=
  addf (matmul dot_S64x128_S512x128_S64x512_1_1_0_0_n_n none q k (constant S64x512 .f32 0x00000000#32))
    (shapeCast S64x512 b shapeCasts_S1x1x64x512_S64x512)
/-- Their exponentials below the row maximum. -/
def expo (s : FVec F S64x512 .f32) : FVec F S64x512 .f32 :=
  exp (subf s (broadcastTo S64x512 (shapeCast S64x1 (multiReduction .maximumf [1] S64 s 0xFF800000#32 reduces_S64x512_S64 (.inl rfl) rfl)
    shapeCasts_S64_S64x1) broadcasts_S64x1_S64x512))
/-- The weighted mean of the values. -/
def mean (p : FVec F S64x512 .f32) (v : Vec F S512x128 .bf16) : FVec F S64x128 .f32 :=
  divf (matmul dot_S64x512_S512x128_S64x128_1_0_0_1_n_n none (truncf .bf16 p bitsLt_bf16_f32) v (constant S64x128 .f32 0x00000000#32))
    (broadcastTo S64x128 (shapeCast S64x1 (multiReduction .add [1] S64 p 0x00000000#32 reduces_S64x512_S64 (.inl rfl) rfl)
      shapeCasts_S64_S64x1) broadcasts_S64x1_S64x128)
/-- One tile: two heads of one row of 64 queries. -/
def tile (q : Vec F S64x128 .bf16) (k v : Vec F S512x128 .bf16) (b0 b1 : Vec F S1x1x64x512 .f32) : FVec F S64x128 .bf16 :=
  truncf .bf16 (select k0_pay9 (mean (expo (scores (qlo q) k b0)) v) (mean (expo (scores (qhi q) k b1)) v)) bitsLt_bf16_f32

variable (c : Dev nD) (i : grid0.Coords)
variable
  (arg5 : Memref sig .tc .vmem S512x256 .bf16) (harg5 : arg5.IsWhole)
  (arg6 : Memref sig .tc .vmem S512x256 .bf16) (harg6 : arg6.IsWhole)
  (arg7 : Memref sig .tc .vmem S512x256 .bf16) (harg7 : arg7.IsWhole)
  (arg8 : Memref sig .tc .vmem S512x256 .bf16) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S512x256 .bf16) (harg11 : arg11.IsWhole)
  (arg12 : Memref sig .tc .vmem S4x8x64x512 .f32) (harg12 : arg12.IsWhole)
  (arg13 : Memref sig .tc .vmem S512x256 .bf16) (harg13 : arg13.IsWhole)
  (arg14 : Memref sig .tc .vmem S1536x256 .bf16) (harg14 : arg14.IsWhole)
  (arg15 : Memref sig .tc .vmem S1536x256 .bf16) (harg15 : arg15.IsWhole)
  (x0 x1 x2 x3 x4 x5 x6 : Vec F S512x256 .bf16) (x7 : Vec F S4x8x64x512 .f32)
  (xt0 : TbBuf0 (F := F) c tbM0_0) (xt1 : TbBuf0 (F := F) c tbM0_1) (xt2 : TbBuf0 (F := F) c tbM0_2) (xt3 : TbBuf0 (F := F) c tbM0_3)

/-- A tile read from the buffers at given offsets. -/
def tileR (oq : Fin 2 → ℕ) (hq : ∀ a, oq a + S64x128.size a ≤ S512x256.size a)
    (ok : Fin 2 → ℕ) (hk : ∀ a, ok a + S512x128.size a ≤ S1536x256.size a)
    (o0 : Fin 4 → ℕ) (h0 : ∀ a, o0 a + S1x1x64x512.size a ≤ S4x8x64x512.size a)
    (o1 : Fin 4 → ℕ) (h1 : ∀ a, o1 a + S1x1x64x512.size a ≤ S4x8x64x512.size a) : FVec F S64x128 .bf16 :=
  tile (View.readAt (Elt F) arg5.view (Rect.unit (s := S512x256) oq S64x128.size hq).toLoadRect (harg5.unread x0))
    (View.readAt (Elt F) arg14.view (Rect.unit (s := S1536x256) ok S512x128.size hk).toLoadRect
      (arg14.view.writes (Elt F) arg14.view.junk (kernelRun0_A.sl.HS0_3 c arg6 harg6 arg7 harg7 arg8 harg8 x1 x2 x3)))
    (View.readAt (Elt F) arg15.view (Rect.unit (s := S1536x256) ok S512x128.size hk).toLoadRect
      (arg15.view.writes (Elt F) arg15.view.junk (kernelRun0_A.sl.HS1_3 c arg9 harg9 arg10 harg10 arg11 harg11 x4 x5 x6)))
    (View.readAt (Elt F) arg12.view (Rect.unit (s := S4x8x64x512) o0 S1x1x64x512.size h0).toLoadRect (harg12.unread x7))
    (View.readAt (Elt F) arg12.view (Rect.unit (s := S4x8x64x512) o1 S1x1x64x512.size h1).toLoadRect (harg12.unread x7))

/-- The word a row of the block reads from the table of first blocks. -/
def first0 (o : Fin 1 → ℕ) (h : ∀ a, o a + S1.size a ≤ S128.size a) : BitVec 32 :=
  View.readAt (Elt F) tbM0_0.view (Rect.unit (s := S128) o S1.size h).toLoadRect xt0 (Shape.Idx.first numel1_S1.ge)
/-- The word a row of the block reads from the table of last blocks. -/
def last0 (o : Fin 1 → ℕ) (h : ∀ a, o a + S1.size a ≤ S128.size a) : BitVec 32 :=
  View.readAt (Elt F) tbM0_1.view (Rect.unit (s := S128) o S1.size h).toLoadRect xt1 (Shape.Idx.first numel1_S1.ge)

set_option maxHeartbeats 4000000 in
/-- The pieces, last first. -/
theorem pieces : (kernelRun0_A c i arg5 harg5 arg6 harg6 arg7 harg7 arg8 harg8 arg9 harg9 arg10 harg10 arg11 harg11 arg12 harg12 arg13 harg13 arg14 harg14 arg15 harg15 x0 x1 x2 x3 x4 x5 x6 x7 xt0 xt1 xt2 xt3).1 =
    [⟨Rect.unit ![448, 128] ![64, 128] inb_S512x256_S64x128_448_128,
      tileR c arg5 harg5 arg6 harg6 arg7 harg7 arg8 harg8 arg9 harg9 arg10 harg10 arg11 harg11 arg12 harg12 arg14 arg15 x0 x1 x2 x3 x4 x5 x6 x7
        ![448, 128] inb_S512x256_S64x128_448_128 (k0_off54 (last0 c xt1 (k0_off50 i) (k0_off50_inb i))) (k0_off54_inb _ (k0_chk8_all _)) (k0_off55 (last0 c xt1 (k0_off50 i) (k0_off50_inb i))) (k0_off55_inb _ (k0_chk8_all _)) (k0_off56 (last0 c xt1 (k0_off50 i) (k0_off50_inb i))) (k0_off56_inb _ (k0_chk8_all _))⟩,
     ⟨Rect.unit ![448, 0] ![64, 128] inb_S512x256_S64x128_448_0,
      tileR c arg5 harg5 arg6 harg6 arg7 harg7 arg8 harg8 arg9 harg9 arg10 harg10 arg11 harg11 arg12 harg12 arg14 arg15 x0 x1 x2 x3 x4 x5 x6 x7
        ![448, 0] inb_S512x256_S64x128_448_0 (k0_off51 (last0 c xt1 (k0_off50 i) (k0_off50_inb i))) (k0_off51_inb _ (k0_chk8_all _)) (k0_off52 (last0 c xt1 (k0_off50 i) (k0_off50_inb i))) (k0_off52_inb _ (k0_chk8_all _)) (k0_off53 (last0 c xt1 (k0_off50 i) (k0_off50_inb i))) (k0_off53_inb _ (k0_chk8_all _))⟩,
     ⟨Rect.unit ![384, 128] ![64, 128] inb_S512x256_S64x128_384_128,
      tileR c arg5 harg5 arg6 harg6 arg7 harg7 arg8 harg8 arg9 harg9 arg10 harg10 arg11 harg11 arg12 harg12 arg14 arg15 x0 x1 x2 x3 x4 x5 x6 x7
        ![384, 128] inb_S512x256_S64x128_384_128 (k0_off47 (last0 c xt1 (k0_off43 i) (k0_off43_inb i))) (k0_off47_inb _ (k0_chk7_all _)) (k0_off48 (last0 c xt1 (k0_off43 i) (k0_off43_inb i))) (k0_off48_inb _ (k0_chk7_all _)) (k0_off49 (last0 c xt1 (k0_off43 i) (k0_off43_inb i))) (k0_off49_inb _ (k0_chk7_all _))⟩,
     ⟨Rect.unit ![384, 0] ![64, 128] inb_S512x256_S64x128_384_0,
      tileR c arg5 harg5 arg6 harg6 arg7 harg7 arg8 harg8 arg9 harg9 arg10 harg10 arg11 harg11 arg12 harg12 arg14 arg15 x0 x1 x2 x3 x4 x5 x6 x7
        ![384, 0] inb_S512x256_S64x128_384_0 (k0_off44 (last0 c xt1 (k0_off43 i) (k0_off43_inb i))) (k0_off44_inb _ (k0_chk7_all _)) (k0_off45 (last0 c xt1 (k0_off43 i) (k0_off43_inb i))) (k0_off45_inb _ (k0_chk7_all _)) (k0_off46 (last0 c xt1 (k0_off43 i) (k0_off43_inb i))) (k0_off46_inb _ (k0_chk7_all _))⟩,
     ⟨Rect.unit ![320, 128] ![64, 128] inb_S512x256_S64x128_320_128,
      tileR c arg5 harg5 arg6 harg6 arg7 harg7 arg8 harg8 arg9 harg9 arg10 harg10 arg11 harg11 arg12 harg12 arg14 arg15 x0 x1 x2 x3 x4 x5 x6 x7
        ![320, 128] inb_S512x256_S64x128_320_128 (k0_off40 (last0 c xt1 (k0_off36 i) (k0_off36_inb i))) (k0_off40_inb _ (k0_chk6_all _)) (k0_off41 (last0 c xt1 (k0_off36 i) (k0_off36_inb i))) (k0_off41_inb _ (k0_chk6_all _)) (k0_off42 (last0 c xt1 (k0_off36 i) (k0_off36_inb i))) (k0_off42_inb _ (k0_chk6_all _))⟩,
     ⟨Rect.unit ![320, 0] ![64, 128] inb_S512x256_S64x128_320_0,
      tileR c arg5 harg5 arg6 harg6 arg7 harg7 arg8 harg8 arg9 harg9 arg10 harg10 arg11 harg11 arg12 harg12 arg14 arg15 x0 x1 x2 x3 x4 x5 x6 x7
        ![320, 0] inb_S512x256_S64x128_320_0 (k0_off37 (last0 c xt1 (k0_off36 i) (k0_off36_inb i))) (k0_off37_inb _ (k0_chk6_all _)) (k0_off38 (last0 c xt1 (k0_off36 i) (k0_off36_inb i))) (k0_off38_inb _ (k0_chk6_all _)) (k0_off39 (last0 c xt1 (k0_off36 i) (k0_off36_inb i))) (k0_off39_inb _ (k0_chk6_all _))⟩,
     ⟨Rect.unit ![256, 128] ![64, 128] inb_S512x256_S64x128_256_128,
      tileR c arg5 harg5 arg6 harg6 arg7 harg7 arg8 harg8 arg9 harg9 arg10 harg10 arg11 harg11 arg12 harg12 arg14 arg15 x0 x1 x2 x3 x4 x5 x6 x7
        ![256, 128] inb_S512x256_S64x128_256_128 (k0_off33 (last0 c xt1 (k0_off29 i) (k0_off29_inb i))) (k0_off33_inb _ (k0_chk5_all _)) (k0_off34 (last0 c xt1 (k0_off29 i) (k0_off29_inb i))) (k0_off34_inb _ (k0_chk5_all _)) (k0_off35 (last0 c xt1 (k0_off29 i) (k0_off29_inb i))) (k0_off35_inb _ (k0_chk5_all _))⟩,
     ⟨Rect.unit ![256, 0] ![64, 128] inb_S512x256_S64x128_256_0,
      tileR c arg5 harg5 arg6 harg6 arg7 harg7 arg8 harg8 arg9 harg9 arg10 harg10 arg11 harg11 arg12 harg12 arg14 arg15 x0 x1 x2 x3 x4 x5 x6 x7
        ![256, 0] inb_S512x256_S64x128_256_0 (k0_off30 (last0 c xt1 (k0_off29 i) (k0_off29_inb i))) (k0_off30_inb _ (k0_chk5_all _)) (k0_off31 (last0 c xt1 (k0_off29 i) (k0_off29_inb i))) (k0_off31_inb _ (k0_chk5_all _)) (k0_off32 (last0 c xt1 (k0_off29 i) (k0_off29_inb i))) (k0_off32_inb _ (k0_chk5_all _))⟩,
     ⟨Rect.unit ![192, 128] ![64, 128] inb_S512x256_S64x128_192_128,
      tileR c arg5 harg5 arg6 harg6 arg7 harg7 arg8 harg8 arg9 harg9 arg10 harg10 arg11 harg11 arg12 harg12 arg14 arg15 x0 x1 x2 x3 x4 x5 x6 x7
        ![192, 128] inb_S512x256_S64x128_192_128 (k0_off26 (first0 c xt0 (k0_off22 i) (k0_off22_inb i))) (k0_off26_inb _ (k0_chk4_all _)) (k0_off27 (first0 c xt0 (k0_off22 i) (k0_off22_inb i))) (k0_off27_inb _ (k0_chk4_all _)) (k0_off28 (first0 c xt0 (k0_off22 i) (k0_off22_inb i))) (k0_off28_inb _ (k0_chk4_all _))⟩,
     ⟨Rect.unit ![192, 0] ![64, 128] inb_S512x256_S64x128_192_0,
      tileR c arg5 harg5 arg6 harg6 arg7 harg7 arg8 harg8 arg9 harg9 arg10 harg10 arg11 harg11 arg12 harg12 arg14 arg15 x0 x1 x2 x3 x4 x5 x6 x7
        ![192, 0] inb_S512x256_S64x128_192_0 (k0_off23 (first0 c xt0 (k0_off22 i) (k0_off22_inb i))) (k0_off23_inb _ (k0_chk4_all _)) (k0_off24 (first0 c xt0 (k0_off22 i) (k0_off22_inb i))) (k0_off24_inb _ (k0_chk4_all _)) (k0_off25 (first0 c xt0 (k0_off22 i) (k0_off22_inb i))) (k0_off25_inb _ (k0_chk4_all _))⟩,
     ⟨Rect.unit ![128, 128] ![64, 128] inb_S512x256_S64x128_128_128,
      tileR c arg5 harg5 arg6 harg6 arg7 harg7 arg8 harg8 arg9 harg9 arg10 harg10 arg11 harg11 arg12 harg12 arg14 arg15 x0 x1 x2 x3 x4 x5 x6 x7
        ![128, 128] inb_S512x256_S64x128_128_128 (k0_off19 (first0 c xt0 (k0_off15 i) (k0_off15_inb i))) (k0_off19_inb _ (k0_chk3_all _)) (k0_off20 (first0 c xt0 (k0_off15 i) (k0_off15_inb i))) (k0_off20_inb _ (k0_chk3_all _)) (k0_off21 (first0 c xt0 (k0_off15 i) (k0_off15_inb i))) (k0_off21_inb _ (k0_chk3_all _))⟩,
     ⟨Rect.unit ![128, 0] ![64, 128] inb_S512x256_S64x128_128_0,
      tileR c arg5 harg5 arg6 harg6 arg7 harg7 arg8 harg8 arg9 harg9 arg10 harg10 arg11 harg11 arg12 harg12 arg14 arg15 x0 x1 x2 x3 x4 x5 x6 x7
        ![128, 0] inb_S512x256_S64x128_128_0 (k0_off16 (first0 c xt0 (k0_off15 i) (k0_off15_inb i))) (k0_off16_inb _ (k0_chk3_all _)) (k0_off17 (first0 c xt0 (k0_off15 i) (k0_off15_inb i))) (k0_off17_inb _ (k0_chk3_all _)) (k0_off18 (first0 c xt0 (k0_off15 i) (k0_off15_inb i))) (k0_off18_inb _ (k0_chk3_all _))⟩,
     ⟨Rect.unit ![64, 128] ![64, 128] inb_S512x256_S64x128_64_128,
      tileR c arg5 harg5 arg6 harg6 arg7 harg7 arg8 harg8 arg9 harg9 arg10 harg10 arg11 harg11 arg12 harg12 arg14 arg15 x0 x1 x2 x3 x4 x5 x6 x7
        ![64, 128] inb_S512x256_S64x128_64_128 (k0_off12 (first0 c xt0 (k0_off8 i) (k0_off8_inb i))) (k0_off12_inb _ (k0_chk2_all _)) (k0_off13 (first0 c xt0 (k0_off8 i) (k0_off8_inb i))) (k0_off13_inb _ (k0_chk2_all _)) (k0_off14 (first0 c xt0 (k0_off8 i) (k0_off8_inb i))) (k0_off14_inb _ (k0_chk2_all _))⟩,
     ⟨Rect.unit ![64, 0] ![64, 128] inb_S512x256_S64x128_64_0,
      tileR c arg5 harg5 arg6 harg6 arg7 harg7 arg8 harg8 arg9 harg9 arg10 harg10 arg11 harg11 arg12 harg12 arg14 arg15 x0 x1 x2 x3 x4 x5 x6 x7
        ![64, 0] inb_S512x256_S64x128_64_0 (k0_off9 (first0 c xt0 (k0_off8 i) (k0_off8_inb i))) (k0_off9_inb _ (k0_chk2_all _)) (k0_off10 (first0 c xt0 (k0_off8 i) (k0_off8_inb i))) (k0_off10_inb _ (k0_chk2_all _)) (k0_off11 (first0 c xt0 (k0_off8 i) (k0_off8_inb i))) (k0_off11_inb _ (k0_chk2_all _))⟩,
     ⟨Rect.unit ![0, 128] ![64, 128] inb_S512x256_S64x128_0_128,
      tileR c arg5 harg5 arg6 harg6 arg7 harg7 arg8 harg8 arg9 harg9 arg10 harg10 arg11 harg11 arg12 harg12 arg14 arg15 x0 x1 x2 x3 x4 x5 x6 x7
        ![0, 128] inb_S512x256_S64x128_0_128 (k0_off5 (first0 c xt0 (k0_off1 i) (k0_off1_inb i))) (k0_off5_inb _ (k0_chk1_all _)) (k0_off6 (first0 c xt0 (k0_off1 i) (k0_off1_inb i))) (k0_off6_inb _ (k0_chk1_all _)) (k0_off7 (first0 c xt0 (k0_off1 i) (k0_off1_inb i))) (k0_off7_inb _ (k0_chk1_all _))⟩,
     ⟨Rect.unit ![0, 0] ![64, 128] inb_S512x256_S64x128_0_0,
      tileR c arg5 harg5 arg6 harg6 arg7 harg7 arg8 harg8 arg9 harg9 arg10 harg10 arg11 harg11 arg12 harg12 arg14 arg15 x0 x1 x2 x3 x4 x5 x6 x7
        ![0, 0] inb_S512x256_S64x128_0_0 (k0_off2 (first0 c xt0 (k0_off1 i) (k0_off1_inb i))) (k0_off2_inb _ (k0_chk1_all _)) (k0_off3 (first0 c xt0 (k0_off1 i) (k0_off1_inb i))) (k0_off3_inb _ (k0_chk1_all _)) (k0_off4 (first0 c xt0 (k0_off1 i) (k0_off1_inb i))) (k0_off4_inb _ (k0_chk1_all _))⟩] := by
  unfold kernelRun0_A; dsimp only; rfl

end Cert.KernelIdeal.NAPieces

end
-- ==== Proof.NA.Tile.lean ====
/- What one tile holds, over the extended reals: for each of 64 queries and each of the 128 columns of a pair of heads, the
   mean of 512 values weighted by the exponentials of the scores. -/
module

public import proofs.«01_k».proof.Proof.NA.Core
public import proofs.«01_k».proof.Proof.NA.Pieces
public import Idealize.ShloMosaic.Lib.MatmulPlain
public import Idealize.ShloMosaic.Lib.ValueIdx
public import Idealize.ShloMosaic.Lib.Pipeline.Value
public import Idealize.ShloMosaic.Lib.IdealHost

@[expose] public section

set_option maxRecDepth 16384

noncomputable section

namespace Cert.KernelIdeal.NATile

open Cert.KernelIdeal Cert.KernelIdeal.Gen Cert.KernelIdeal.NAPieces Idealize.ShloMosaic Idealize.ShloMosaic.TcCoe Idealize.ShloMosaic.ValueIdx
open scoped BigOperators

theorem ofBits_eighth_bf16 : Ideal.ofBits .bf16 0x3E00#16 = (((1 : ℝ) / 8 : ℝ) : EReal) := by
  simp [Ideal.ofBits, Ideal.ieee, -EReal.coe_mul]; norm_num
theorem ofBits_neg_inf_f32 : Ideal.ofBits .f32 0xFF800000#32 = ⊥ := by
  simp [Ideal.ofBits, Ideal.ieee]

/-- The lane mask of the first head of a pair. -/
theorem mask_apply (r : Fin 64) (l : Fin 128) : k0_pay9 (ix2 r l) = if l.val < 64 then 1#1 else 0#1 := by
  show Scalar.cmpi .slt (BitVec.ofNat 32 (0 * _ + l.val)) 64#32 = _
  have : ∀ l : Fin 128, Scalar.cmpi .slt (BitVec.ofNat 32 l.val) 64#32 = if l.val < 64 then 1#1 else 0#1 := by decide +kernel
  rw [← this l]; simp

theorem qlo_apply (q : Vec Ideal S64x128 .bf16) (r : Fin 64) (l : Fin 128) :
    qlo (F := Ideal) q (ix2 r l) = if l.val < 64 then q (ix2 r l) * (((1 : ℝ) / 8 : ℝ) : EReal) else (0 : EReal) := by
  show Scalar.select (k0_pay9 (ix2 r l)) (q (ix2 r l) * Ideal.ofBits .bf16 0x3E00#16 : EReal) (Ideal.ofBits .bf16 0x0000#16) = _
  rw [mask_apply, ofBits_eighth_bf16, Ideal.ofBits_zero_bf16]
  split
  · exact select_one _ _
  · exact select_zero _ _

theorem qhi_apply (q : Vec Ideal S64x128 .bf16) (r : Fin 64) (l : Fin 128) :
    qhi (F := Ideal) q (ix2 r l) = if l.val < 64 then (0 : EReal) else q (ix2 r l) * (((1 : ℝ) / 8 : ℝ) : EReal) := by
  show Scalar.select (k0_pay9 (ix2 r l) ^^^ 1#1) (q (ix2 r l) * Ideal.ofBits .bf16 0x3E00#16 : EReal) (Ideal.ofBits .bf16 0x0000#16) = _
  rw [mask_apply, ofBits_eighth_bf16, Ideal.ofBits_zero_bf16]
  split
  · exact select_zero _ _
  · exact select_one _ _

theorem sum_halves (f : Fin 128 → EReal) :
    ∑ d, f d = (∑ d : Fin 64, f ⟨d.val, by omega⟩) + ∑ d : Fin 64, f ⟨64 + d.val, by omega⟩ :=
  Fin.sum_univ_add (a := 64) (b := 64) f

theorem scores_apply (q : FVec Ideal S64x128 .bf16) (k : Vec Ideal S512x128 .bf16) (b : Vec Ideal S1x1x64x512 .f32)
    (r : Fin 64) (j : Fin 512) :
    scores (F := Ideal) q k b (ix2 r j) = (∑ d : Fin 128, (q (ix2 r d) * k (ix2 j d) : EReal)) + b (ix4 0 0 r j) := by
  have h1 : FloatOps.matmul (F := Ideal) (φ₁ := .bf16) (φ₂ := .bf16) dot_S64x128_S512x128_S64x512_1_1_0_0_n_n none q k (constant S64x512 .f32 0x00000000#32)
      (ix2 r j) = ∑ d : Fin 128, (q (ix2 r d) * k (ix2 j d) : EReal) := by
    refine (Ideal.matmul_transposedRhs_apply (M := 64) (K := 128) (N := 512) none q k (constant S64x512 .f32 0x00000000#32) r j).trans ?_
    show Ideal.ofBits .f32 0x00000000#32 + _ = _
    rw [Ideal.ofBits_zero_f32, zero_add]
  have h2 : shapeCast S64x512 b shapeCasts_S1x1x64x512_S64x512 (ix2 r j) = b (ix4 0 0 r j) := by
    refine shapeCast_apply _ _ _ _ ?_
    rw [Shape.rowMajor_val_four, Shape.rowMajor_val_two]
    show ((0 * 1 + 0) * 64 + r.val) * 512 + j.val = r.val * 512 + j.val
    omega
  exact congrArg₂ (fun x y : EReal => x + y) h1 h2

theorem column_apply {α : Type} (x : S64.Idx → α) (n : ℕ) (h : S64x1.Broadcasts ⟨2, ![64, n]⟩) (r : Fin 64) (j : Fin n) :
    broadcastTo ⟨2, ![64, n]⟩ (shapeCast S64x1 x shapeCasts_S64_S64x1) h (ix2 r j) = x (ix1 r) := by
  refine (broadcastTo_apply _ _ _ (ix2 r (0 : Fin 1)) ?_).trans (shapeCast_apply _ _ _ _ ?_)
  · intro a
    match a with
    | ⟨0, _⟩ => rfl
    | ⟨1, _⟩ => rfl
  · rw [Shape.rowMajor_val_one, Shape.rowMajor_val_two]
    show r.val = r.val * 1 + 0
    omega

theorem lift_row (r : Fin 64) (j : Fin 512) : reduces_S64x512_S64.lift (ix1 r) j = ix2 r j := by
  funext a; apply Fin.ext
  match a with
  | ⟨0, _⟩ => rfl
  | ⟨1, _⟩ => rfl

theorem expo_apply (s : FVec Ideal S64x512 .f32) (r : Fin 64) (j : Fin 512) :
    expo (F := Ideal) s (ix2 r j) = Ideal.exp ((s (ix2 r j) : EReal) - Cert.NA.top fun j => s (ix2 r j)) := by
  have h : broadcastTo S64x512 (shapeCast S64x1 (multiReduction .maximumf [1] S64 s 0xFF800000#32 reduces_S64x512_S64 (.inl rfl) rfl)
      shapeCasts_S64_S64x1) broadcasts_S64x1_S64x512 (ix2 r j) = Cert.NA.top fun j => s (ix2 r j) := by
    refine (column_apply _ 512 _ r j).trans ?_
    refine (Ideal.multiReduction_maximumf_single (a := 1) s _ _ _ _ _).trans ?_
    show Finset.univ.fold max (Ideal.ofBits .f32 0xFF800000#32) _ = _
    rw [ofBits_neg_inf_f32]
    exact congrArg (Finset.univ.fold max ⊥) (funext fun j => congrArg s (lift_row r j))
  exact congrArg (fun x : EReal => Ideal.exp ((s (ix2 r j) : EReal) - x)) h

theorem mean_apply (p : FVec Ideal S64x512 .f32) (v : Vec Ideal S512x128 .bf16) (r : Fin 64) (l : Fin 128) :
    mean (F := Ideal) p v (ix2 r l)
      = Ideal.div (∑ j : Fin 512, (p (ix2 r j) * v (ix2 j l) : EReal)) (∑ j : Fin 512, (p (ix2 r j) : EReal)) := by
  have h1 : FloatOps.matmul (F := Ideal) (φ₁ := .bf16) (φ₂ := .bf16) dot_S64x512_S512x128_S64x128_1_0_0_1_n_n none (truncf .bf16 p bitsLt_bf16_f32) v
      (constant S64x128 .f32 0x00000000#32) (ix2 r l) = ∑ j : Fin 512, (p (ix2 r j) * v (ix2 j l) : EReal) := by
    refine (Ideal.matmul_plain_apply (M := 64) (K := 512) (N := 128) none (truncf .bf16 p bitsLt_bf16_f32) v
      (constant S64x128 .f32 0x00000000#32) r l).trans ?_
    show Ideal.ofBits .f32 0x00000000#32 + _ = _
    rw [Ideal.ofBits_zero_f32, zero_add]; rfl
  have h2 : broadcastTo S64x128 (shapeCast S64x1 (multiReduction .add [1] S64 p 0x00000000#32 reduces_S64x512_S64 (.inl rfl) rfl)
      shapeCasts_S64_S64x1) broadcasts_S64x1_S64x128 (ix2 r l) = ∑ j : Fin 512, (p (ix2 r j) : EReal) := by
    refine (column_apply _ 128 _ r l).trans ?_
    refine (Ideal.multiReduction_add_single (a := 1) p _ _ _ _ _).trans ?_
    exact Finset.sum_congr rfl fun j _ => congrArg p (lift_row r j)
  exact congrArg₂ Ideal.div h1 h2

theorem head_apply (s : FVec Ideal S64x512 .f32) (v : Vec Ideal S512x128 .bf16) (r : Fin 64) (l : Fin 128) :
    mean (F := Ideal) (expo s) v (ix2 r l) = Cert.NA.meanLate (fun j => s (ix2 r j)) fun j => v (ix2 j l) := by
  rw [mean_apply]
  unfold Cert.NA.meanLate
  simp only [expo_apply]

/-- The first column of the head that column `l` of a pair belongs to. -/
def base (l : Fin 128) : ℕ := l.val / 64 * 64

theorem base_lt (l : Fin 128) (d : Fin 64) : base l + d.val < 128 := by unfold base; omega

/-- One column of one query of a tile. -/
theorem tile_apply (q : Vec Ideal S64x128 .bf16) (k v : Vec Ideal S512x128 .bf16) (b0 b1 : Vec Ideal S1x1x64x512 .f32) (r : Fin 64) (l : Fin 128) :
    tile (F := Ideal) q k v b0 b1 (ix2 r l) = Cert.NA.meanLate
      (fun j => (∑ d : Fin 64, (q (ix2 r ⟨base l + d.val, base_lt l d⟩) * (((1 : ℝ) / 8 : ℝ) : EReal) * k (ix2 j ⟨base l + d.val, base_lt l d⟩) : EReal))
        + (if l.val < 64 then b0 else b1) (ix4 0 0 r j)) fun j => v (ix2 j l) := by
  show Scalar.select (k0_pay9 (ix2 r l)) (mean (F := Ideal) (expo (scores (qlo q) k b0)) v (ix2 r l))
    (mean (F := Ideal) (expo (scores (qhi q) k b1)) v (ix2 r l)) = _
  rw [mask_apply, head_apply, head_apply]
  by_cases h : l.val < 64
  · have hb : base l = 0 := by unfold base; omega
    simp only [if_pos h]
    refine (select_one _ _).trans (congrArg (Cert.NA.meanLate · _) (funext fun j => ?_))
    rw [scores_apply, sum_halves]
    refine congrArg (fun x : EReal => x + _) ?_
    rw [Finset.sum_eq_zero (s := Finset.univ) (f := fun d : Fin 64 => (qlo (F := Ideal) q (ix2 r ⟨64 + d.val, _⟩) * k (ix2 j ⟨64 + d.val, _⟩) : EReal))
      (fun d _ => by rw [qlo_apply, if_neg (by simp), zero_mul]), add_zero]
    refine Finset.sum_congr rfl fun d _ => ?_
    rw [qlo_apply, if_pos d.isLt]
    simp only [hb, Nat.zero_add]
  · have hb : base l = 64 := by unfold base; omega
    simp only [if_neg h]
    refine (select_zero _ _).trans (congrArg (Cert.NA.meanLate · _) (funext fun j => ?_))
    rw [scores_apply, sum_halves]
    refine congrArg (fun x : EReal => x + _) ?_
    rw [Finset.sum_eq_zero (s := Finset.univ) (f := fun d : Fin 64 => (qhi (F := Ideal) q (ix2 r ⟨d.val, _⟩) * k (ix2 j ⟨d.val, _⟩) : EReal))
      (fun d _ => by rw [qhi_apply, if_pos d.isLt, zero_mul]), zero_add]
    refine Finset.sum_congr rfl fun d _ => ?_
    rw [qhi_apply, if_neg (by simp)]
    simp only [hb]

end Cert.KernelIdeal.NATile

end
-- ==== Proof.IFrame.Frame.lean ====
/- The frame of the program `KernelIdeal` for every contents of its four prefetched tables (Frame). -/
module

public import proofs.«01_k».proof.Proof.IFrame.RunA
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (16 stores of `S64x128`, checked by the kernel's evaluation: Lib/Ring.lean `Piece.tiledL`, linear in the pieces, through a loop's `@[irreducible]` trip theorem too), so they cover it. -/
theorem cover0_A_8 (c : Dev nD) (i : grid0.Coords) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S4x8x64x512 .f32) (harg12 : arg12.IsWhole) (arg13 : Memref sig .tc .vmem S512x256 .bf16) (harg13 : arg13.IsWhole) (arg14 : Memref sig .tc .vmem S1536x256 .bf16) (harg14 : arg14.IsWhole) (arg15 : Memref sig .tc .vmem S1536x256 .bf16) (harg15 : arg15.IsWhole)
    (x0 : Vec F S512x256 .bf16) (x1 : Vec F S512x256 .bf16) (x2 : Vec F S512x256 .bf16) (x3 : Vec F S512x256 .bf16) (x4 : Vec F S512x256 .bf16) (x5 : Vec F S512x256 .bf16) (x6 : Vec F S512x256 .bf16) (x7 : Vec F S4x8x64x512 .f32) (xt0 : TbBuf0 (F := F) c tbM0_0) (xt1 : TbBuf0 (F := F) c tbM0_1) (xt2 : TbBuf0 (F := F) c tbM0_2) (xt3 : TbBuf0 (F := F) c tbM0_3) (y : S512x256.Idx) :
    ∃ pc ∈ (kernelRun0_A c i arg5 harg5 arg6 harg6 arg7 harg7 arg8 harg8 arg9 harg9 arg10 harg10 arg11 harg11 arg12 harg12 arg13 harg13 arg14 harg14 arg15 harg15 x0 x1 x2 x3 x4 x5 x6 x7 xt0 xt1 xt2 xt3).1, y ∈ pc.1.set :=
  View.cover_of_tiledL (kernelRun0_A c i arg5 harg5 arg6 harg6 arg7 harg7 arg8 harg8 arg9 harg9 arg10 harg10 arg11 harg11 arg12 harg12 arg13 harg13 arg14 harg14 arg15 harg15 x0 x1 x2 x3 x4 x5 x6 x7 xt0 xt1 xt2 xt3).1 S64x128.size (by sl_kernel_rfl) y

/-- What the run leaves in output 8's staging buffer: its pieces read back over junk. -/
def out0_A_8 (c : Dev nD) (i : grid0.Coords) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S4x8x64x512 .f32) (harg12 : arg12.IsWhole) (arg13 : Memref sig .tc .vmem S512x256 .bf16) (harg13 : arg13.IsWhole) (arg14 : Memref sig .tc .vmem S1536x256 .bf16) (harg14 : arg14.IsWhole) (arg15 : Memref sig .tc .vmem S1536x256 .bf16) (harg15 : arg15.IsWhole)
    (x0 : Vec F S512x256 .bf16) (x1 : Vec F S512x256 .bf16) (x2 : Vec F S512x256 .bf16) (x3 : Vec F S512x256 .bf16) (x4 : Vec F S512x256 .bf16) (x5 : Vec F S512x256 .bf16) (x6 : Vec F S512x256 .bf16) (x7 : Vec F S4x8x64x512 .f32) (xt0 : TbBuf0 (F := F) c tbM0_0) (xt1 : TbBuf0 (F := F) c tbM0_1) (xt2 : TbBuf0 (F := F) c tbM0_2) (xt3 : TbBuf0 (F := F) c tbM0_3) : Vec F S512x256 .bf16 :=
  VO0_8.read (Elt F) (VO0_8.writes (Elt F) VO0_8.junk (kernelRun0_A c i arg5 harg5 arg6 harg6 arg7 harg7 arg8 harg8 arg9 harg9 arg10 harg10 arg11 harg11 arg12 harg12 arg13 harg13 arg14 harg14 arg15 harg15 x0 x1 x2 x3 x4 x5 x6 x7 xt0 xt1 xt2 xt3).1)

/-! ## What the outputs hold after each point -/

/-- What the outputs' staging buffers hold after the body at point `t`: the run's contents at
    the point's memrefs and input blocks. -/
def outsAt0 (hO : Ok m) (c : Dev nD) (t : Fin (cfgM m hO).N) : Vec F S512x256 .bf16 :=
  out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) (tbl m 3)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t)
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq, PhiA0_eq]
  unfold outsAt0
  unfold out0_A_8
  iintro ⟨⟨⟨⟨HS0, HS1⟩, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) (tbl m 3)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HT0]; · iexact HT0
  isplitl [HT1]; · iexact HT1
  isplitl [HT2]; · iexact HT2
  isplitl [HT3]; · iexact HT3
  iintro ⟨H0, H1, H2, H3, H4, H5, H6, H7, ⟨%e8, H8⟩, ⟨%fT0, HS0⟩, ⟨%fT1, HS1⟩, HT0, HT1, HT2, HT3⟩
  isplitl [HS0 HS1 Hg HT0 HT1 HT2 HT3]
  · isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run and the frame -/

-- `θ_run_frameP_shared`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (dats m hO) (A_eq m hO) (run_main m ρ hO)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`; here for every contents of the PREFETCHED TABLES, UNDER `Gen.Ok m` (the pipeline's side condition of
    them), which Proof.lean proves from the precondition: `⟨…, fun m ρ h => Cert.KernelIdeal.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO) ((θ_run defs _ _).mono (fun _ h => h.2) (run_main_quiescent m ρ hO))

end Cert.KernelIdeal.Gen

end
-- ==== Proof.NA.Block.lean ====
/- What one grid point leaves in its block of the result: the attention of its 512 queries, given what its nine buffers hold. -/
module

public import proofs.«01_k».proof.Proof.NA.Spec
public import proofs.«01_k».proof.Proof.NA.Tile
public import proofs.«01_k».proof.Proof.IFrame.Frame
public import Idealize.ShloMosaic.Lib.VecWindow

@[expose] public section

set_option maxRecDepth 16384

noncomputable section

namespace Cert.KernelIdeal.NABlock

open Cert.KernelIdeal Cert.KernelIdeal.Gen Cert.KernelIdeal.NAPieces Cert.KernelIdeal.NATile Cert.KernelIdeal.NATables
open Idealize.ShloMosaic Idealize.ShloMosaic.TcCoe Idealize.ShloMosaic.ValueIdx Cert.NA Idealize.SL.Sem
open scoped BigOperators

/-- The three blocks of keys (or values) one after another, as the buffer holds them. -/
def buf (x y z : Vec Ideal S512x256 .bf16) : S1536x256.Idx → EReal :=
  View.canon (Val := Elt Ideal) (e := .bf16) [⟨Rect.unit ![1024, 0] S512x256.size inb_S1536x256_S512x256_1024_0, z⟩,
    ⟨Rect.unit ![512, 0] S512x256.size inb_S1536x256_S512x256_512_0, y⟩,
    ⟨Rect.unit ![0, 0] S512x256.size inb_S1536x256_S512x256_0_0, x⟩]

/-- A row below the last block written is read from what was written before it. -/
theorem buf_below (o : ℕ) (h : ∀ a, (![o, 0] : Fin 2 → ℕ) a + S512x256.size a ≤ S1536x256.size a) (z : Vec Ideal S512x256 .bf16)
    (L : List (View.Piece (Elt Ideal) S1536x256 .bf16)) (n l : ℕ) (hn : n < 1536) (hl : l < 256) (ho : n < o) :
    View.canon (⟨Rect.unit (s := S1536x256) ![o, 0] S512x256.size h, z⟩ :: L) (ix2 ⟨n, hn⟩ ⟨l, hl⟩ : S1536x256.Idx)
      = View.canon L (ix2 ⟨n, hn⟩ ⟨l, hl⟩ : S1536x256.Idx) := by
  refine View.canon_cons_of_not_mem _ L ?_
  intro hm
  have h2 : o ≤ n := ((Rect.mem_set_unit (inb := h)).mp hm 0).1
  omega

/-- A row of the last block written. -/
theorem buf_in (o : ℕ) (h : ∀ a, (![o, 0] : Fin 2 → ℕ) a + S512x256.size a ≤ S1536x256.size a) (z : Vec Ideal S512x256 .bf16)
    (L : List (View.Piece (Elt Ideal) S1536x256 .bf16)) (n l : ℕ) (hn : n < 1536) (hl : l < 256) (ho : o ≤ n) (hi : n - o < 512) :
    View.canon (⟨Rect.unit (s := S1536x256) ![o, 0] S512x256.size h, z⟩ :: L) (ix2 ⟨n, hn⟩ ⟨l, hl⟩ : S1536x256.Idx)
      = at2 (M := 512) (N := 256) z (n - o) l := by
  have key : (ix2 ⟨n, hn⟩ ⟨l, hl⟩ : S1536x256.Idx) = (Rect.unit (s := S1536x256) ![o, 0] S512x256.size h).emb (ix2 ⟨n - o, hi⟩ ⟨l, hl⟩) := by
    funext a; apply Fin.ext
    match a with
    | ⟨0, _⟩ => show n = o + 1 * (n - o); omega
    | ⟨1, _⟩ => show l = 0 + 1 * l; omega
  rw [at2_eq (M := 512) (N := 256) z hi hl, key]
  exact View.canon_cons_emb (Rect.unit (s := S1536x256) ![o, 0] S512x256.size h) z L _

/-- A row of the buffer belongs to the block before, to this one or to the one after. -/
theorem buf_apply (x y z : Vec Ideal S512x256 .bf16) (n l : ℕ) (hn : n < 1536) (hl : l < 256) :
    at2 (M := 1536) (N := 256) (buf x y z) n l = if n < 512 then at2 (M := 512) (N := 256) x n l else if n < 1024 then at2 (M := 512) (N := 256) y (n - 512) l
      else at2 (M := 512) (N := 256) z (n - 1024) l := by
  rw [at2_eq _ hn hl]
  unfold buf
  by_cases h1 : n < 512
  · rw [if_pos h1]
    exact (buf_below _ _ _ _ n l hn hl (by omega)).trans ((buf_below _ _ _ _ n l hn hl (by omega)).trans (buf_in 0 _ _ _ n l hn hl (by omega) (by omega)))
  · rw [if_neg h1]
    by_cases h2 : n < 1024
    · rw [if_pos h2]
      exact (buf_below _ _ _ _ n l hn hl (by omega)).trans (buf_in _ _ _ _ n l hn hl (by omega) (by omega))
    · rw [if_neg h2]
      exact buf_in _ _ _ _ n l hn hl (by omega) (by omega)

/-- The window of row `a`, read in the buffer, is the window's rows of the whole array. -/
theorem buf_window (A : (⟨2, ![65536, 768]⟩ : Shape).Idx → EReal) (x y z : Vec Ideal S512x256 .bf16) (g o : ℕ)
    (hx : ∀ i l, i < 512 → l < 256 → at2 (M := 512) (N := 256) x i l = at2 A (512 * (if isFirst g then g else g - 1) + i) (o + l))
    (hy : ∀ i l, i < 512 → l < 256 → at2 (M := 512) (N := 256) y i l = at2 A (512 * g + i) (o + l))
    (hz : ∀ i l, i < 512 → l < 256 → at2 (M := 512) (N := 256) z i l = at2 A (512 * (if isLast g then g else g + 1) + i) (o + l))
    (h0 : isFirst 0 = true)
    (a j l : ℕ) (ha : a < 8) (hj : j < 512) (hl : l < 256) :
    at2 (M := 1536) (N := 256) (buf x y z) (64 * (if edge g a then 8 else a + 4) + j) l = at2 A (64 * keyRow g a + j) (o + l) := by
  have hg : isFirst g = false → 0 < g := by
    intro h; by_contra h'; have : g = 0 := by omega
    subst this; rw [h0] at h; cases h
  rw [buf_apply _ _ _ _ _ (by split <;> omega) hl]
  unfold keyRow
  by_cases he : edge g a = true
  · rw [if_pos he, if_pos he, if_neg (by omega), if_pos (by omega), hy _ _ (by omega) hl]
    congr 1; omega
  · rw [if_neg he, if_neg he]
    unfold edge at he
    by_cases h4 : a < 4
    · rw [if_pos h4] at he
      have hf : isFirst g = false := by simpa using he
      have := hg hf
      by_cases h5 : 64 * (a + 4) + j < 512
      · rw [if_pos h5, hx _ _ (by omega) hl, hf]
        congr 1; simp only [Bool.false_eq_true, if_false]; omega
      · rw [if_neg h5, if_pos (by omega), hy _ _ (by omega) hl]
        congr 1; omega
    · rw [if_neg h4] at he
      have hf : isLast g = false := by simpa using he
      rw [if_neg (by omega)]
      by_cases h5 : 64 * (a + 4) + j < 1024
      · rw [if_pos h5, hy _ _ (by omega) hl]
        congr 1; omega
      · rw [if_neg h5, hz _ _ (by omega) hl, hf]
        congr 1; simp only [Bool.false_eq_true, if_false]; omega

/-- A tile of row `a` of block `g` and heads `2p`, `2p + 1` is the attention of the row's queries in the heads' columns. -/
theorem tile_attn (A : (⟨2, ![65536, 768]⟩ : Shape).Idx → EReal) (B : (⟨4, ![4, 8, 64, 512]⟩ : Shape).Idx → EReal) (g a p : ℕ) (ha : a < 8) (hp : p < 2)
    (q : Vec Ideal S64x128 .bf16) (k v : Vec Ideal S512x128 .bf16) (b0 b1 : Vec Ideal S1x1x64x512 .f32)
    (hq : ∀ (r : Fin 64) (l : Fin 128), q (ix2 r l) = at2 A (512 * g + 64 * a + r.val) (128 * p + l.val))
    (hk : ∀ (j : Fin 512) (l : Fin 128), k (ix2 j l) = at2 A (64 * keyRow g a + j.val) (256 + (128 * p + l.val)))
    (hv : ∀ (j : Fin 512) (l : Fin 128), v (ix2 j l) = at2 A (64 * keyRow g a + j.val) (512 + (128 * p + l.val)))
    (h0 : ∀ (r : Fin 64) (j : Fin 512), b0 (ix4 0 0 r j) = at4 B (2 * p) (variant g a) r.val j.val)
    (h1 : ∀ (r : Fin 64) (j : Fin 512), b1 (ix4 0 0 r j) = at4 B (2 * p + 1) (variant g a) r.val j.val)
    (r : Fin 64) (l : Fin 128) :
    tile (F := Ideal) q k v b0 b1 (ix2 r l) = attn A B (512 * g + 64 * a + r.val) (128 * p + l.val) := by
  rw [tile_apply]
  have e1 : (512 * g + 64 * a + r.val) / 512 = g := by omega
  have e2 : (512 * g + 64 * a + r.val) / 64 % 8 = a := by omega
  have e3 : (512 * g + 64 * a + r.val) % 64 = r.val := by omega
  unfold attn
  refine congrArg₂ meanLate (funext fun j => ?_) (funext fun j => ?_)
  · unfold score
    rw [e1, e2, e3]
    refine congrArg₂ (fun x y : EReal => x + y) (Finset.sum_congr rfl fun d _ => ?_) ?_
    · rw [hq, hk]
      have e4 : 128 * p + (base l + d.val) = (128 * p + l.val) / 64 * 64 + d.val := by unfold base; omega
      simp only [e4]
    · by_cases h : l.val < 64
      · rw [if_pos h, h0]; congr 1; omega
      · rw [if_neg h, h1]; congr 1; omega
  · rw [hv, e1, e2]

/-- A box of a matrix, read at its own coordinates. -/
theorem ld2 {M N m n : ℕ} (X : (⟨2, ![M, N]⟩ : Shape).Idx → EReal) (o : Fin 2 → ℕ) (h : ∀ a, o a + (⟨2, ![m, n]⟩ : Shape).size a ≤ (⟨2, ![M, N]⟩ : Shape).size a)
    (r : Fin m) (l : Fin n) :
    X ((Rect.unit (s := ⟨2, ![M, N]⟩) o (⟨2, ![m, n]⟩ : Shape).size h).idx (ix2 r l)) = at2 X (o 0 + r.val) (o 1 + l.val) := by
  have h0 : o 0 + m ≤ M := h 0
  have h1 : o 1 + n ≤ N := h 1
  rw [at2_eq X (by omega) (by omega)]
  refine congrArg X (funext fun a => Fin.ext ?_)
  match a with
  | ⟨0, _⟩ => show o 0 + 1 * r.val = o 0 + r.val; omega
  | ⟨1, _⟩ => show o 1 + 1 * l.val = o 1 + l.val; omega

/-- A plane of the table of biases, read at its own coordinates. -/
theorem ld4 (X : (⟨4, ![4, 8, 64, 512]⟩ : Shape).Idx → EReal) (o : Fin 4 → ℕ) (h : ∀ a, o a + S1x1x64x512.size a ≤ S4x8x64x512.size a)
    (h2 : o 2 = 0) (h3 : o 3 = 0) (r : Fin 64) (j : Fin 512) :
    X ((Rect.unit (s := S4x8x64x512) o S1x1x64x512.size h).idx (ix4 0 0 r j)) = at4 X (o 0) (o 1) r.val j.val := by
  have e0 : o 0 + 1 ≤ 4 := h 0
  have e1 : o 1 + 1 ≤ 8 := h 1
  rw [at4_eq X (by omega) (by omega) r.isLt j.isLt]
  refine congrArg X (funext fun a => Fin.ext ?_)
  match a with
  | ⟨0, _⟩ => show o 0 + 1 * 0 = o 0; omega
  | ⟨1, _⟩ => show o 1 + 1 * 0 = o 1; omega
  | ⟨2, _⟩ => show o 2 + 1 * r.val = r.val; omega
  | ⟨3, _⟩ => show o 3 + 1 * j.val = j.val; omega

section
variable (c : Dev nD) (i : grid0.Coords)
variable
  (arg5 : Memref sig .tc .vmem S512x256 .bf16) (harg5 : arg5.IsWhole)
  (arg6 : Memref sig .tc .vmem S512x256 .bf16) (harg6 : arg6.IsWhole)
  (arg7 : Memref sig .tc .vmem S512x256 .bf16) (harg7 : arg7.IsWhole)
  (arg8 : Memref sig .tc .vmem S512x256 .bf16) (harg8 : arg8.IsWhole)
  (arg9 : Memref sig .tc .vmem S512x256 .bf16) (harg9 : arg9.IsWhole)
  (arg10 : Memref sig .tc .vmem S512x256 .bf16) (harg10 : arg10.IsWhole)
  (arg11 : Memref sig .tc .vmem S512x256 .bf16) (harg11 : arg11.IsWhole)
  (arg12 : Memref sig .tc .vmem S4x8x64x512 .f32) (harg12 : arg12.IsWhole)
  (arg13 : Memref sig .tc .vmem S512x256 .bf16) (harg13 : arg13.IsWhole)
  (arg14 : Memref sig .tc .vmem S1536x256 .bf16) (harg14 : arg14.IsWhole)
  (arg15 : Memref sig .tc .vmem S1536x256 .bf16) (harg15 : arg15.IsWhole)
  (x0 x1 x2 x3 x4 x5 x6 : Vec Ideal S512x256 .bf16) (x7 : Vec Ideal S4x8x64x512 .f32)
  (m : (ℓ : Loc nD τ sig) → Buf (Elt Ideal) ℓ)

/-- A whole block read back, reshaped to its own shape, is what was put there. -/
theorem whole_read (arg : Memref sig .tc .vmem S512x256 .bf16) (harg : arg.IsWhole) (x : Vec Ideal S512x256 .bf16)
    (h : ∀ a, (![0, 0] : Fin 2 → ℕ) a + S512x256.size a ≤ S512x256.size a) :
    shapeCast S512x256 (View.readAt (Elt Ideal) arg.view (Rect.unit (s := S512x256) ![0, 0] S512x256.size h).toLoadRect (harg.unread x)) shapeCasts_S512x256_S512x256 = x := by
  refine (shapeCast_self (s := S512x256) _ _).trans ?_
  refine (View.readAt_full arg.view _ h).trans ?_
  exact harg.read_unread x

/-- Three writes of equal contents leave equal buffers. -/
theorem three_writes {a a' b b' d d' : Vec Ideal S512x256 .bf16} (ha : a = a') (hb : b = b') (hd : d = d') :
    View.canon (Val := Elt Ideal) (e := .bf16) [⟨Rect.unit (s := S1536x256) ![1024, 0] S512x256.size inb_S1536x256_S512x256_1024_0, d⟩,
    ⟨Rect.unit ![512, 0] S512x256.size inb_S1536x256_S512x256_512_0, b⟩,
    ⟨Rect.unit ![0, 0] S512x256.size inb_S1536x256_S512x256_0_0, a⟩] = buf a' b' d' := by
  subst ha hb hd; rfl

/-- What the buffer of keys is after its three writes. -/
theorem keys_eq : View.canon (kernelRun0_A.sl.HS0_3 c arg6 harg6 arg7 harg7 arg8 harg8 x1 x2 x3) = buf x1 x2 x3 :=
  three_writes (whole_read arg6 harg6 x1 _) (whole_read arg7 harg7 x2 _) (whole_read arg8 harg8 x3 _)
/-- What the buffer of values is after its three writes. -/
theorem values_eq : View.canon (kernelRun0_A.sl.HS1_3 c arg9 harg9 arg10 harg10 arg11 harg11 x4 x5 x6) = buf x4 x5 x6 :=
  three_writes (whole_read arg9 harg9 x4 _) (whole_read arg10 harg10 x5 _) (whole_read arg11 harg11 x6 _)

/-- The table word a row reads says whether its block is a sequence's first. -/
theorem first_word (o : Fin 1 → ℕ) (h : ∀ a, o a + S1.size a ≤ S128.size a) (ho : o = k0_off1 i)
    (xt0 : TbBuf0 (F := Ideal) c tbM0_0) (ht0 : xt0 = tbl m 0) :
    first0 c xt0 o h = if isFirst (i 0).val then 1#32 else 0#32 := by
  subst ho
  unfold first0
  rw [ht0, tbl0]
  exact (congrArg lit0 (at_point i _ _)).trans (lit0_eq _)
/-- The table word a row reads says whether its block is a sequence's last. -/
theorem last_word (o : Fin 1 → ℕ) (h : ∀ a, o a + S1.size a ≤ S128.size a) (ho : o = k0_off1 i)
    (xt1 : TbBuf0 (F := Ideal) c tbM0_1) (ht1 : xt1 = tbl m 1) :
    last0 c xt1 o h = if isLast (i 0).val then 1#32 else 0#32 := by
  subst ho
  unfold last0
  rw [ht1, tbl1]
  exact (congrArg lit1 (at_point i _ _)).trans (lit1_eq _)

/-- One tile is the attention of its queries, in its columns. -/
theorem piece_at (A : (⟨2, ![65536, 768]⟩ : Shape).Idx → EReal) (B : (⟨4, ![4, 8, 64, 512]⟩ : Shape).Idx → EReal) (g : ℕ)
    (hx0 : ∀ i l, i < 512 → l < 256 → at2 (M := 512) (N := 256) x0 i l = at2 A (512 * g + i) l)
    (hx1 : ∀ i l, i < 512 → l < 256 → at2 (M := 512) (N := 256) x1 i l = at2 A (512 * (if isFirst g then g else g - 1) + i) (256 + l))
    (hx2 : ∀ i l, i < 512 → l < 256 → at2 (M := 512) (N := 256) x2 i l = at2 A (512 * g + i) (256 + l))
    (hx3 : ∀ i l, i < 512 → l < 256 → at2 (M := 512) (N := 256) x3 i l = at2 A (512 * (if isLast g then g else g + 1) + i) (256 + l))
    (hx4 : ∀ i l, i < 512 → l < 256 → at2 (M := 512) (N := 256) x4 i l = at2 A (512 * (if isFirst g then g else g - 1) + i) (512 + l))
    (hx5 : ∀ i l, i < 512 → l < 256 → at2 (M := 512) (N := 256) x5 i l = at2 A (512 * g + i) (512 + l))
    (hx6 : ∀ i l, i < 512 → l < 256 → at2 (M := 512) (N := 256) x6 i l = at2 A (512 * (if isLast g then g else g + 1) + i) (512 + l))
    (hx7 : x7 = B) (a p : ℕ) (ha : a < 8) (hp : p < 2)
    (oq : Fin 2 → ℕ) (hq : ∀ a, oq a + S64x128.size a ≤ S512x256.size a) (eq : oq = ![64 * a, 128 * p])
    (ok : Fin 2 → ℕ) (hk : ∀ a, ok a + S512x128.size a ≤ S1536x256.size a) (ek : ok = ![64 * (if edge g a then 8 else a + 4), 128 * p])
    (o0 : Fin 4 → ℕ) (h0 : ∀ a, o0 a + S1x1x64x512.size a ≤ S4x8x64x512.size a) (e0 : o0 = ![2 * p, variant g a, 0, 0])
    (o1 : Fin 4 → ℕ) (h1 : ∀ a, o1 a + S1x1x64x512.size a ≤ S4x8x64x512.size a) (e1 : o1 = ![2 * p + 1, variant g a, 0, 0])
    (x : S64x128.Idx) :
    tileR (F := Ideal) c arg5 harg5 arg6 harg6 arg7 harg7 arg8 harg8 arg9 harg9 arg10 harg10 arg11 harg11 arg12 harg12 arg14 arg15 x0 x1 x2 x3 x4 x5 x6 x7
        oq hq ok hk o0 h0 o1 h1 x
      = attn A B (512 * g + ((Rect.unit (s := S512x256) oq S64x128.size hq).emb x 0).val) ((Rect.unit (s := S512x256) oq S64x128.size hq).emb x 1).val := by
  have hfirst : isFirst 0 = true := rfl
  subst eq ek e0 e1 hx7
  have pos : ∀ (r : Fin 64) (l : Fin 128),
      512 * g + ((Rect.unit (s := S512x256) ![64 * a, 128 * p] S64x128.size hq).emb (ix2 r l) 0).val = 512 * g + 64 * a + r.val
      ∧ ((Rect.unit (s := S512x256) ![64 * a, 128 * p] S64x128.size hq).emb (ix2 r l) 1).val = 128 * p + l.val := by
    intro r l
    refine ⟨?_, ?_⟩
    · show 512 * g + (64 * a + 1 * r.val) = _; omega
    · show 128 * p + 1 * l.val = _; omega
  obtain ⟨r, l, rfl⟩ : ∃ (r : Fin 64) (l : Fin 128), x = ix2 r l := ⟨x 0, x 1, eq_ix2 x⟩
  refine Eq.trans ?_ (congrArg₂ (attn A x7) (pos r l).1.symm (pos r l).2.symm)
  refine tile_attn A x7 g a p ha hp _ _ _ _ _ ?_ ?_ ?_ ?_ ?_ _ _
  · intro r l
    rw [View.readAt_eq_ld, harg5.read_unread]
    refine (ld2 x0 _ hq r l).trans ?_
    show at2 (M := 512) (N := 256) x0 (64 * a + r.val) (128 * p + l.val) = _
    rw [hx0 _ _ (by omega) (by omega)]
    congr 1; omega
  · intro j l
    rw [View.readAt_writes_junk_eq_canon, keys_eq]
    refine (ld2 (buf x1 x2 x3) _ hk j l).trans ?_
    exact buf_window A x1 x2 x3 g 256 hx1 hx2 hx3 hfirst a j.val (128 * p + l.val) ha j.isLt (by omega)
  · intro j l
    rw [View.readAt_writes_junk_eq_canon, values_eq]
    refine (ld2 (buf x4 x5 x6) _ hk j l).trans ?_
    exact buf_window A x4 x5 x6 g 512 hx4 hx5 hx6 hfirst a j.val (128 * p + l.val) ha j.isLt (by omega)
  · intro r j
    rw [View.readAt_eq_ld, harg12.read_unread]
    exact ld4 x7 _ h0 rfl rfl r j
  · intro r j
    rw [View.readAt_eq_ld, harg12.read_unread]
    exact ld4 x7 _ h1 rfl rfl r j

set_option maxHeartbeats 4000000 in
/-- The block one grid point leaves. -/
theorem block_eq (xt0 : TbBuf0 (F := Ideal) c tbM0_0) (ht0 : xt0 = tbl m 0) (xt1 : TbBuf0 (F := Ideal) c tbM0_1) (ht1 : xt1 = tbl m 1)
    (xt2 : TbBuf0 (F := Ideal) c tbM0_2) (xt3 : TbBuf0 (F := Ideal) c tbM0_3)
    (A : (⟨2, ![65536, 768]⟩ : Shape).Idx → EReal) (B : (⟨4, ![4, 8, 64, 512]⟩ : Shape).Idx → EReal) (g : ℕ) (hg : (i 0).val = g)
    (hx0 : ∀ i l, i < 512 → l < 256 → at2 (M := 512) (N := 256) x0 i l = at2 A (512 * g + i) l)
    (hx1 : ∀ i l, i < 512 → l < 256 → at2 (M := 512) (N := 256) x1 i l = at2 A (512 * (if isFirst g then g else g - 1) + i) (256 + l))
    (hx2 : ∀ i l, i < 512 → l < 256 → at2 (M := 512) (N := 256) x2 i l = at2 A (512 * g + i) (256 + l))
    (hx3 : ∀ i l, i < 512 → l < 256 → at2 (M := 512) (N := 256) x3 i l = at2 A (512 * (if isLast g then g else g + 1) + i) (256 + l))
    (hx4 : ∀ i l, i < 512 → l < 256 → at2 (M := 512) (N := 256) x4 i l = at2 A (512 * (if isFirst g then g else g - 1) + i) (512 + l))
    (hx5 : ∀ i l, i < 512 → l < 256 → at2 (M := 512) (N := 256) x5 i l = at2 A (512 * g + i) (512 + l))
    (hx6 : ∀ i l, i < 512 → l < 256 → at2 (M := 512) (N := 256) x6 i l = at2 A (512 * (if isLast g then g else g + 1) + i) (512 + l))
    (hx7 : x7 = B) (y : S512x256.Idx) :
    View.canon (kernelRun0_A (F := Ideal) c i arg5 harg5 arg6 harg6 arg7 harg7 arg8 harg8 arg9 harg9 arg10 harg10 arg11 harg11 arg12 harg12 arg13 harg13 arg14 harg14 arg15 harg15 x0 x1 x2 x3 x4 x5 x6 x7 xt0 xt1 xt2 xt3).1 y
      = attn A B (512 * g + (y 0).val) (y 1).val := by
  have P := piece_at c arg5 harg5 arg6 harg6 arg7 harg7 arg8 harg8 arg9 harg9 arg10 harg10 arg11 harg11 arg12 harg12 arg14 arg15 x0 x1 x2 x3 x4 x5 x6 x7 A B g hx0 hx1 hx2 hx3 hx4 hx5 hx6 hx7
  refine View.canon_apply_of_pieces (Val := Elt Ideal) (e := .bf16) (fun y : S512x256.Idx => attn A B (512 * g + (y 0).val) (y 1).val) _ ?_ y (cover0_A_8 c i arg5 harg5 arg6 harg6 arg7 harg7 arg8 harg8 arg9 harg9 arg10 harg10 arg11 harg11 arg12 harg12 arg13 harg13 arg14 harg14 arg15 harg15 x0 x1 x2 x3 x4 x5 x6 x7 xt0 xt1 xt2 xt3 y)
  rw [pieces]
  simp only [List.forall_mem_cons]
  subst hg
  refine ⟨fun x => P 7 1 (by decide) (by decide) _ _ rfl _ _ ?_ _ _ ?_ _ _ ?_ x,
      fun x => P 7 0 (by decide) (by decide) _ _ rfl _ _ ?_ _ _ ?_ _ _ ?_ x,
      fun x => P 6 1 (by decide) (by decide) _ _ rfl _ _ ?_ _ _ ?_ _ _ ?_ x,
      fun x => P 6 0 (by decide) (by decide) _ _ rfl _ _ ?_ _ _ ?_ _ _ ?_ x,
      fun x => P 5 1 (by decide) (by decide) _ _ rfl _ _ ?_ _ _ ?_ _ _ ?_ x,
      fun x => P 5 0 (by decide) (by decide) _ _ rfl _ _ ?_ _ _ ?_ _ _ ?_ x,
      fun x => P 4 1 (by decide) (by decide) _ _ rfl _ _ ?_ _ _ ?_ _ _ ?_ x,
      fun x => P 4 0 (by decide) (by decide) _ _ rfl _ _ ?_ _ _ ?_ _ _ ?_ x,
      fun x => P 3 1 (by decide) (by decide) _ _ rfl _ _ ?_ _ _ ?_ _ _ ?_ x,
      fun x => P 3 0 (by decide) (by decide) _ _ rfl _ _ ?_ _ _ ?_ _ _ ?_ x,
      fun x => P 2 1 (by decide) (by decide) _ _ rfl _ _ ?_ _ _ ?_ _ _ ?_ x,
      fun x => P 2 0 (by decide) (by decide) _ _ rfl _ _ ?_ _ _ ?_ _ _ ?_ x,
      fun x => P 1 1 (by decide) (by decide) _ _ rfl _ _ ?_ _ _ ?_ _ _ ?_ x,
      fun x => P 1 0 (by decide) (by decide) _ _ rfl _ _ ?_ _ _ ?_ _ _ ?_ x,
      fun x => P 0 1 (by decide) (by decide) _ _ rfl _ _ ?_ _ _ ?_ _ _ ?_ x,
      fun x => P 0 0 (by decide) (by decide) _ _ rfl _ _ ?_ _ _ ?_ _ _ ?_ x, fun p hp => absurd hp (List.not_mem_nil)⟩
  all_goals simp only [variant, edge, Nat.reduceLT, if_true, if_false]
  all_goals
    first
    | rw [first_word c i m (ht0 := ht0)]
      · cases isFirst (i 0).val <;> rfl
      · rfl
    | rw [last_word c i m (ht1 := ht1)]
      · cases isLast (i 0).val <;> rfl
      · rfl

end

end Cert.KernelIdeal.NABlock

end
-- ==== Proof.NA.Array.lean ====
/- The array the kernel leaves: the attention of every query, from the array of queries, keys and values and the table of
   biases. -/
module

public import proofs.«01_k».proof.Proof.NA.Block
public import Idealize.ShloMosaic.Lib.Pipeline.ValueKit.Basic

@[expose] public section

set_option maxRecDepth 16384

noncomputable section

namespace Cert.KernelIdeal.NAArray

open Cert.KernelIdeal Cert.KernelIdeal.Gen Cert.KernelIdeal.NATables Cert.KernelIdeal.NABlock
open Idealize.ShloMosaic Idealize.ShloMosaic.TcCoe Idealize.ShloMosaic.ValueIdx Cert.NA Idealize.SL.Sem

variable (m : (ℓ : Loc nD τ sig) → Buf (Elt Ideal) ℓ)

/-- The queries, keys and values as the kernel finds them. -/
abbrev qkv (c : Dev nD) : (⟨2, ![65536, 768]⟩ : Shape).Idx → EReal := m ((c.tc : Thread nD τ).loc main_arg0)
/-- The table of biases as the kernel finds it. -/
abbrev bias (c : Dev nD) : (⟨4, ![4, 8, 64, 512]⟩ : Shape).Idx → EReal := V m c main_v55
/-- The array it leaves. -/
def result (c : Dev nD) : Buf (Elt Ideal) ((c.tc : Thread nD τ).loc main_v56) :=
  fun i : S65536x256.Idx => attn (qkv m c) (bias m c) (i 0).val (i 1).val

/-- The only coordinate of a grid point is its number. -/
theorem coords_val : ∀ t : Fin grid0.N, (grid0.coords t 0).val = t.val := by decide +kernel

/-- What grid point `t` reads through the window of block index `f`, in terms of the whole array. -/
def Reads (A : (⟨2, ![65536, 768]⟩ : Shape).Idx → EReal) (x : (⟨2, ![512, 256]⟩ : Shape).Idx → EReal) (f : Fin 2 → ℕ) : Prop :=
  ∀ y : (⟨2, ![512, 256]⟩ : Shape).Idx, ∃ z : (⟨2, ![65536, 768]⟩ : Shape).Idx, x y = A z ∧ (z 0).val = f 0 * 512 + (y 0).val ∧ (z 1).val = f 1 * 256 + (y 1).val

/-- A block of the array of queries, keys and values, at its own coordinates. -/
theorem block_read (A : (⟨2, ![65536, 768]⟩ : Shape).Idx → EReal) (x : (⟨2, ![512, 256]⟩ : Shape).Idx → EReal) (f : Fin 2 → ℕ) (a b : ℕ) (hf : f = ![a, b])
    (hx : Reads A x f)
    (i l : ℕ) (hi : i < 512) (hl : l < 256) : at2 x i l = at2 A (512 * a + i) (256 * b + l) := by
  subst hf
  obtain ⟨z, hz, h0, h1⟩ := hx (ix2 ⟨i, hi⟩ ⟨l, hl⟩)
  have e0 : (z 0).val = a * 512 + i := h0
  have e1 : (z 1).val = b * 256 + l := h1
  rw [at2_eq x hi hl, hz, eq_ix2 z]
  refine (at2_ix2 A (z 0) (z 1)).trans ?_
  rw [e0, e1]; congr 1 <;> omega

variable (hO : Ok m) (c : Dev nD) (t : Fin (cfgM m hO).N)

theorem reads0 : Reads (qkv m c) (iblk m hO c 0 t) (cc0_transform_0 (grid0.coords t)) := fun y =>
  ⟨(((cfgM m hO).win 0).rect t).emb y, congrFun (V_main_arg0 m c) _, Pipeline.Window.rect_emb_val ((cfgM m hO).win 0) t y (0 : Fin 2), Pipeline.Window.rect_emb_val ((cfgM m hO).win 0) t y (1 : Fin 2)⟩
theorem index1 : (((cfgM m hO).win 1).index t : Fin 2 → ℕ) = cc0_transform_1 k0_off1_inb numel1_S1 (tbl m) (grid0.coords t) := rfl
theorem reads1 : Reads (qkv m c) (iblk m hO c 1 t) (((cfgM m hO).win 1).index t) := fun y =>
  ⟨(((cfgM m hO).win 1).rect t).emb y, congrFun (V_main_arg0 m c) _, Pipeline.Window.rect_emb_val ((cfgM m hO).win 1) t y (0 : Fin 2), Pipeline.Window.rect_emb_val ((cfgM m hO).win 1) t y (1 : Fin 2)⟩
theorem reads2 : Reads (qkv m c) (iblk m hO c 2 t) (cc0_transform_2 (grid0.coords t)) := fun y =>
  ⟨(((cfgM m hO).win 2).rect t).emb y, congrFun (V_main_arg0 m c) _, Pipeline.Window.rect_emb_val ((cfgM m hO).win 2) t y (0 : Fin 2), Pipeline.Window.rect_emb_val ((cfgM m hO).win 2) t y (1 : Fin 2)⟩
theorem index3 : (((cfgM m hO).win 3).index t : Fin 2 → ℕ) = cc0_transform_3 k0_off1_inb numel1_S1 (tbl m) (grid0.coords t) := rfl
theorem reads3 : Reads (qkv m c) (iblk m hO c 3 t) (((cfgM m hO).win 3).index t) := fun y =>
  ⟨(((cfgM m hO).win 3).rect t).emb y, congrFun (V_main_arg0 m c) _, Pipeline.Window.rect_emb_val ((cfgM m hO).win 3) t y (0 : Fin 2), Pipeline.Window.rect_emb_val ((cfgM m hO).win 3) t y (1 : Fin 2)⟩
theorem index4 : (((cfgM m hO).win 4).index t : Fin 2 → ℕ) = cc0_transform_4 k0_off1_inb numel1_S1 (tbl m) (grid0.coords t) := rfl
theorem reads4 : Reads (qkv m c) (iblk m hO c 4 t) (((cfgM m hO).win 4).index t) := fun y =>
  ⟨(((cfgM m hO).win 4).rect t).emb y, congrFun (V_main_arg0 m c) _, Pipeline.Window.rect_emb_val ((cfgM m hO).win 4) t y (0 : Fin 2), Pipeline.Window.rect_emb_val ((cfgM m hO).win 4) t y (1 : Fin 2)⟩
theorem reads5 : Reads (qkv m c) (iblk m hO c 5 t) (cc0_transform_5 (grid0.coords t)) := fun y =>
  ⟨(((cfgM m hO).win 5).rect t).emb y, congrFun (V_main_arg0 m c) _, Pipeline.Window.rect_emb_val ((cfgM m hO).win 5) t y (0 : Fin 2), Pipeline.Window.rect_emb_val ((cfgM m hO).win 5) t y (1 : Fin 2)⟩
theorem index6 : (((cfgM m hO).win 6).index t : Fin 2 → ℕ) = cc0_transform_6 k0_off1_inb numel1_S1 (tbl m) (grid0.coords t) := rfl
theorem reads6 : Reads (qkv m c) (iblk m hO c 6 t) (((cfgM m hO).win 6).index t) := fun y =>
  ⟨(((cfgM m hO).win 6).rect t).emb y, congrFun (V_main_arg0 m c) _, Pipeline.Window.rect_emb_val ((cfgM m hO).win 6) t y (0 : Fin 2), Pipeline.Window.rect_emb_val ((cfgM m hO).win 6) t y (1 : Fin 2)⟩

/-- The table of biases is handed over whole. -/
theorem reads7 : (iblk m hO c 7 t : S4x8x64x512.Idx → EReal) = bias m c := by
  funext y
  refine congrArg (V m c main_v55) (funext fun a => Fin.ext ?_)
  refine (Pipeline.Window.rect_emb_val ((cfgM m hO).win 7) t y a).trans ?_
  fin_cases a <;> exact Nat.zero_add _

theorem transform_mid (n : ℕ) (h : n < 128) (k : BitVec 32) : (![(BitVec.ofNat 32 n).toNat, k.toNat] : Fin 2 → ℕ) = ![n, k.toNat] := by
  rw [BitVec.toNat_ofNat, Nat.mod_eq_of_lt (by omega)]

/-- The block point `t` leaves. -/
theorem outs_eq (y : S512x256.Idx) : (outsAt0 m hO c t : S512x256.Idx → EReal) y = attn (qkv m c) (bias m c) (512 * t.val + (y 0).val) (y 1).val := by
  have hc := coords_val t
  have hlt := coord_lt (grid0.coords t)
  unfold outsAt0 out0_A_8
  refine (congrFun (View.read_writes_eq_canon VO0_8 VO0_8.junk _ (cover0_A_8 c _ _ _ _ _ _ _ _ _ _ _ _ _ _ _ _ _ _ _ _ _ _ _ _ _ _ _ _ _ _ _ _ _ _ _)) y).trans ?_
  refine block_eq c (grid0.coords t) _ _ _ _ _ _ _ _ _ _ _ _ _ _ _ _ _ _ _ _ _ _ _ _ _ _ _ _ _ _ m (tbl m 0) rfl (tbl m 1) rfl _ _
    (qkv m c) (bias m c) t.val hc ?_ ?_ ?_ ?_ ?_ ?_ ?_ (reads7 m hO c t) y
  · intro i l hi hl
    have := block_read _ _ _ _ _ (transform_mid _ hlt 0#32) (reads0 m hO c t) i l hi hl
    rw [hc] at this; refine this.trans ?_; congr 1; exact Nat.zero_add _
  · intro i l hi hl
    have := block_read _ _ _ _ _ ((index1 m hO t).trans (transform_1_eq m _)) (reads1 m hO c t) i l hi hl
    rw [hc] at this; exact this
  · intro i l hi hl
    have := block_read _ _ _ _ _ (transform_mid _ hlt 1#32) (reads2 m hO c t) i l hi hl
    rw [hc] at this; exact this
  · intro i l hi hl
    have := block_read _ _ _ _ _ ((index3 m hO t).trans (transform_3_eq m _)) (reads3 m hO c t) i l hi hl
    rw [hc] at this; exact this
  · intro i l hi hl
    have := block_read _ _ _ _ _ ((index4 m hO t).trans (transform_4_eq m _)) (reads4 m hO c t) i l hi hl
    rw [hc] at this; exact this
  · intro i l hi hl
    have := block_read _ _ _ _ _ (transform_mid _ hlt 2#32) (reads5 m hO c t) i l hi hl
    rw [hc] at this; exact this
  · intro i l hi hl
    have := block_read _ _ _ _ _ ((index6 m hO t).trans (transform_6_eq m _)) (reads6 m hO c t) i l hi hl
    rw [hc] at this; exact this

theorem transform_8_eq (i : grid0.Coords) : cc0_transform_8 i = ![(i 0).val, 0] := transform_mid _ (coord_lt i) 0#32

/-- Each block goes to its place in the whole. -/
theorem flushed_eq : (dats m hO 0 c).flushed 8 t = (((cfgM m hO).win 8).blk t).view.read (Elt Ideal) (result m c) := by
  show ((cfgM m hO).win 8).cut (grid0.coords t) ((dats m hO 0 c).after 8 t) = _
  rw [after0_8]
  funext y
  refine (outs_eq m hO c t _).trans ?_
  have e0 := Pipeline.Window.rect_emb_val ((cfgM m hO).win 8) t y (0 : Fin 2)
  have e1 := Pipeline.Window.rect_emb_val ((cfgM m hO).win 8) t y (1 : Fin 2)
  have hi0 : ((cfgM m hO).win 8).index t (0 : Fin 2) = t.val := (congrFun (transform_8_eq (grid0.coords t)) 0).trans (coords_val t)
  have hi1 : ((cfgM m hO).win 8).index t (1 : Fin 2) = 0 := congrFun (transform_8_eq (grid0.coords t)) 1
  rw [hi0] at e0; rw [hi1] at e1
  refine congrArg₂ (attn (qkv m c) (bias m c)) (Eq.trans ?_ e0.symm) (Eq.trans ?_ e1.symm)
  · show 512 * t.val + _ = t.val * 512 + _
    rw [Nat.mul_comm]
  · show _ = 0 * 256 + _
    rw [Nat.zero_mul, Nat.zero_add]

theorem final : (dats m hO 0 c).arrAt 8 (cfgM m hO).N = result m c :=
  (dats m hO 0 c).arrAt_eq_of_cover 8 (result m c) (fun t _ => flushed_eq m hO c t) fun i => by
    have hN : (cfgM m hO).N = 128 := N_0
    have h0 : (i (0 : Fin 2) : ℕ) < 65536 := (i (0 : Fin 2)).isLt
    have h1 : (i (1 : Fin 2) : ℕ) < 256 := (i (1 : Fin 2)).isLt
    have ht : (i (0 : Fin 2) : ℕ) / 512 < (cfgM m hO).N := by rw [hN]; omega
    refine ⟨⟨(i (0 : Fin 2) : ℕ) / 512, ht⟩, flush0_8 _ _, ?_⟩
    refine (Finset.ext_iff.mp (View.set_slice_whole main_v56 (((cfgM m hO).win 8).rect ⟨_, ht⟩)) i).mpr ?_
    refine (Pipeline.Window.mem_rect_iff ((cfgM m hO).win 8) ⟨_, ht⟩ i).mpr ?_
    have hi := transform_8_eq (grid0.coords (⟨(i (0 : Fin 2) : ℕ) / 512, ht⟩ : Fin grid0.N))
    rw [coords_val] at hi
    have hi0 : ((cfgM m hO).win 8).index ⟨_, ht⟩ (0 : Fin 2) = (i (0 : Fin 2) : ℕ) / 512 := congrFun hi 0
    have hi1 : ((cfgM m hO).win 8).index ⟨_, ht⟩ (1 : Fin 2) = 0 := congrFun hi 1
    intro a
    match a with
    | ⟨0, _⟩ =>
      show ((cfgM m hO).win 8).index ⟨_, ht⟩ (0 : Fin 2) * 512 ≤ (i (0 : Fin 2) : ℕ) ∧ (i (0 : Fin 2) : ℕ) < ((cfgM m hO).win 8).index ⟨_, ht⟩ (0 : Fin 2) * 512 + 512
      rw [hi0]; omega
    | ⟨1, _⟩ =>
      show ((cfgM m hO).win 8).index ⟨_, ht⟩ (1 : Fin 2) * 256 ≤ (i (1 : Fin 2) : ℕ) ∧ (i (1 : Fin 2) : ℕ) < ((cfgM m hO).win 8).index ⟨_, ht⟩ (1 : Fin 2) * 256 + 256
      rw [hi1]; omega

end Cert.KernelIdeal.NAArray

end
-- ==== Proof.KFrame.RunA.lean ====
/- The frame of the program `Kernel` for every contents of its four prefetched tables (RunA). -/
module

public import proofs.«01_k».proof.Proof.KFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1844000 in
/-- The body's triple: on whole staging memrefs — the inputs' at their contents,
    the FORGOTTEN outputs' (8) at anything, handed back at some contents nothing names —
    the body runs to the continuation holding the inputs' as they were, the scratch at some contents: the printed functions are their skeletons (`Gen.*_eq_skeleton`),
    which `sl_exec` runs (Lib/Exec.lean). -/
theorem kernelRun0_A (c : Dev nD) (i : grid0.Coords) (arg5 : Memref sig .tc .vmem S512x256 .bf16) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S4x8x64x512 .f32) (harg12 : arg12.IsWhole) (arg13 : Memref sig .tc .vmem S512x256 .bf16) (harg13 : arg13.IsWhole) (arg14 : Memref sig .tc .vmem S1536x256 .bf16) (harg14 : arg14.IsWhole) (arg15 : Memref sig .tc .vmem S1536x256 .bf16) (harg15 : arg15.IsWhole)
    (x0 : Vec F S512x256 .bf16) (x1 : Vec F S512x256 .bf16) (x2 : Vec F S512x256 .bf16) (x3 : Vec F S512x256 .bf16) (x4 : Vec F S512x256 .bf16) (x5 : Vec F S512x256 .bf16) (x6 : Vec F S512x256 .bf16) (x7 : Vec F S4x8x64x512 .f32) (xt0 : TbBuf0 (F := F) c tbM0_0) (xt1 : TbBuf0 (F := F) c tbM0_1) (xt2 : TbBuf0 (F := F) c tbM0_2) (xt3 : TbBuf0 (F := F) c tbM0_3) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2 ∗ tbPt0 c tbM0_3 xt3
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ d, owns (c : Thread nD τ) arg13 fullShare d) ∗ (∃ d, owns (c : Thread nD τ) arg14 fullShare d) ∗ (∃ d, owns (c : Thread nD τ) arg15 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_na i tbM0_0 htbM0_0 tbM0_1 htbM0_1 tbM0_2 htbM0_2 tbM0_3 htbM0_3 arg5 harg5 arg6 harg6 arg7 harg7 arg8 harg8 arg9 harg9 arg10 harg10 arg11 harg11 arg12 harg12 arg13 harg13 arg14 harg14 arg15 harg15) K := by
    intro E K
    simp only [cc0_na_eq_skeleton]; unfold cc0_na_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, HT0, HT1, HT2, HT3, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HT0]; · iexact HT0
    isplitl [HT1]; · iexact HT1
    isplitl [HT2]; · iexact HT2
    iexact HT3

end Cert.Kernel.Gen

end
-- ==== Proof.KFrame.Frame.lean ====
/- The frame of the program `Kernel` for every contents of its four prefetched tables (Frame). -/
module

public import proofs.«01_k».proof.Proof.KFrame.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8): nothing reads what the kernel leaves in them, so nothing
    of it is named (Lib/Pipeline/Dat.lean `Dat.toRForget`). -/
def forgets0 : Fin 9 → Bool := fun w => w.val == 8

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    each input's share of its array
    (`Pipeline.shareOf`: the full share of an array several windows stage, dealt among them). -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, h⟩ => Pipeline.Dat.unnamed (cfg := (cfgM m hO)) ⟨8, h⟩ t
  Φ _ := iprop(Pipeline.ΦA spec0 c ∗ Pipeline.ΦT pre0 (tbl m) c)
  q w := Pipeline.shareOf spec0 w
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ (∃ d, owns (c : Thread nD τ) (ms0_8 m hO t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7]
  rw [show (dats m hO 0 c).Φ t.castSucc = iprop(Pipeline.ΦA spec0 c ∗ Pipeline.ΦT pre0 (tbl m) c) from rfl, PhiT0_eq, PhiA0_eq]
  iintro ⟨⟨⟨⟨HS0, HS1⟩, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (tbl m 1) (tbl m 2) (tbl m 3)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HT0]; · iexact HT0
  isplitl [HT1]; · iexact HT1
  isplitl [HT2]; · iexact HT2
  isplitl [HT3]; · iexact HT3
  iintro ⟨H0, H1, H2, H3, H4, H5, H6, H7, H8, HS0, HS1, HT0, HT1, HT2, HT3⟩
  isplitl [HS0 HS1 Hg HT0 HT1 HT2 HT3]
  · isplitl [HS0 HS1 Hg]
    · isplitl [HS0 HS1]
      · isplitl [HS0]
        · iexact HS0
        iexact HS1
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget_shared`'s implicit arguments are found by unifying its conclusion with this one, which takes unfolding plain
-- definitions in a metavariable's type
set_option backward.isDefEq.respectTransparency.types false in
set_option maxHeartbeats 4000000 in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget_shared (Q' := _) pcfgs (fun _ => adm m hO) (dats m hO) (0 : Fin 1) launch₀0 defs₀ Variants.none forgets0 m ρ main
    (hbody := fun c => (body_obligation m hO c).loose) (hq := fun _ _ _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 8) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ hO) ((θ_run defs _ _).mono (fun _ h => h.2) (run_main_quiescent m ρ hO))

end Cert.Kernel.Gen

end
-- ==== Proof.NA.Claim.lean ====
/- The attention's claims: the precondition read as finiteness, the frames, and the equation of the kernel and the reference. -/
module

public import proofs.«01_k».proof.Defs
public import proofs.«01_k».proof.Proof.NA.Equation
public import proofs.«01_k».proof.Proof.NA.Array
public import proofs.«01_k».proof.Proof.Gen.Kernel
public import proofs.«01_k».proof.Proof.KFrame.Frame
public import proofs.«01_k».proof.Proof.KFrame.Tables
public import proofs.«01_k».proof.Proof.Gen.ReferenceIdeal.Run
public import Idealize.ShloMosaic.Lib.Quiescent

@[expose] public section

set_option maxRecDepth 16384

noncomputable section

namespace Cert.NA

open Idealize.ShloMosaic hiding ix1 ix2 ix3 ix4 ix5 eq_ix1 eq_ix2 eq_ix3 eq_ix4 eq_ix5
open Idealize.ShloMosaic.TcCoe Idealize.ShloMosaic.ValueIdx Idealize.SL.Sem
open scoped BigOperators

/-- The precondition's side conditions. -/
theorem pre_facts : Cert.Pre_finite_scores.Facts where
  slices_S65536x768_S65536x512_0_0 := by decide
  bcast_S_S65536x512 := by decide
  bcast_S_S4x15x31 := by decide

theorem inf_f32 : Ideal.ofBits .f32 0x7F800000#32 = (⊤ : EReal) := by simp [Ideal.ofBits, Ideal.ieee]
theorem inf_bf16 : Ideal.ofBits .bf16 0x7F80#16 = (⊤ : EReal) := by simp [Ideal.ofBits, Ideal.ieee]

/-- A number whose magnitude is below infinity is real. -/
theorem real_of_lt (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

theorem finite_qk (A : FVec Ideal Cert.Pre_finite_scores.S65536x768 .bf16) (R : FVec Ideal Cert.Pre_finite_scores.S4x15x31 .f32)
    (h : (@Cert.Pre_finite_scores.fn pre_facts Ideal _ A R).1 = fun _ => 1#1) (n : Fin 65536) (d : Fin 768) (hd : d.val < 512) :
    ∃ r : ℝ, A (ix2 n d) = (r : EReal) := by
  have h1 := congrFun h (ix2 n ⟨d.val, hd⟩)
  have e : extractStridedSlice Cert.Pre_finite_scores.S65536x512 ![0, 0] A pre_facts.slices_S65536x768_S65536x512_0_0 (ix2 n ⟨d.val, hd⟩) = A (ix2 n d) := by
    refine congrArg A (funext fun a => Fin.ext ?_)
    match a with
    | ⟨0, _⟩ => exact Nat.zero_add _
    | ⟨1, _⟩ => exact Nat.zero_add _
  refine real_of_lt _ ?_
  rw [← e, ← inf_bf16]
  exact h1

theorem finite_bias (A : FVec Ideal Cert.Pre_finite_scores.S65536x768 .bf16) (R : FVec Ideal Cert.Pre_finite_scores.S4x15x31 .f32)
    (h : (@Cert.Pre_finite_scores.fn pre_facts Ideal _ A R).2 = fun _ => 1#1) (a : Fin 4) (b : Fin 15) (c : Fin 31) :
    ∃ r : ℝ, R (ix3 a b c) = (r : EReal) := by
  have h1 := congrFun h (ix3 a b c)
  refine real_of_lt _ ?_
  rw [← inf_f32]
  exact h1

/-- The reference ends with its arguments unchanged and no signal left. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel's run, with its result. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v56) = Cert.KernelIdeal.NAArray.result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  have hO := Cert.KernelIdeal.NATables.ok m
  refine (θ_run Cert.KernelIdeal.defs _ _).mono (fun _ h c => ⟨((h.1 c).1 8).trans (Cert.KernelIdeal.NAArray.final m hO c), h.2 c⟩)
    (θ_run_and (Cert.KernelIdeal.Gen.run_main m g hO) (Cert.KernelIdeal.Gen.unchanged m g hO))

/-- The results are equal. -/
theorem result_eq (m : (ℓ : Loc Cert.KernelIdeal.nD Cert.KernelIdeal.τ Cert.KernelIdeal.sig) → Buf (Elt Ideal) ℓ) (c : Dev Cert.KernelIdeal.nD)
    (A : FVec Ideal Cert.Pre_finite_scores.S65536x768 .bf16) (R : FVec Ideal Cert.Pre_finite_scores.S4x15x31 .f32)
    (hA : m ((c.tc : Thread Cert.KernelIdeal.nD Cert.KernelIdeal.τ).loc Cert.KernelIdeal.main_arg0) = A)
    (hR : m ((c.tc : Thread Cert.KernelIdeal.nD Cert.KernelIdeal.τ).loc Cert.KernelIdeal.main_arg1) = R)
    (h1 : (@Cert.Pre_finite_scores.fn pre_facts Ideal _ A R).1 = fun _ => 1#1) (h2 : (@Cert.Pre_finite_scores.fn pre_facts Ideal _ A R).2 = fun _ => 1#1) :
    Cert.ReferenceIdeal.Read.val_main_v109 (F := Ideal) A R = Cert.KernelIdeal.NAArray.result m c := by
  funext i
  have hi : i = ix2 (i 0) (i 1) := eq_ix2 i
  rw [hi]
  refine (Cert.ReferenceIdeal.NAValue.result_at A R (i 0) (i 1)).trans ?_
  refine (attn_eq A R (finite_qk A R h1) (finite_bias A R h2) (i 0) (i 1)).symm.trans ?_
  show _ = attn (Cert.KernelIdeal.NAArray.qkv m c) (Cert.KernelIdeal.NAArray.bias m c) (i 0).val (i 1).val
  unfold Cert.KernelIdeal.NAArray.qkv Cert.KernelIdeal.NAArray.bias
  rw [Cert.KernelIdeal.NABias.bias_eq, hA, hR]

end Cert.NA

end
-- ==== Proof.FFN.Spec.lean ====
/- The feed-forward part of one token, over the extended reals: a root-mean-square norm, a gated hidden layer and the
   residual. -/
module

public import Idealize.ShloMosaic.PureOps.Ideal
public import Idealize.ShloMosaic.PureOps.Ideal.Laws

@[expose] public section

noncomputable section

namespace Cert.FFN

open Idealize.ShloMosaic
open scoped BigOperators

/-- The token `x` normed and scaled by the gains `g`. -/
def norm (x g : Fin 1024 → EReal) (k : Fin 1024) : EReal :=
  x k * Ideal.rsqrt (Ideal.div (∑ i, x i * x i) (Ideal.ofBits .f32 0x44800000#32) + Ideal.ofBits .f32 0x358637BD#32) * g k

/-- The gated unit of a gate and a value. -/
def swish (a b : EReal) : EReal :=
  a * Ideal.div (Ideal.ofBits .f32 0x3F800000#32) (Ideal.ofBits .f32 0x3F800000#32 + Ideal.exp (-a)) * b

/-- Unit `j` of the hidden layer, of the normed token `h`: column `j` of the weights is its gate, column `2816 + j` its value. -/
def hidden (h : Fin 1024 → EReal) (W : Fin 1024 → Fin 5632 → EReal) (j : Fin 2816) : EReal :=
  swish (∑ k, h k * W k ⟨j.val, by omega⟩) (∑ k, h k * W k ⟨2816 + j.val, by omega⟩)

/-- What the token becomes. -/
def ffn (x g : Fin 1024 → EReal) (W : Fin 1024 → Fin 5632 → EReal) (O : Fin 2816 → Fin 1024 → EReal) (i : Fin 1024) : EReal :=
  x i + Ideal.ofBits .f32 0x3F000000#32 * ∑ j, hidden (norm x g) W j * O j i

end Cert.FFN

end
-- ==== Proof.FFN.Tile.lean ====
/- What the pieces of the body compute, over the extended reals: the normed rows, one tile of the hidden layer and the rows of the result. -/
module

public import proofs.«01_k».proof.Proof.FFN.Spec
public import proofs.«01_k».proof.Proof.Gen.Kernel2Ideal.Skeleton
public import Idealize.ShloMosaic.Lib.MatmulPlain
public import Idealize.ShloMosaic.Lib.ValueIdx
public import Idealize.ShloMosaic.Lib.Pipeline.Value
public import Idealize.ShloMosaic.Lib.IdealHost

@[expose] public section

set_option maxRecDepth 16384

noncomputable section

namespace Cert.Kernel2Ideal.FFNTile

open Cert.Kernel2Ideal Cert.Kernel2Ideal.Gen Cert.FFN Idealize.ShloMosaic Idealize.ShloMosaic.TcCoe Idealize.ShloMosaic.ValueIdx
open scoped BigOperators

/-- A column of row values, spread over the rows. -/
theorem column_apply {α : Type} (x : S512x1.Idx → α) (r : Fin 512) (k : Fin 1024) :
    broadcastTo S512x1024 x broadcasts_S512x1_S512x1024 (ix2 r k) = x (ix2 r 0) := by
  refine broadcastTo_apply _ _ _ (ix2 r (0 : Fin 1)) ?_
  intro a
  match a with
  | ⟨0, _⟩ => rfl
  | ⟨1, _⟩ => rfl

/-- A row of gains, spread over the rows. -/
theorem gains_apply {α : Type} (x : S1x1024.Idx → α) (r : Fin 512) (k : Fin 1024) :
    broadcastTo S512x1024 x broadcasts_S1x1024_S512x1024 (ix2 r k) = x (ix2 0 k) := by
  refine broadcastTo_apply _ _ _ (ix2 (0 : Fin 1) k) ?_
  intro a
  match a with
  | ⟨0, _⟩ => rfl
  | ⟨1, _⟩ => rfl

theorem lift_row (r : Fin 512) (k : Fin 1024) : reduces_S512x1024_S512.lift (ix1 r) k = ix2 r k := by
  funext a; apply Fin.ext
  match a with
  | ⟨0, _⟩ => rfl
  | ⟨1, _⟩ => rfl

/-- The sums of the rows. -/
theorem sum_apply (x : FVec Ideal S512x1024 .f32) (r : Fin 512) :
    shapeCast S512x1 (multiReduction .add [1] S512 x 0x00000000#32 reduces_S512x1024_S512 (.inl rfl) rfl) shapeCasts_S512_S512x1 (ix2 r 0)
      = ∑ k : Fin 1024, (x (ix2 r k) : EReal) := by
  refine (shapeCast_apply _ _ _ (ix1 r) ?_).trans ?_
  · rw [Shape.rowMajor_val_one, Shape.rowMajor_val_two]
    show r.val = r.val * 1 + 0
    omega
  · refine (Ideal.multiReduction_add_single (a := 1) x _ _ _ _ _).trans ?_
    exact Finset.sum_congr rfl fun k _ => congrArg x (lift_row r k)

/-- The normed rows. -/
theorem norm_apply (x : Vec Ideal S512x1024 .f32) (g : Vec Ideal S1x1024 .f32) (r : Fin 512) (k : Fin 1024) :
    k0_pay3 (F := Ideal) x g (ix2 r k) = norm (fun k => x (ix2 r k)) (fun k => g (ix2 0 k)) k := by
  have h1 := column_apply (rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits (F := Ideal) .f32 0x358637BD#32)))) r k
  have h2 : broadcastTo S512x1024 (shapeCast S1x1024 g shapeCasts_S1x1024_S1x1024) broadcasts_S1x1024_S512x1024 (ix2 r k) = g (ix2 0 k) := by
    rw [shapeCast_self]; exact gains_apply g r k
  refine Eq.trans (b := (x (ix2 r k) : EReal) * _ * _) (congrArg₂ (fun a b : EReal => (x (ix2 r k) : EReal) * a * b) h1 h2) ?_
  refine congrArg (fun s : EReal => (x (ix2 r k) : EReal) * Ideal.rsqrt (Ideal.div s (Ideal.ofBits .f32 0x44800000#32) + Ideal.ofBits .f32 0x358637BD#32) * g (ix2 0 k)) ?_
  exact sum_apply (mulf x x) r

/-- A product of the normed rows with a tile of the weights. -/
theorem dot_apply (h : FVec Ideal S512x1024 .bf16) (w : Vec Ideal S1024x256 .bf16) (r : Fin 512) (j : Fin 256) :
    FloatOps.matmul (F := Ideal) (φ₁ := .bf16) (φ₂ := .bf16) dot_S512x1024_S1024x256_S512x256_1_0_0_1_n_n none h
        (shapeCast S1024x256 w shapeCasts_S1024x256_S1024x256) (constant S512x256 .f32 0x00000000#32) (ix2 r j)
      = ∑ k : Fin 1024, (h (ix2 r k) * w (ix2 k j) : EReal) := by
  rw [shapeCast_self]
  refine (Ideal.matmul_plain_apply (M := 512) (K := 1024) (N := 256) none h w (constant S512x256 .f32 0x00000000#32) r j).trans ?_
  show Ideal.ofBits .f32 0x00000000#32 + _ = _
  rw [Ideal.ofBits_zero_f32, zero_add]

theorem zero_sub_eq (x : EReal) : (0 : EReal) - x = -x := by rw [sub_eq_add_neg, zero_add]

/-- A tile of the hidden layer. -/
theorem hidden_apply (h : FVec Ideal S512x1024 .bf16) (a b : Vec Ideal S1024x256 .bf16) (r : Fin 512) (j : Fin 256) :
    k0_pay7 (F := Ideal) h a b (ix2 r j) = swish (∑ k : Fin 1024, (h (ix2 r k) * a (ix2 k j) : EReal)) (∑ k : Fin 1024, (h (ix2 r k) * b (ix2 k j) : EReal)) := by
  rw [← dot_apply h a r j, ← dot_apply h b r j]
  unfold k0_pay7
  refine (congrFun (shapeCast_self (s := S512x256) _ _) (ix2 r j)).trans ?_
  unfold swish
  rw [← zero_sub_eq, ← Ideal.ofBits_zero_f32]
  rfl

/-- The rows of the result. -/
theorem result_apply (x : Vec Ideal S512x1024 .f32) (t : Vec Ideal S512x2816 .bf16) (w : Vec Ideal S2816x1024 .bf16) (r : Fin 512) (i : Fin 1024) :
    k0_pay2 (F := Ideal) x t w (ix2 r i) = (x (ix2 r i) : EReal) + Ideal.ofBits .f32 0x3F000000#32 * ∑ j : Fin 2816, (t (ix2 r j) * w (ix2 j i) : EReal) := by
  have h1 : FloatOps.matmul (F := Ideal) (φ₁ := .bf16) (φ₂ := .bf16) dot_S512x2816_S2816x1024_S512x1024_1_0_0_1_n_n none t
        (shapeCast S2816x1024 w shapeCasts_S2816x1024_S2816x1024) (constant S512x1024 .f32 0x00000000#32) (ix2 r i)
      = ∑ j : Fin 2816, (t (ix2 r j) * w (ix2 j i) : EReal) := by
    rw [shapeCast_self]
    refine (Ideal.matmul_plain_apply (M := 512) (K := 2816) (N := 1024) none t w (constant S512x1024 .f32 0x00000000#32) r i).trans ?_
    show Ideal.ofBits .f32 0x00000000#32 + _ = _
    rw [Ideal.ofBits_zero_f32, zero_add]
  exact congrArg (fun s : EReal => (x (ix2 r i) : EReal) + Ideal.ofBits .f32 0x3F000000#32 * s) h1

end Cert.Kernel2Ideal.FFNTile

end
-- ==== Proof.FFN.Pieces.lean ====
/- What one grid point stores: the hidden layer of its two halves, in eleven tiles each, and then the rows of each half. -/
module

public import proofs.«01_k».proof.Proof.Gen.Kernel2Ideal.Frame.RunA

@[expose] public section

set_option maxRecDepth 16384

noncomputable section

namespace Cert.Kernel2Ideal.FFNPieces

open Cert.Kernel2Ideal Cert.Kernel2Ideal.Gen Idealize.ShloMosaic Idealize.ShloMosaic.TcCoe

variable {F : FTy → Type} [FloatOps F]

/-- Where tile `n` of the hidden layer lies: eleven to a half. -/
theorem tile_inb (n : ℕ) : ∀ a, (![512 * (n / 11 % 2), 256 * (n % 11)] : Fin 2 → ℕ) a + S512x256.size a ≤ S1024x2816.size a
  | ⟨0, _⟩ => by show 512 * (n / 11 % 2) + 512 ≤ 1024; omega
  | ⟨1, _⟩ => by show 256 * (n % 11) + 256 ≤ 2816; omega
/-- The columns of weights behind its gates. -/
theorem gate_inb (n : ℕ) : ∀ a, (![0, 256 * (n % 11)] : Fin 2 → ℕ) a + S1024x256.size a ≤ S1024x5632.size a
  | ⟨0, _⟩ => by show 0 + 1024 ≤ 1024; omega
  | ⟨1, _⟩ => by show 256 * (n % 11) + 256 ≤ 5632; omega
/-- The columns of weights behind its values. -/
theorem value_inb (n : ℕ) : ∀ a, (![0, 2816 + 256 * (n % 11)] : Fin 2 → ℕ) a + S1024x256.size a ≤ S1024x5632.size a
  | ⟨0, _⟩ => by show 0 + 1024 ≤ 1024; omega
  | ⟨1, _⟩ => by show 2816 + 256 * (n % 11) + 256 ≤ 5632; omega
/-- The rows of half `s`. -/
theorem half_inb (s : ℕ) : ∀ a, (![512 * (s % 2), 0] : Fin 2 → ℕ) a + S512x1024.size a ≤ S1024x1024.size a
  | ⟨0, _⟩ => by show 512 * (s % 2) + 512 ≤ 1024; omega
  | ⟨1, _⟩ => by show 0 + 1024 ≤ 1024; omega
/-- Its rows of the hidden layer. -/
theorem band_inb (s : ℕ) : ∀ a, (![512 * (s % 2), 0] : Fin 2 → ℕ) a + S512x2816.size a ≤ S1024x2816.size a
  | ⟨0, _⟩ => by show 512 * (s % 2) + 512 ≤ 1024; omega
  | ⟨1, _⟩ => by show 0 + 2816 ≤ 2816; omega

section
variable {sg : RefSig}
  (arg1 : Memref sg .tc .vmem S1024x1024 .f32) (harg1 : arg1.IsWhole)
  (arg2 : Memref sg .tc .vmem S1x1024 .f32) (harg2 : arg2.IsWhole)
  (arg3 : Memref sg .tc .vmem S1024x5632 .bf16) (harg3 : arg3.IsWhole)
  (arg4 : Memref sg .tc .vmem S2816x1024 .bf16) (harg4 : arg4.IsWhole)
  (arg7 : Memref sg .tc .vmem S1024x2816 .bf16)
  (x0 : Vec F S1024x1024 .f32) (x1 : Vec F S1x1024 .f32) (x2 : Vec F S1024x5632 .bf16) (x3 : Vec F S2816x1024 .bf16)

/-- The tokens of half `s`. -/
def rows (s : ℕ) : Vec F S512x1024 .f32 :=
  View.readAt (Elt F) arg1.view (Rect.unit (s := S1024x1024) ![512 * (s % 2), 0] S512x1024.size (half_inb s)).toLoadRect (harg1.unread x0)
/-- The gains. -/
def gains : Vec F S1x1024 .f32 :=
  View.readAt (Elt F) arg2.view (Rect.unit (s := S1x1024) ![0, 0] S1x1024.size inb_S1x1024_S1x1024_0_0).toLoadRect (harg2.unread x1)
/-- Columns of the first weights. -/
def cols (o : Fin 2 → ℕ) (h : ∀ a, o a + S1024x256.size a ≤ S1024x5632.size a) : Vec F S1024x256 .bf16 :=
  View.readAt (Elt F) arg3.view (Rect.unit (s := S1024x5632) o S1024x256.size h).toLoadRect (harg3.unread x2)
/-- The second weights. -/
def outer : Vec F S2816x1024 .bf16 :=
  View.readAt (Elt F) arg4.view (Rect.unit (s := S2816x1024) ![0, 0] S2816x1024.size inb_S2816x1024_S2816x1024_0_0).toLoadRect (harg4.unread x3)

/-- Tile `n` of the hidden layer. -/
def tile (n : ℕ) : View.Piece (Elt F) S1024x2816 .bf16 :=
  ⟨Rect.unit (s := S1024x2816) ![512 * (n / 11 % 2), 256 * (n % 11)] S512x256.size (tile_inb n),
    k0_pay7 (k0_pay3 (rows arg1 harg1 x0 (n / 11)) (gains arg2 harg2 x1)) (cols arg3 harg3 x2 ![0, 256 * (n % 11)] (gate_inb n))
      (cols arg3 harg3 x2 ![0, 2816 + 256 * (n % 11)] (value_inb n))⟩

/-- The first `n` tiles, last first. -/
def tiles : ℕ → List (View.Piece (Elt F) S1024x2816 .bf16)
  | 0 => []
  | n + 1 => tile arg1 harg1 arg2 harg2 arg3 harg3 x0 x1 x2 n :: tiles n

/-- The hidden layer of half `s`, read after `n` tiles. -/
def band (s n : ℕ) : Vec F S512x2816 .bf16 :=
  View.readAt (Elt F) arg7.view (Rect.unit (s := S1024x2816) ![512 * (s % 2), 0] S512x2816.size (band_inb s)).toLoadRect
    (arg7.view.writes (Elt F) arg7.view.junk (tiles arg1 harg1 arg2 harg2 arg3 harg3 x0 x1 x2 n))

/-- The rows of half `s` of the result. -/
def half (s : ℕ) : View.Piece (Elt F) S1024x1024 .f32 :=
  ⟨Rect.unit (s := S1024x1024) ![512 * (s % 2), 0] S512x1024.size (half_inb s),
    k0_pay2 (rows arg1 harg1 x0 s) (band arg1 harg1 arg2 harg2 arg3 harg3 arg7 x0 x1 x2 s (11 * (s + 1))) (outer arg4 harg4 x3)⟩

end

variable (c : Dev nD) (i : grid0.Coords)
variable
  (arg1 : Memref sig .tc .vmem S1024x1024 .f32) (harg1 : arg1.IsWhole)
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1024x2816 .bf16) (harg7 : arg7.IsWhole)
  (x0 : Vec F S1024x1024 .f32) (x1 : Vec F S1x1024 .f32) (x2 : Vec F S1024x5632 .bf16) (x3 : Vec F S2816x1024 .bf16) (x4 : Vec F S1x1024 .f32)

set_option maxHeartbeats 4000000 in
/-- The pieces, last first. -/
theorem pieces : (kernelRun0_A c i arg1 harg1 arg2 harg2 arg3 harg3 arg4 harg4 arg5 harg5 arg6 harg6 arg7 harg7 x0 x1 x2 x3 x4).1 =
    [half arg1 harg1 arg2 harg2 arg3 harg3 arg4 harg4 arg7 x0 x1 x2 x3 1, half arg1 harg1 arg2 harg2 arg3 harg3 arg4 harg4 arg7 x0 x1 x2 x3 0] := by
  unfold kernelRun0_A; dsimp only; rfl

end Cert.Kernel2Ideal.FFNPieces

end
-- ==== Proof.FFN.Block.lean ====
/- What one grid point leaves in its block of the result: what each of its 1024 tokens becomes. -/
module

public import proofs.«01_k».proof.Proof.FFN.Tile
public import proofs.«01_k».proof.Proof.FFN.Pieces
public import proofs.«01_k».proof.Proof.Gen.Kernel2Ideal.Frame
public import Idealize.ShloMosaic.Lib.VecWindow

@[expose] public section

set_option maxRecDepth 16384

noncomputable section

namespace Cert.Kernel2Ideal.FFNBlock

open Cert.Kernel2Ideal Cert.Kernel2Ideal.Gen Cert.Kernel2Ideal.FFNPieces Cert.Kernel2Ideal.FFNTile Cert.FFN
open Idealize.ShloMosaic Idealize.ShloMosaic.TcCoe Idealize.ShloMosaic.ValueIdx Idealize.SL.Sem
open scoped BigOperators

/-- A box of a matrix, read at its own coordinates. -/
theorem box {M N m n : ℕ} (X : (⟨2, ![M, N]⟩ : Shape).Idx → EReal) (o : Fin 2 → ℕ) (h : ∀ a, o a + (⟨2, ![m, n]⟩ : Shape).size a ≤ (⟨2, ![M, N]⟩ : Shape).size a)
    (r : Fin m) (l : Fin n) (p : Fin M) (q : Fin N) (hp : p.val = o 0 + r.val) (hq : q.val = o 1 + l.val) :
    X ((Rect.unit (s := ⟨2, ![M, N]⟩) o (⟨2, ![m, n]⟩ : Shape).size h).idx (ix2 r l)) = X (ix2 p q) := by
  refine congrArg X (funext fun a => Fin.ext ?_)
  match a with
  | ⟨0, _⟩ => show o 0 + 1 * r.val = p.val; omega
  | ⟨1, _⟩ => show o 1 + 1 * l.val = q.val; omega

section
variable {sg : RefSig}
  (arg1 : Memref sg .tc .vmem S1024x1024 .f32) (harg1 : arg1.IsWhole)
  (arg2 : Memref sg .tc .vmem S1x1024 .f32) (harg2 : arg2.IsWhole)
  (arg3 : Memref sg .tc .vmem S1024x5632 .bf16) (harg3 : arg3.IsWhole)
  (arg4 : Memref sg .tc .vmem S2816x1024 .bf16) (harg4 : arg4.IsWhole)
  (arg7 : Memref sg .tc .vmem S1024x2816 .bf16)
  (x0 : Vec Ideal S1024x1024 .f32) (x1 : Vec Ideal S1x1024 .f32) (x2 : Vec Ideal S1024x5632 .bf16) (x3 : Vec Ideal S2816x1024 .bf16)

theorem rows_apply (s : ℕ) (r : Fin 512) (k p : Fin 1024) (hp : p.val = 512 * (s % 2) + r.val) : rows arg1 harg1 x0 s (ix2 r k) = x0 (ix2 p k) := by
  unfold rows
  rw [View.readAt_eq_ld, harg1.read_unread]
  exact box (M := 1024) (N := 1024) (m := 512) (n := 1024) x0 _ (half_inb s) r k p k hp (Nat.zero_add _).symm

theorem gains_apply (k : Fin 1024) : gains arg2 harg2 x1 (ix2 0 k) = x1 (ix2 0 k) := by
  unfold gains
  rw [View.readAt_eq_ld, harg2.read_unread]
  exact box (M := 1) (N := 1024) (m := 1) (n := 1024) x1 _ inb_S1x1024_S1x1024_0_0 0 k 0 k rfl (Nat.zero_add _).symm

theorem cols_apply (b : ℕ) (h : ∀ a, (![0, b] : Fin 2 → ℕ) a + S1024x256.size a ≤ S1024x5632.size a) (k : Fin 1024) (j : Fin 256) (q : Fin 5632) (hq : q.val = b + j.val) :
    cols arg3 harg3 x2 ![0, b] h (ix2 k j) = x2 (ix2 k q) := by
  unfold cols
  rw [View.readAt_eq_ld, harg3.read_unread]
  exact box (M := 1024) (N := 5632) (m := 1024) (n := 256) x2 _ h k j k q (Nat.zero_add _).symm hq

theorem outer_apply (j : Fin 2816) (k : Fin 1024) : outer arg4 harg4 x3 (ix2 j k) = x3 (ix2 j k) := by
  unfold outer
  rw [View.readAt_eq_ld, harg4.read_unread]
  exact box (M := 2816) (N := 1024) (m := 2816) (n := 1024) x3 _ inb_S2816x1024_S2816x1024_0_0 j k j k (Nat.zero_add _).symm (Nat.zero_add _).symm

/-- The hidden layer of the block. -/
def layer (y : S1024x2816.Idx) : EReal :=
  hidden (norm (fun k => x0 (ix2 (y 0) k)) (fun k => x1 (ix2 0 k))) (fun k j => x2 (ix2 k j)) (y 1)

/-- A tile is its part of the hidden layer. -/
theorem tile_at (n : ℕ) (x : S512x256.Idx) :
    (tile arg1 harg1 arg2 harg2 arg3 harg3 x0 x1 x2 n).2 x = layer x0 x1 x2 ((tile arg1 harg1 arg2 harg2 arg3 harg3 x0 x1 x2 n).1.emb x) := by
  obtain ⟨r, l, rfl⟩ : ∃ (r : Fin 512) (l : Fin 256), x = ix2 r l := ⟨x 0, x 1, eq_ix2 x⟩
  have p0 : ((tile arg1 harg1 arg2 harg2 arg3 harg3 x0 x1 x2 n).1.emb (ix2 r l) 0).val = 512 * (n / 11 % 2) + r.val := by
    show 512 * (n / 11 % 2) + 1 * r.val = _; omega
  have p1 : ((tile arg1 harg1 arg2 harg2 arg3 harg3 x0 x1 x2 n).1.emb (ix2 r l) 1).val = 256 * (n % 11) + l.val := by
    show 256 * (n % 11) + 1 * l.val = _; omega
  refine (hidden_apply _ _ _ r l).trans ?_
  generalize (tile arg1 harg1 arg2 harg2 arg3 harg3 x0 x1 x2 n).1.emb (ix2 r l) = y at p0 p1
  have hn : ∀ k : Fin 1024, k0_pay3 (rows arg1 harg1 x0 (n / 11)) (gains arg2 harg2 x1) (ix2 r k)
      = norm (fun k => x0 (ix2 (y 0) k)) (fun k => x1 (ix2 0 k)) k := by
    intro k
    refine (norm_apply _ _ r k).trans ?_
    congr 1
    · funext k; exact rows_apply arg1 harg1 x0 _ r k (y 0) p0
    · funext k; exact FFNBlock.gains_apply arg2 harg2 x1 k
  unfold layer FFN.hidden
  refine congrArg₂ swish (Finset.sum_congr rfl fun k _ => ?_) (Finset.sum_congr rfl fun k _ => ?_)
  · rw [hn, cols_apply arg3 harg3 x2 _ _ k l ⟨(y 1).val, by omega⟩ p1]
  · rw [hn, cols_apply arg3 harg3 x2 _ _ k l ⟨2816 + (y 1).val, by omega⟩ (by show 2816 + (y 1).val = _; omega)]

theorem tile_mem {n N : ℕ} (h : n < N) : tile arg1 harg1 arg2 harg2 arg3 harg3 x0 x1 x2 n ∈ tiles arg1 harg1 arg2 harg2 arg3 harg3 x0 x1 x2 N := by
  induction N with
  | zero => omega
  | succ N ih =>
    unfold tiles
    by_cases e : n = N
    · subst e; exact List.mem_cons_self
    · exact List.mem_cons_of_mem _ (ih (by omega))

theorem tiles_at (N : ℕ) : ∀ p ∈ tiles arg1 harg1 arg2 harg2 arg3 harg3 x0 x1 x2 N, ∀ x : p.1.shape.Idx, p.2 x = layer x0 x1 x2 (p.1.emb x) := by
  induction N with
  | zero => intro p hp; exact absurd hp List.not_mem_nil
  | succ N ih =>
    intro p hp
    unfold tiles at hp
    rcases List.mem_cons.mp hp with rfl | hp
    · exact fun x => tile_at arg1 harg1 arg2 harg2 arg3 harg3 x0 x1 x2 N x
    · exact ih p hp

/-- The rows of half `s` of the hidden layer, once its tiles are stored. -/
theorem band_apply (s : ℕ) (hs : s < 2) (r : Fin 512) (j : Fin 2816) (p : Fin 1024) (hp : p.val = 512 * (s % 2) + r.val) :
    band arg1 harg1 arg2 harg2 arg3 harg3 arg7 x0 x1 x2 s (11 * (s + 1)) (ix2 r j) = layer x0 x1 x2 (ix2 p j) := by
  unfold band
  rw [View.readAt_writes_junk_eq_canon]
  refine (box (M := 1024) (N := 2816) (m := 512) (n := 2816) _ _ (band_inb s) r j p j hp (Nat.zero_add _).symm).trans ?_
  refine View.canon_apply_of_pieces (Val := Elt Ideal) (e := .bf16) (layer x0 x1 x2) _ (tiles_at arg1 harg1 arg2 harg2 arg3 harg3 x0 x1 x2 _) (ix2 p j) ?_
  have hj := j.isLt
  refine ⟨_, tile_mem arg1 harg1 arg2 harg2 arg3 harg3 x0 x1 x2 (n := 11 * s + j.val / 256) (by omega), ?_⟩
  refine (Rect.mem_set_unit (inb := tile_inb _)).mpr ?_
  intro a
  match a with
  | ⟨0, _⟩ =>
    show 512 * ((11 * s + j.val / 256) / 11 % 2) ≤ p.val ∧ p.val < 512 * ((11 * s + j.val / 256) / 11 % 2) + 512
    have := r.isLt
    have e : (11 * s + j.val / 256) / 11 = s := by omega
    rw [e]; omega
  | ⟨1, _⟩ =>
    show 256 * ((11 * s + j.val / 256) % 11) ≤ j.val ∧ j.val < 256 * ((11 * s + j.val / 256) % 11) + 256
    omega

/-- What the tokens of the block become. -/
def block (y : S1024x1024.Idx) : EReal :=
  ffn (fun k => x0 (ix2 (y 0) k)) (fun k => x1 (ix2 0 k)) (fun k j => x2 (ix2 k j)) (fun j k => x3 (ix2 j k)) (y 1)

theorem half_at (s : ℕ) (hs : s < 2) (x : S512x1024.Idx) :
    (half arg1 harg1 arg2 harg2 arg3 harg3 arg4 harg4 arg7 x0 x1 x2 x3 s).2 x
      = block x0 x1 x2 x3 ((half arg1 harg1 arg2 harg2 arg3 harg3 arg4 harg4 arg7 x0 x1 x2 x3 s).1.emb x) := by
  obtain ⟨r, l, rfl⟩ : ∃ (r : Fin 512) (l : Fin 1024), x = ix2 r l := ⟨x 0, x 1, eq_ix2 x⟩
  have p0 : ((half arg1 harg1 arg2 harg2 arg3 harg3 arg4 harg4 arg7 x0 x1 x2 x3 s).1.emb (ix2 r l) 0).val = 512 * (s % 2) + r.val := by
    show 512 * (s % 2) + 1 * r.val = _; omega
  have p1 : (half arg1 harg1 arg2 harg2 arg3 harg3 arg4 harg4 arg7 x0 x1 x2 x3 s).1.emb (ix2 r l) 1 = l := by
    apply Fin.ext; show 0 + 1 * l.val = _; omega
  refine (result_apply _ _ _ r l).trans ?_
  generalize (half arg1 harg1 arg2 harg2 arg3 harg3 arg4 harg4 arg7 x0 x1 x2 x3 s).1.emb (ix2 r l) = y at p0 p1
  unfold block ffn
  rw [p1, rows_apply arg1 harg1 x0 s r l (y 0) p0]
  refine congrArg (fun t : EReal => (x0 (ix2 (y 0) l) : EReal) + Ideal.ofBits .f32 0x3F000000#32 * t) (Finset.sum_congr rfl fun j _ => ?_)
  rw [band_apply arg1 harg1 arg2 harg2 arg3 harg3 arg7 x0 x1 x2 s hs r j (y 0) p0, outer_apply]
  rfl

end

variable (c : Dev nD) (i : grid0.Coords)
variable
  (arg1 : Memref sig .tc .vmem S1024x1024 .f32) (harg1 : arg1.IsWhole)
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1024x2816 .bf16) (harg7 : arg7.IsWhole)
  (x0 : Vec Ideal S1024x1024 .f32) (x1 : Vec Ideal S1x1024 .f32) (x2 : Vec Ideal S1024x5632 .bf16) (x3 : Vec Ideal S2816x1024 .bf16) (x4 : Vec Ideal S1x1024 .f32)

/-- The block one grid point leaves. -/
theorem block_eq (y : S1024x1024.Idx) :
    View.canon (kernelRun0_A (F := Ideal) c i arg1 harg1 arg2 harg2 arg3 harg3 arg4 harg4 arg5 harg5 arg6 harg6 arg7 harg7 x0 x1 x2 x3 x4).1 y = block x0 x1 x2 x3 y := by
  refine View.canon_apply_of_pieces (Val := Elt Ideal) (e := .f32) (block x0 x1 x2 x3) _ ?_ y (cover0_A_5 c i arg1 harg1 arg2 harg2 arg3 harg3 arg4 harg4 arg5 harg5 arg6 harg6 arg7 harg7 x0 x1 x2 x3 x4 y)
  rw [pieces]
  simp only [List.forall_mem_cons]
  exact ⟨half_at arg1 harg1 arg2 harg2 arg3 harg3 arg4 harg4 arg7 x0 x1 x2 x3 1 (by decide),
    half_at arg1 harg1 arg2 harg2 arg3 harg3 arg4 harg4 arg7 x0 x1 x2 x3 0 (by decide), fun p hp => absurd hp List.not_mem_nil⟩

end Cert.Kernel2Ideal.FFNBlock

end
-- ==== Proof.FFN.Array.lean ====
/- The array the kernel leaves: what every token becomes, from the array of tokens, the gains and the weights. -/
module

public import proofs.«01_k».proof.Proof.FFN.Block
public import proofs.«01_k».proof.Proof.Gen.Kernel2Ideal.Value
public import Idealize.ShloMosaic.Lib.Pipeline.ValueKit.Basic
public import Idealize.ShloMosaic.Lib.StableHlo.RunRead

@[expose] public section

set_option maxRecDepth 16384

noncomputable section

namespace Cert.Kernel2Ideal.FFNArray

open Cert.Kernel2Ideal Cert.Kernel2Ideal.Gen Cert.Kernel2Ideal.FFNBlock Cert.FFN
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The tokens, the gains and the two arrays of weights as the kernel is given them. -/
abbrev tokens : S65536x1024.Idx → EReal := m ((c.tc : Thread nD τ).loc main_arg0)
abbrev gain : S1024.Idx → EReal := m ((c.tc : Thread nD τ).loc main_arg1)
abbrev inner : S1024x5632.Idx → EReal := m ((c.tc : Thread nD τ).loc main_arg2)
abbrev outw : S2816x1024.Idx → EReal := m ((c.tc : Thread nD τ).loc main_arg3)

/-- The array it leaves. -/
def result : Buf (Elt Ideal) ((c.tc : Thread nD τ).loc main_v4) :=
  fun i : S65536x1024.Idx => ffn (fun k => tokens m c (ix2 (i 0) k)) (fun k => gain m c (ix1 k)) (fun k j => inner m c (ix2 k j)) (fun j k => outw m c (ix2 j k)) (i 1)

/-- The weights as the kernel finds them: their format changed, which over the extended reals changes nothing. -/
theorem inner_found : (V m c main_v0 : S1024x5632.Idx → EReal) = inner m c := by
  unfold V hostOps0
  after_reads_simp
  rfl
theorem outw_found : (V m c main_v1 : S2816x1024.Idx → EReal) = outw m c := by
  unfold V hostOps0
  after_reads_simp
  rfl
/-- The gains as the kernel finds them: as a row. -/
theorem gain_found (k : Fin 1024) : (V m c main_v2 : S1x1024.Idx → EReal) (ix2 0 k) = gain m c (ix1 k) := by
  have e : (V m c main_v2 : S1x1024.Idx → EReal) = shapeCast S1x1024 (gain m c) shapeCasts_S1024_S1x1024 := by
    unfold V hostOps0
    after_reads_simp
    rfl
  rw [e]
  refine shapeCast_apply _ _ _ (ix1 k) ?_
  rw [Shape.rowMajor_val_one, Shape.rowMajor_val_two]
  show k.val = 0 * 1024 + k.val
  omega

/-- Grid point `t` takes and leaves block `t`. -/
theorem in_block : ∀ t : Fin grid0.N, cc0_transform_0 (grid0.coords t) 0 = t.val ∧ cc0_transform_0 (grid0.coords t) 1 = 0 := by decide +kernel
theorem out_block : ∀ t : Fin grid0.N, cc0_transform_5 (grid0.coords t) 0 = t.val ∧ cc0_transform_5 (grid0.coords t) 1 = 0 := by decide +kernel

variable (t : Fin cfg0.N)

/-- A token of the block. -/
theorem tokens_read (p : Fin 65536) (r k : Fin 1024) (hp : p.val = 1024 * t.val + r.val) : (iblk m c 0 t : S1024x1024.Idx → EReal) (ix2 r k) = tokens m c (ix2 p k) := by
  refine (congrFun (V_main_arg0 m c) _).trans (congrArg (tokens m c) (funext fun a => Fin.ext ?_))
  refine (Pipeline.Window.rect_emb_val (cfg0.win 0) t (ix2 r k) a).trans ?_
  match a with
  | ⟨0, _⟩ =>
    show cc0_transform_0 (grid0.coords t) 0 * 1024 + r.val = p.val
    rw [(in_block t).1]; omega
  | ⟨1, _⟩ =>
    show cc0_transform_0 (grid0.coords t) 1 * 1024 + k.val = k.val
    rw [(in_block t).2]; omega

/-- The gains and the weights are handed over whole. -/
theorem gain_read (k : Fin 1024) : (iblk m c 1 t : S1x1024.Idx → EReal) (ix2 0 k) = gain m c (ix1 k) := by
  refine Eq.trans (congrArg (V m c main_v2) (funext fun a => Fin.ext ?_)) (gain_found m c k)
  refine (Pipeline.Window.rect_emb_val (cfg0.win 1) t (ix2 0 k) a).trans ?_
  match a with
  | ⟨0, _⟩ => exact Nat.zero_add _
  | ⟨1, _⟩ => exact Nat.zero_add _
theorem inner_read (k : Fin 1024) (j : Fin 5632) : (iblk m c 2 t : S1024x5632.Idx → EReal) (ix2 k j) = inner m c (ix2 k j) := by
  refine Eq.trans (congrArg (V m c main_v0) (funext fun a => Fin.ext ?_)) (congrFun (inner_found m c) _)
  refine (Pipeline.Window.rect_emb_val (cfg0.win 2) t (ix2 k j) a).trans ?_
  match a with
  | ⟨0, _⟩ => exact Nat.zero_add _
  | ⟨1, _⟩ => exact Nat.zero_add _
theorem outw_read (j : Fin 2816) (k : Fin 1024) : (iblk m c 3 t : S2816x1024.Idx → EReal) (ix2 j k) = outw m c (ix2 j k) := by
  refine Eq.trans (congrArg (V m c main_v1) (funext fun a => Fin.ext ?_)) (congrFun (outw_found m c) _)
  refine (Pipeline.Window.rect_emb_val (cfg0.win 3) t (ix2 j k) a).trans ?_
  match a with
  | ⟨0, _⟩ => exact Nat.zero_add _
  | ⟨1, _⟩ => exact Nat.zero_add _

/-- The block point `t` leaves. -/
theorem outs_eq (y : S1024x1024.Idx) (z : S65536x1024.Idx) (h0 : (z 0).val = 1024 * t.val + (y 0).val) (h1 : (z 1).val = (y 1).val) :
    (outsAt0 m c t : S1024x1024.Idx → EReal) y = (result m c : S65536x1024.Idx → EReal) z := by
  unfold outsAt0 out0_A_5
  refine (congrFun (View.read_writes_eq_canon VO0_5 VO0_5.junk _ (cover0_A_5 c _ _ _ _ _ _ _ _ _ _ _ _ _ _ _ _ _ _ _ _)) y).trans ?_
  refine (block_eq c (grid0.coords t) _ _ _ _ _ _ _ _ _ _ _ _ _ _ _ _ _ _ _ y).trans ?_
  unfold block result
  have e1 : y 1 = z 1 := Fin.ext h1.symm
  rw [e1]
  congr 1
  · funext k; exact tokens_read m c t (z 0) (y 0) k h0
  · funext k; exact gain_read m c t k
  · funext k j; exact inner_read m c t k j
  · funext j k; exact outw_read m c t j k

/-- Each block goes to its place in the whole. -/
theorem flushed_eq : (dats m 0 c).flushed 5 t = ((cfg0.win 5).blk t).view.read (Elt Ideal) (result m c) := by
  show (cfg0.win 5).cut (grid0.coords t) ((dats m 0 c).after 5 t) = _
  rw [after0_5]
  funext y
  have e0 := Pipeline.Window.rect_emb_val (cfg0.win 5) t y (0 : Fin 2)
  have e1 := Pipeline.Window.rect_emb_val (cfg0.win 5) t y (1 : Fin 2)
  have hi0 : (cfg0.win 5).index t (0 : Fin 2) = t.val := (out_block t).1
  have hi1 : (cfg0.win 5).index t (1 : Fin 2) = 0 := (out_block t).2
  rw [hi0] at e0; rw [hi1] at e1
  refine outs_eq m c t _ _ (e0.trans ?_) (e1.trans ?_)
  · show t.val * 1024 + _ = 1024 * t.val + _
    rw [Nat.mul_comm]
  · show 0 * 1024 + _ = _
    rw [Nat.zero_mul, Nat.zero_add]

theorem final : (dats m 0 c).arrAt 5 cfg0.N = result m c :=
  (dats m 0 c).arrAt_eq_of_cover 5 (result m c) (fun t _ => flushed_eq m c t) fun i => by
    have hN : cfg0.N = 64 := N_0
    have h0 : (i (0 : Fin 2) : ℕ) < 65536 := (i (0 : Fin 2)).isLt
    have h1 : (i (1 : Fin 2) : ℕ) < 1024 := (i (1 : Fin 2)).isLt
    have ht : (i (0 : Fin 2) : ℕ) / 1024 < cfg0.N := by rw [hN]; omega
    refine ⟨⟨(i (0 : Fin 2) : ℕ) / 1024, ht⟩, flush0_5 _, ?_⟩
    refine (Finset.ext_iff.mp (View.set_slice_whole main_v4 ((cfg0.win 5).rect ⟨_, ht⟩)) i).mpr ?_
    refine (Pipeline.Window.mem_rect_iff (cfg0.win 5) ⟨_, ht⟩ i).mpr ?_
    have hi0 : (cfg0.win 5).index ⟨_, ht⟩ (0 : Fin 2) = (i (0 : Fin 2) : ℕ) / 1024 := (out_block ⟨(i (0 : Fin 2) : ℕ) / 1024, ht⟩).1
    have hi1 : (cfg0.win 5).index ⟨_, ht⟩ (1 : Fin 2) = 0 := (out_block ⟨(i (0 : Fin 2) : ℕ) / 1024, ht⟩).2
    intro a
    match a with
    | ⟨0, _⟩ =>
      show (cfg0.win 5).index ⟨_, ht⟩ (0 : Fin 2) * 1024 ≤ (i (0 : Fin 2) : ℕ) ∧ (i (0 : Fin 2) : ℕ) < (cfg0.win 5).index ⟨_, ht⟩ (0 : Fin 2) * 1024 + 1024
      rw [hi0]; omega
    | ⟨1, _⟩ =>
      show (cfg0.win 5).index ⟨_, ht⟩ (1 : Fin 2) * 1024 ≤ (i (1 : Fin 2) : ℕ) ∧ (i (1 : Fin 2) : ℕ) < (cfg0.win 5).index ⟨_, ht⟩ (1 : Fin 2) * 1024 + 1024
      rw [hi1]; omega

end Cert.Kernel2Ideal.FFNArray

end
-- ==== Proof.FFN.Ref.lean ====
/- What the reference says each token becomes. -/
module

public import proofs.«01_k».proof.Proof.FFN.Spec
public import proofs.«01_k».proof.Proof.Gen.Reference2Ideal.Read
public import Idealize.ShloMosaic.Lib.ValueIdx

@[expose] public section

set_option maxRecDepth 16384

noncomputable section

namespace Cert.Reference2Ideal.FFNValue

open Cert.Reference2Ideal Cert.Reference2Ideal.Read Cert.FFN
open Idealize.ShloMosaic Idealize.ShloMosaic.TcCoe Idealize.ShloMosaic.ValueIdx
open scoped BigOperators

variable (x0 : (⟨S65536x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal))

/-- The normed token. -/
theorem norm_at (n : Fin 65536) (k : Fin 1024) :
    val_main_v12 (F := Ideal) x0 x1 (ix2 n k) = norm (fun k => x0 (ix2 n k)) (fun k => x1 (ix1 k)) k := by
  rw [val_main_v12_apply, val_main_v9_apply, val_main_v8_apply, val_main_v11_apply, val_main_v10_apply, val_main_v7_apply, val_main_v6_apply, val_main_v5_apply,
    val_main_v4_apply, val_main_v3_apply, val_main_v2_apply, val_main_v1_apply]
  have e0 : ∀ i, val_main_cst (F := Ideal) i = (0 : EReal) := fun _ => Ideal.ofBits_zero_f32
  rw [e0, zero_add]
  have e1 : ∀ i : Fin 1024, idx_main_v1 (idx_main_v2 (idx_main_v8 (ix2 n k))) i = ix2 n i := by
    intro i; funext a; apply Fin.ext
    match a with
    | ⟨0, _⟩ => rfl
    | ⟨1, _⟩ => rfl
  have e2 : idx_main_v10 (idx_main_v11 (ix2 n k)) = ix1 k := by
    funext a; apply Fin.ext
    match a with
    | ⟨0, _⟩ => rfl
  simp only [e1, e2]
  rfl

/-- A gate or a value. -/
theorem dot_at (n : Fin 65536) (j : Fin 5632) :
    val_main_v13 (F := Ideal) x0 x1 x2 (ix2 n j) = ∑ k : Fin 1024, norm (fun k => x0 (ix2 n k)) (fun k => x1 (ix1 k)) k * (x2 (ix2 k j) : EReal) := by
  refine (val_main_v13_apply x0 x1 x2 (ix2 n j)).trans (Finset.sum_congr rfl fun k _ => ?_)
  have el : lidx_main_v13 (ix2 n j) k = ix2 n k := by
    funext a; apply Fin.ext
    match a with
    | ⟨0, _⟩ => rfl
    | ⟨1, _⟩ => rfl
  have er : ridx_main_v13 (ix2 n j) k = ix2 k j := by
    funext a; apply Fin.ext
    match a with
    | ⟨0, _⟩ => rfl
    | ⟨1, _⟩ => rfl
  rw [el, er, norm_at]

/-- A unit of the hidden layer. -/
theorem hidden_at (n : Fin 65536) (j : Fin 2816) :
    val_main_v17 (F := Ideal) x0 x1 x2 (ix2 n j) = FFN.hidden (norm (fun k => x0 (ix2 n k)) (fun k => x1 (ix1 k))) (fun k j => x2 (ix2 k j)) j := by
  have eg : val_main_v14 (F := Ideal) x0 x1 x2 (ix2 n j) = val_main_v13 (F := Ideal) x0 x1 x2 (ix2 n ⟨j.val, by omega⟩) := by
    refine (val_main_v14_apply x0 x1 x2 (ix2 n j)).trans (congrArg _ (funext fun a => Fin.ext ?_))
    match a with
    | ⟨0, _⟩ => rfl
    | ⟨1, _⟩ => rfl
  have eu : val_main_v15 (F := Ideal) x0 x1 x2 (ix2 n j) = val_main_v13 (F := Ideal) x0 x1 x2 (ix2 n ⟨2816 + j.val, by omega⟩) := by
    refine (val_main_v15_apply x0 x1 x2 (ix2 n j)).trans (congrArg _ (funext fun a => Fin.ext ?_))
    match a with
    | ⟨0, _⟩ => rfl
    | ⟨1, _⟩ => first | rfl | exact Nat.add_comm _ _
  have e1 : ∀ i, val_main_call0_v4 (F := Ideal) i = Ideal.ofBits .f32 0x3F800000#32 := fun i => val_main_call0_v4_apply i
  have e2 : ∀ i, val_main_call0_v2 (F := Ideal) i = Ideal.ofBits .f32 0x3F800000#32 := fun i => val_main_call0_v2_apply i
  rw [val_main_v17_apply, val_main_v16_apply, val_main_call0_v5_apply, val_main_call0_v3_apply, val_main_call0_v1_apply, val_main_call0_v0_apply, e1, e2, eg, eu, dot_at, dot_at]
  rfl

/-- What the token becomes. -/
theorem result_at (n : Fin 65536) (i : Fin 1024) :
    val_main_v21 (F := Ideal) x0 x1 x2 x3 (ix2 n i)
      = ffn (fun k => x0 (ix2 n k)) (fun k => x1 (ix1 k)) (fun k j => x2 (ix2 k j)) (fun j k => x3 (ix2 j k)) i := by
  have e1 : ∀ i, val_main_v19 (F := Ideal) i = Ideal.ofBits .f32 0x3F000000#32 := fun i => val_main_v19_apply i
  have e2 : val_main_v18 (F := Ideal) x0 x1 x2 x3 (ix2 n i)
      = ∑ j : Fin 2816, FFN.hidden (norm (fun k => x0 (ix2 n k)) (fun k => x1 (ix1 k))) (fun k j => x2 (ix2 k j)) j * (x3 (ix2 j i) : EReal) := by
    refine (val_main_v18_apply x0 x1 x2 x3 (ix2 n i)).trans (Finset.sum_congr rfl fun j _ => ?_)
    have el : lidx_main_v18 (ix2 n i) j = ix2 n j := by
      funext a; apply Fin.ext
      match a with
      | ⟨0, _⟩ => rfl
      | ⟨1, _⟩ => rfl
    have er : ridx_main_v18 (ix2 n i) j = ix2 j i := by
      funext a; apply Fin.ext
      match a with
      | ⟨0, _⟩ => rfl
      | ⟨1, _⟩ => rfl
    rw [el, er, hidden_at]
  rw [val_main_v21_apply, val_main_v20_apply, e1, e2]
  rfl

end Cert.Reference2Ideal.FFNValue

end
-- ==== Proof.FFN.Claim.lean ====
/- The feed-forward part's claims: the frame of the reference, and the equation of the kernel and the reference. -/
module

public import proofs.«01_k».proof.Defs
public import proofs.«01_k».proof.Proof.FFN.Array
public import proofs.«01_k».proof.Proof.FFN.Ref
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import Idealize.ShloMosaic.Lib.Quiescent

@[expose] public section

set_option maxRecDepth 16384

noncomputable section

namespace Cert.FFN

open Idealize.ShloMosaic Idealize.ShloMosaic.TcCoe Idealize.ShloMosaic.ValueIdx Idealize.SL.Sem

/-- The reference ends with its arguments unchanged and no signal left. -/
theorem reference_frame : @Cert.quiescent_Reference2Ideal Cert.Reference2Ideal.Gen.facts := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- The results are equal. -/
theorem result_eq (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v21 (F := Ideal) (Cert.Kernel2Ideal.FFNArray.tokens m c) (Cert.Kernel2Ideal.FFNArray.gain m c)
      (Cert.Kernel2Ideal.FFNArray.inner m c) (Cert.Kernel2Ideal.FFNArray.outw m c) = Cert.Kernel2Ideal.FFNArray.result m c := by
  funext i
  have hi : i = ix2 (i 0) (i 1) := eq_ix2 i
  rw [hi]
  exact Cert.Reference2Ideal.FFNValue.result_at _ _ _ _ (i 0) (i 1)

/-- The kernel and the reference agree over the reals. -/
theorem agree : @Cert.algebraic_Kernel2Ideal_Reference2Ideal Cert.Kernel2Ideal.Gen.facts Cert.Reference2Ideal.Gen.facts := by
  intro m g m' g' _ hargs
  refine ⟨fun c => Cert.Kernel2Ideal.FFNArray.result m c, ?_, ?_⟩
  · exact (θ_run Cert.Kernel2Ideal.defs _ _).mono (fun _ h c => ⟨(h c).1.trans (Cert.Kernel2Ideal.FFNArray.final m c), (h c).2⟩)
      (Cert.Kernel2Ideal.Value.run_blocks (F := Ideal) m g)
  · refine (θ_run Cert.Reference2Ideal.defs _ _).mono (fun _ h c => ⟨(h c).1.trans ?_, (h c).2⟩) (Cert.Reference2Ideal.Value.run (F := Ideal) m' g')
    refine (Cert.Reference2Ideal.Read.val_main_v21_eq _ _ _ _).trans ?_
    obtain ⟨h0, h1, h2, h3, _⟩ := hargs c
    rw [h0, h1, h2, h3]
    exact result_eq m c

end Cert.FFN

end
-- ==== Proof.FIN.IRun.lean ====
/- What one grid point of the program `Kernel3Ideal` does: run on the first half of its grid it stores into its first result, on the second
   half into its second. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.FIN

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable
  (arg1 : Memref sig .tc .vmem S1024x1024 .f32) (harg1 : arg1.IsWhole)
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1024x1024 .f32) (harg7 : arg7.IsWhole)
  (arg8 : Memref sig .tc .vmem S1024x2816 .bf16) (harg8 : arg8.IsWhole)
  (x0 : Vec F S1024x1024 .f32) (x1 : Vec F S1x1024 .f32) (x2 : Vec F S1024x5632 .bf16) (x3 : Vec F S2816x1024 .bf16) (x4 : Vec F S1x1024 .f32)

-- the run's proof term is large
set_option maxHeartbeats 2000000 in
/-- The body at a point of the first half of the tokens: only the first result is stored into. The pieces it leaves in the
    result and in the hidden layer, with the proof that it runs to them. -/
noncomputable def firstRun (hc1 : k0_cond1 i = 1#1) (hc2 : ¬k0_cond2 i = 1#1) (hc3 : k0_cond3 i = 1#1) (hc4 : ¬k0_cond4 i = 1#1) :
    Σ' (L : List (View.Piece (Elt F) S1024x1024 .f32)), { T : List (View.Piece (Elt F) S1024x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg6 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg6.view.loc (c : Thread nD τ) ↦[arg6.view.set]{fullShare} arg6.view.writes (Elt F) f L) ∗ (∃ f, arg8.view.loc (c : Thread nD τ) ↦[arg8.view.set]{fullShare} arg8.view.writes (Elt F) f T)) -∗ K ⟨⟩))
          ⊢ wp frame (wpE (defs₀ (F := F)) Variants.none c none) E (cc0_ffn i arg1 harg1 arg2 harg2 arg3 harg3 arg4 harg4 arg5 harg5 arg6 harg6 arg7 harg7 arg8 harg8) K } := by
  refine ⟨?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

-- the run's proof term is large
set_option maxHeartbeats 2000000 in
/-- The body at a point of the second half of the tokens: only the second result is stored into. The pieces it leaves in the
    result and in the hidden layer, with the proof that it runs to them. -/
noncomputable def secondRun (hc1 : ¬k0_cond1 i = 1#1) (hc2 : k0_cond2 i = 1#1) (hc3 : ¬k0_cond3 i = 1#1) (hc4 : k0_cond4 i = 1#1) :
    Σ' (L : List (View.Piece (Elt F) S1024x1024 .f32)), { T : List (View.Piece (Elt F) S1024x2816 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
                ∗ (∃ f, arg7.view.loc (c : Thread nD τ) ↦[arg7.view.set]{fullShare} arg7.view.writes (Elt F) f L) ∗ (∃ f, arg8.view.loc (c : Thread nD τ) ↦[arg8.view.set]{fullShare} arg8.view.writes (Elt F) f T)) -∗ K ⟨⟩))
          ⊢ wp frame (wpE (defs₀ (F := F)) Variants.none c none) E (cc0_ffn i arg1 harg1 arg2 harg2 arg3 harg3 arg4 harg4 arg5 harg5 arg6 harg6 arg7 harg7 arg8 harg8) K } := by
  refine ⟨?_, ?_, fun E K => ?run⟩
  case run =>
    simp only [cc0_ffn_eq_skeleton]; unfold cc0_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc1 | sl_exact hc2 | sl_exact hc3 | sl_exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel3Ideal.FIN

end
-- ==== Proof.FIN.IFrame.lean ====
/- The frame of the program `Kernel3Ideal`: from the start to the end of a run its arguments stay as they were, and what each
   of its two results holds is named. -/
module

public import proofs.«01_k».proof.Proof.FIN.IRun
public import Idealize.ShloMosaic.Lib.Claim

@[expose] public section

set_option maxRecDepth 16384

noncomputable section

namespace Cert.Kernel3Ideal.FIN

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the kernel -/

/-- The arrays when the kernel starts. -/
abbrev V (c : Dev nD) (b : Ref sig .tc) : Buf (Elt F) ((c : Thread nD τ).loc b) := StableHlo.after hostOps0 (fun b => m (c, b)) b

theorem prefix_fresh : (hostOps0 : List (HloOp τ sig (Elt F))).Forall fun op => op.fresh = ∅ := by
  simp only [List.Forall]; repeat' constructor

set_option maxHeartbeats 800000 in
theorem main_prefix (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub prefix_fresh main_chain

/-- An array that no step before the kernel writes is as it was given. -/
theorem V_given (c : Dev nD) (b : Ref sig .tc) (h0 : b ≠ main_v0) (h1 : b ≠ main_v1) (h2 : b ≠ main_v2) (h3 : b ≠ main_v3) :
    V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2, StableHlo.devRef_ne_of_ne h3⟩))

/-! ## The blocks -/

/-- Window `w`'s block at point `t`. -/
def blockOf (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A buffer of each result, and where a point finds each window. -/
abbrev VO5 : View sig .tc .vmem S1024x1024 .f32 := (Memref.whole cc0_stg5_0 : Memref sig .tc .vmem S1024x1024 .f32).view
abbrev VO6 : View sig .tc .vmem S1024x1024 .f32 := (Memref.whole cc0_stg6_0 : Memref sig .tc .vmem S1024x1024 .f32).view
abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x5632 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2816x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1024 .f32 := win0_6.stage (cfg0.slots t 6)
abbrev hs6 (t : Fin cfg0.N) : (ms6 t).IsWhole := hstage0_6 ((cfg0.slots t 6).cast nbuf0_6)
/-- The hidden layer's buffer. -/
abbrev scratch : Memref sig .tc .vmem S1024x2816 .bf16 := Memref.whole cc0_scratch0

theorem Phi_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## Which half a point is in -/

theorem first_half : ∀ t : Fin grid0.N, t.val < 32 →
    k0_cond1 (grid0.coords t) = 1#1 ∧ ¬k0_cond2 (grid0.coords t) = 1#1 ∧ k0_cond3 (grid0.coords t) = 1#1 ∧ ¬k0_cond4 (grid0.coords t) = 1#1 := by decide +kernel
theorem second_half : ∀ t : Fin grid0.N, 32 ≤ t.val →
    ¬k0_cond1 (grid0.coords t) = 1#1 ∧ k0_cond2 (grid0.coords t) = 1#1 ∧ ¬k0_cond3 (grid0.coords t) = 1#1 ∧ k0_cond4 (grid0.coords t) = 1#1 := by decide +kernel
/-- In the first half the first result is stored, in the second it is kept. -/
theorem stored5 : ∀ t : Fin grid0.N, t.val < 32 → idle0 5 (grid0.coords t) = false := by decide +kernel
theorem kept5 : ∀ t : Fin grid0.N, 32 ≤ t.val → idle0 5 (grid0.coords t) = true := by decide +kernel
theorem stored6 : ∀ t : Fin grid0.N, 32 ≤ t.val → idle0 6 (grid0.coords t) = false := by decide +kernel
theorem kept6 : ∀ t : Fin grid0.N, t.val < 32 → idle0 6 (grid0.coords t) = true := by decide +kernel
/-- The last block of the first result is written back at the last point. -/
theorem flush5 : ∀ t : Fin grid0.N, win0_5.flush t = (decide (t.val < 31) || decide (t.val = 63)) := by decide +kernel
theorem flush6 : ∀ t : Fin grid0.N, win0_6.flush t = decide (32 ≤ t.val) := by decide +kernel

/-! ## What a point leaves -/

section
variable (c : Dev nD) (i : grid0.Coords)
variable
  (arg1 : Memref sig .tc .vmem S1024x1024 .f32) (harg1 : arg1.IsWhole)
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1024x1024 .f32) (harg7 : arg7.IsWhole)
  (arg8 : Memref sig .tc .vmem S1024x2816 .bf16) (harg8 : arg8.IsWhole)
  (x0 : Vec F S1024x1024 .f32) (x1 : Vec F S1x1024 .f32) (x2 : Vec F S1024x5632 .bf16) (x3 : Vec F S2816x1024 .bf16) (x4 : Vec F S1x1024 .f32)

/-- The pieces fill the block. -/
theorem first_cover (hc1 : k0_cond1 i = 1#1) (hc2 : ¬k0_cond2 i = 1#1) (hc3 : k0_cond3 i = 1#1) (hc4 : ¬k0_cond4 i = 1#1) (y : S1024x1024.Idx) :
    ∃ pc ∈ (firstRun c i arg1 harg1 arg2 harg2 arg3 harg3 arg4 harg4 arg5 harg5 arg6 harg6 arg7 harg7 arg8 harg8 x0 x1 x2 x3 x4 hc1 hc2 hc3 hc4).1, y ∈ pc.1.set :=
  View.cover_of_tiledL (firstRun c i arg1 harg1 arg2 harg2 arg3 harg3 arg4 harg4 arg5 harg5 arg6 harg6 arg7 harg7 arg8 harg8 x0 x1 x2 x3 x4 hc1 hc2 hc3 hc4).1 S512x1024.size (by sl_kernel_rfl) y
/-- The block they leave. -/
def firstOut (hc1 : k0_cond1 i = 1#1) (hc2 : ¬k0_cond2 i = 1#1) (hc3 : k0_cond3 i = 1#1) (hc4 : ¬k0_cond4 i = 1#1) : Vec F S1024x1024 .f32 :=
  VO5.read (Elt F) (VO5.writes (Elt F) VO5.junk (firstRun c i arg1 harg1 arg2 harg2 arg3 harg3 arg4 harg4 arg5 harg5 arg6 harg6 arg7 harg7 arg8 harg8 x0 x1 x2 x3 x4 hc1 hc2 hc3 hc4).1)
/-- The pieces fill the block. -/
theorem second_cover (hc1 : ¬k0_cond1 i = 1#1) (hc2 : k0_cond2 i = 1#1) (hc3 : ¬k0_cond3 i = 1#1) (hc4 : k0_cond4 i = 1#1) (y : S1024x1024.Idx) :
    ∃ pc ∈ (secondRun c i arg1 harg1 arg2 harg2 arg3 harg3 arg4 harg4 arg5 harg5 arg6 harg6 arg7 harg7 arg8 harg8 x0 x1 x2 x3 x4 hc1 hc2 hc3 hc4).1, y ∈ pc.1.set :=
  View.cover_of_tiledL (secondRun c i arg1 harg1 arg2 harg2 arg3 harg3 arg4 harg4 arg5 harg5 arg6 harg6 arg7 harg7 arg8 harg8 x0 x1 x2 x3 x4 hc1 hc2 hc3 hc4).1 S512x1024.size (by sl_kernel_rfl) y
/-- The block they leave. -/
def secondOut (hc1 : ¬k0_cond1 i = 1#1) (hc2 : k0_cond2 i = 1#1) (hc3 : ¬k0_cond3 i = 1#1) (hc4 : k0_cond4 i = 1#1) : Vec F S1024x1024 .f32 :=
  VO6.read (Elt F) (VO6.writes (Elt F) VO6.junk (secondRun c i arg1 harg1 arg2 harg2 arg3 harg3 arg4 harg4 arg5 harg5 arg6 harg6 arg7 harg7 arg8 harg8 x0 x1 x2 x3 x4 hc1 hc2 hc3 hc4).1)
end

/-- What point `t` of the first half leaves. -/
def firstAt (c : Dev nD) (t : Fin cfg0.N) (h : t.val < 32) : Vec F S1024x1024 .f32 :=
  firstOut c (grid0.coords t) (ms0 t) (hs0 t) (ms1 t) (hs1 t) (ms2 t) (hs2 t) (ms3 t) (hs3 t) (ms4 t) (hs4 t) (ms5 t) (hs5 t) (ms6 t) (hs6 t) scratch (Memref.isWhole_whole _) (blockOf m c 0 t) (blockOf m c 1 t) (blockOf m c 2 t) (blockOf m c 3 t) (blockOf m c 4 t) (first_half t h).1 (first_half t h).2.1 (first_half t h).2.2.1 (first_half t h).2.2.2
/-- What point `t` of the second half leaves. -/
def secondAt (c : Dev nD) (t : Fin cfg0.N) (h : 32 ≤ t.val) : Vec F S1024x1024 .f32 :=
  secondOut c (grid0.coords t) (ms0 t) (hs0 t) (ms1 t) (hs1 t) (ms2 t) (hs2 t) (ms3 t) (hs3 t) (ms4 t) (hs4 t) (ms5 t) (hs5 t) (ms6 t) (hs6 t) scratch (Memref.isWhole_whole _) (blockOf m c 0 t) (blockOf m c 1 t) (blockOf m c 2 t) (blockOf m c 3 t) (blockOf m c 4 t) (second_half t h).1 (second_half t h).2.1 (second_half t h).2.2.1 (second_half t h).2.2.2

/-- The point that last stored into the first result, and the first that stores into the second from `t` on. -/
def upTo (t : Fin cfg0.N) : Fin cfg0.N := ⟨min t.val 31, by have := t.isLt; omega⟩
theorem upTo_lt (t : Fin cfg0.N) : (upTo t).val < 32 := by show min t.val 31 < 32; omega
def onFrom (t : Fin cfg0.N) : Fin cfg0.N := ⟨max t.val 32, by have := t.isLt; have : cfg0.N = 64 := N_0; omega⟩
theorem onFrom_ge (t : Fin cfg0.N) : 32 ≤ (onFrom t).val := by show 32 ≤ max t.val 32; omega

/-- What the windows hold, point by point. -/
def dats (_ : Fin 1) (c : Dev nD) : Dat τ (Elt F) Unit ℕ (UR sig nD τ) ℕ cfg0 c where
  A w := V m c (Pipeline.arrRef spec0 w)
  after w t := match w with
    | ⟨0, _⟩ => blockOf m c 0 t
    | ⟨1, _⟩ => blockOf m c 1 t
    | ⟨2, _⟩ => blockOf m c 2 t
    | ⟨3, _⟩ => blockOf m c 3 t
    | ⟨4, _⟩ => blockOf m c 4 t
    | ⟨5, _⟩ => firstAt m c (upTo t) (upTo_lt t)
    | ⟨6, _⟩ => secondAt m c (onFrom t) (onFrom_ge t)
  Φ _ := Pipeline.ΦA spec0 c
  q _ := fullShare
  owed _ := 0

theorem A_eq (c : Dev nD) (w : Fin cfg0.W) : (dats m 0 c).A w = V m c (Pipeline.arrRef spec0 w) := by
  dsimp only [dats]
theorem before0 (c : Dev nD) (t : Fin cfg0.N) (d) : (dats m 0 c).before 0 t d = blockOf m c 0 t :=
  ((dats m 0 c).before_in_eq_fetched 0 rfl (fun _ => rfl) (fun _ _ _ => rfl) (fun t => by
      rw [show (dats m 0 c).after 0 t = blockOf m c 0 t by dsimp only [dats]]; unfold Dat.blockOf blockOf; rw [A_eq]; try rfl) t d).trans
    (by unfold Dat.fetched Dat.blockOf blockOf; rw [A_eq]; try rfl)
theorem before1 (c : Dev nD) (t : Fin cfg0.N) (d) : (dats m 0 c).before 1 t d = blockOf m c 1 t :=
  ((dats m 0 c).before_in_eq_fetched 1 rfl (fun _ => rfl) (fun _ _ _ => rfl) (fun t => by
      rw [show (dats m 0 c).after 1 t = blockOf m c 1 t by dsimp only [dats]]; unfold Dat.blockOf blockOf; rw [A_eq]; try rfl) t d).trans
    (by unfold Dat.fetched Dat.blockOf blockOf; rw [A_eq]; try rfl)
theorem before2 (c : Dev nD) (t : Fin cfg0.N) (d) : (dats m 0 c).before 2 t d = blockOf m c 2 t :=
  ((dats m 0 c).before_in_eq_fetched 2 rfl (fun _ => rfl) (fun _ _ _ => rfl) (fun t => by
      rw [show (dats m 0 c).after 2 t = blockOf m c 2 t by dsimp only [dats]]; unfold Dat.blockOf blockOf; rw [A_eq]; try rfl) t d).trans
    (by unfold Dat.fetched Dat.blockOf blockOf; rw [A_eq]; try rfl)
theorem before3 (c : Dev nD) (t : Fin cfg0.N) (d) : (dats m 0 c).before 3 t d = blockOf m c 3 t :=
  ((dats m 0 c).before_in_eq_fetched 3 rfl (fun _ => rfl) (fun _ _ _ => rfl) (fun t => by
      rw [show (dats m 0 c).after 3 t = blockOf m c 3 t by dsimp only [dats]]; unfold Dat.blockOf blockOf; rw [A_eq]; try rfl) t d).trans
    (by unfold Dat.fetched Dat.blockOf blockOf; rw [A_eq]; try rfl)
theorem before4 (c : Dev nD) (t : Fin cfg0.N) (d) : (dats m 0 c).before 4 t d = blockOf m c 4 t :=
  ((dats m 0 c).before_in_eq_fetched 4 rfl (fun _ => rfl) (fun _ _ _ => rfl) (fun t => by
      rw [show (dats m 0 c).after 4 t = blockOf m c 4 t by dsimp only [dats]]; unfold Dat.blockOf blockOf; rw [A_eq]; try rfl) t d).trans
    (by unfold Dat.fetched Dat.blockOf blockOf; rw [A_eq]; try rfl)
theorem after5 (c : Dev nD) (t : Fin cfg0.N) : (dats m 0 c).after 5 t = firstAt m c (upTo t) (upTo_lt t) := by dsimp only [dats]
theorem after6 (c : Dev nD) (t : Fin cfg0.N) : (dats m 0 c).after 6 t = secondAt m c (onFrom t) (onFrom_ge t) := by dsimp only [dats]
theorem first_at (c : Dev nD) (t : Fin cfg0.N) (h : t.val < 32) : (dats m 0 c).after 5 t = firstAt m c t h := by
  have e : upTo t = t := Fin.ext (by show min t.val 31 = t.val; omega)
  rw [after5]; congr 1
theorem second_at (c : Dev nD) (t : Fin cfg0.N) (h : 32 ≤ t.val) : (dats m 0 c).after 6 t = secondAt m c t h := by
  have e : onFrom t = t := Fin.ext (by show max t.val 32 = t.val; omega)
  rw [after6]; congr 1

/-- The second half finds the first result's last block as point 31 left it. -/
theorem found_late (c : Dev nD) (d) (n : ℕ) : ∀ t : Fin cfg0.N, t.val = 32 + n → (dats m 0 c).before 5 t d = (dats m 0 c).after 5 t := by
  induction n with
  | zero =>
    intro t ht
    have hN : t.val < 64 := t.isLt.trans_eq N_0
    have hp : t.val - 1 < cfg0.N := by have := t.isLt; omega
    rw [(dats m 0 c).before_of_pos 5 t (by omega) ((cfg0.win 5).fetch_out rfl t),
      show (cfg0.win 5).flush ⟨t.val - 1, hp⟩ = false from (flush5 ⟨t.val - 1, hp⟩).trans (by simp only [Bool.or_eq_false_iff, decide_eq_false_iff_not]; omega), if_neg Bool.false_ne_true]
    unfold Dat.left
    rw [show cfg0.idle 5 (cfg0.grid.coords ⟨t.val - 1, hp⟩) = false from stored5 ⟨t.val - 1, hp⟩ (by show t.val - 1 < 32; omega)]
    show (dats m 0 c).after 5 ⟨t.val - 1, hp⟩ = _
    have e : upTo ⟨t.val - 1, hp⟩ = upTo t := Fin.ext (by show min (t.val - 1) 31 = min t.val 31; omega)
    rw [after5, after5]; congr 1
  | succ n ih =>
    intro t ht
    have hN : t.val < 64 := t.isLt.trans_eq N_0
    have hp : t.val - 1 < cfg0.N := by have := t.isLt; omega
    rw [(dats m 0 c).before_of_pos 5 t (by omega) ((cfg0.win 5).fetch_out rfl t),
      show (cfg0.win 5).flush ⟨t.val - 1, hp⟩ = false from (flush5 ⟨t.val - 1, hp⟩).trans (by simp only [Bool.or_eq_false_iff, decide_eq_false_iff_not]; omega), if_neg Bool.false_ne_true]
    unfold Dat.left
    rw [show cfg0.idle 5 (cfg0.grid.coords ⟨t.val - 1, hp⟩) = true from kept5 ⟨t.val - 1, hp⟩ (by show 32 ≤ t.val - 1; omega)]
    refine (ih ⟨t.val - 1, hp⟩ (by show t.val - 1 = 32 + n; omega)).trans ?_
    have e : upTo ⟨t.val - 1, hp⟩ = upTo t := Fin.ext (by show min (t.val - 1) 31 = min t.val 31; omega)
    rw [after5, after5]; congr 1

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (dats m 0 c).leavesExact 5 t ∗ (dats m 0 c).leavesExact 6 t)

set_option maxHeartbeats 1000000 in
/-- A point of the first half. -/
theorem sound_first (c : Dev nD) (t : Fin cfg0.N) (h : t.val < 32) :
    bodyPre m c t ⊢ wp frame (wpE (defs₀ (F := F)) Variants.none c none) Set.univ (bodyAt0 t) (fun _ => bodyPost m c t) := by
  have e5 : (dats m 0 c).leavesExact 5 t = owns (c : Thread nD τ) (ms5 t) fullShare ((dats m 0 c).after 5 t) := by
    unfold Dat.leavesExact; rw [show cfg0.idle 5 (cfg0.grid.coords t) = false from stored5 t h]
  have e6 : (dats m 0 c).leavesExact 6 t = iprop(∃ d, owns (c : Thread nD τ) (ms6 t) fullShare ((dats m 0 c).before 6 t d)) :=
    (dats m 0 c).leavesExact_idle 6 t (kept6 t h) ((flush6 t).trans (by simp only [decide_eq_false_iff_not]; omega))
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl, e5, e6, first_at m c t h]
  rw [show (dats m 0 c).Φ t.castSucc = Pipeline.ΦA spec0 c from rfl, Phi_eq]
  unfold firstAt firstOut
  iintro ⟨⟨HS0, Hg⟩, Ho, ⟨%d0, H0⟩, ⟨%d1, H1⟩, ⟨%d2, H2⟩, ⟨%d3, H3⟩, ⟨%d4, H4⟩, H5, H6⟩
  icases H5 with ⟨%d5, H5⟩
  iapply ((firstRun c (grid0.coords t) (ms0 t) (hs0 t) (ms1 t) (hs1 t) (ms2 t) (hs2 t) (ms3 t) (hs3 t) (ms4 t) (hs4 t) (ms5 t) (hs5 t) (ms6 t) (hs6 t) scratch (Memref.isWhole_whole _) (blockOf m c 0 t) (blockOf m c 1 t) (blockOf m c 2 t) (blockOf m c 3 t) (blockOf m c 4 t) (first_half t h).1 (first_half t h).2.1 (first_half t h).2.2.1 (first_half t h).2.2.2).2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  iintro ⟨H0, H1, H2, H3, H4, ⟨%e5, H5⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (first_cover c _ _ _ _ _ _ _ _ _ _ _ _ _ _ _ _ _ _ _ _ _ _ _ _ _ _)
  iexact H6

set_option maxHeartbeats 1000000 in
/-- A point of the second half. -/
theorem sound_second (c : Dev nD) (t : Fin cfg0.N) (h : 32 ≤ t.val) :
    bodyPre m c t ⊢ wp frame (wpE (defs₀ (F := F)) Variants.none c none) Set.univ (bodyAt0 t) (fun _ => bodyPost m c t) := by
  have hN : t.val < 64 := t.isLt.trans_eq N_0
  have e6 : (dats m 0 c).leavesExact 6 t = owns (c : Thread nD τ) (ms6 t) fullShare ((dats m 0 c).after 6 t) := by
    unfold Dat.leavesExact; rw [show cfg0.idle 6 (cfg0.grid.coords t) = false from stored6 t h]
  have e5 : (iprop(∃ d, owns (c : Thread nD τ) (ms5 t) fullShare ((dats m 0 c).before 5 t d)) : sProp 𝕄) ⊢ (dats m 0 c).leavesExact 5 t := by
    by_cases h3 : t.val = 63
    · unfold Dat.leavesExact
      rw [show cfg0.idle 5 (cfg0.grid.coords t) = true from kept5 t h,
        show (cfg0.win 5).flush t = true from (flush5 t).trans (by simp only [h3, decide_true, Bool.or_true])]
      iintro ⟨%d, H⟩
      rw [found_late m c d (t.val - 32) t (by omega)]
      iexact H
    · rw [(dats m 0 c).leavesExact_idle 5 t (kept5 t h) ((flush5 t).trans (by simp only [Bool.or_eq_false_iff, decide_eq_false_iff_not]; omega))]
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl, e6, second_at m c t h]
  rw [show (dats m 0 c).Φ t.castSucc = Pipeline.ΦA spec0 c from rfl, Phi_eq]
  unfold secondAt secondOut
  iintro ⟨⟨HS0, Hg⟩, Ho, ⟨%d0, H0⟩, ⟨%d1, H1⟩, ⟨%d2, H2⟩, ⟨%d3, H3⟩, ⟨%d4, H4⟩, H5, H6⟩
  ihave H5 := e5 $$ H5
  icases H6 with ⟨%d5, H6⟩
  iapply ((secondRun c (grid0.coords t) (ms0 t) (hs0 t) (ms1 t) (hs1 t) (ms2 t) (hs2 t) (ms3 t) (hs3 t) (ms4 t) (hs4 t) (ms5 t) (hs5 t) (ms6 t) (hs6 t) scratch (Memref.isWhole_whole _) (blockOf m c 0 t) (blockOf m c 1 t) (blockOf m c 2 t) (blockOf m c 3 t) (blockOf m c 4 t) (second_half t h).1 (second_half t h).2.1 (second_half t h).2.2.1 (second_half t h).2.2.2).2.2 Set.univ _)
  isplitl [H0]; · iexact H0
  isplitl [H1]; · iexact H1
  isplitl [H2]; · iexact H2
  isplitl [H3]; · iexact H3
  isplitl [H4]; · iexact H4
  isplitl [H6]; · iexists _; iexact H6
  isplitl [HS0]; · iexact HS0
  iintro ⟨H0, H1, H2, H3, H4, ⟨%e5, H6⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (second_cover c _ _ _ _ _ _ _ _ _ _ _ _ _ _ _ _ _ _ _ _ _ _ _ _ _ _)

theorem sound_body (c : Dev nD) (t : Fin cfg0.N) :
    bodyPre m c t ⊢ wp frame (wpE (defs₀ (F := F)) Variants.none c none) Set.univ (bodyAt0 t) (fun _ => bodyPost m c t) := by
  by_cases h : t.val < 32
  · exact sound_first m c t h
  · exact sound_second m c t (by omega)

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The whole run -/

set_option backward.isDefEq.respectTransparency.types false in
/-- Every array ends as the points leave it, and no signal is left. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := main_prefix m Variants.none) (hA := A_eq m) (hΦ := fun _ _ => rfl)

/-- The results as the points leave them, and the arguments as they were. -/
theorem run : θ_run defs (onTc (τ := τ) (main (F := F))) ⟨m, fun _ => 0, ρ⟩ (fun r => ∀ c : Dev nD,
      r.2.mem ((c.tc : Thread nD τ).loc main_v4_0) = (dats m 0 c).arrAt 5 cfg0.N
      ∧ r.2.mem ((c.tc : Thread nD τ).loc main_v4_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6,
      ((h.1 c).1 0).trans (((dats m 0 c).arrAt_in 0 rfl _).trans ((A_eq m c 0).trans (V_given m c main_arg0 (by decide) (by decide) (by decide) (by decide)))),
      ((h.1 c).2 main_arg1 (Pipeline.mem_restRefs_of main_arg1 (by decide) (by decide))).trans (V_given m c main_arg1 (by decide) (by decide) (by decide) (by decide)),
      ((h.1 c).2 main_arg2 (Pipeline.mem_restRefs_of main_arg2 (by decide) (by decide))).trans (V_given m c main_arg2 (by decide) (by decide) (by decide) (by decide)),
      ((h.1 c).2 main_arg3 (Pipeline.mem_restRefs_of main_arg3 (by decide) (by decide))).trans (V_given m c main_arg3 (by decide) (by decide) (by decide) (by decide)),
      ((h.1 c).2 main_arg4 (Pipeline.mem_restRefs_of main_arg4 (by decide) (by decide))).trans (V_given m c main_arg4 (by decide) (by decide) (by decide) (by decide))⟩)
    (run_quiescent m ρ)

/-- The frame. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => (h c).2.2) (run m ρ)) ((θ_run defs _ _).mono (fun _ h => h.2) (run_quiescent m ρ))

end Cert.Kernel3Ideal.FIN

end
-- ==== Proof.FIN.Block.lean ====
/- What one grid point leaves in its block of a result: what each of its 1024 tokens becomes, normed once more. -/
module

public import proofs.«01_k».proof.Proof.FFN.Block
public import proofs.«01_k».proof.Proof.FIN.IFrame

@[expose] public section

set_option maxRecDepth 16384

noncomputable section

namespace Cert.FFN

open Idealize.ShloMosaic

/-- What a token becomes in the last layer: normed once more, with the gains `e`. -/
def last (x g : Fin 1024 → EReal) (W : Fin 1024 → Fin 5632 → EReal) (O : Fin 2816 → Fin 1024 → EReal) (e : Fin 1024 → EReal) : Fin 1024 → EReal :=
  norm (ffn x g W O) e

end Cert.FFN

namespace Cert.Kernel3Ideal.FIN

open Cert.Kernel3Ideal Cert.Kernel3Ideal.Gen Cert.FFN Cert.Kernel2Ideal.FFNPieces Cert.Kernel2Ideal.FFNBlock Cert.Kernel2Ideal.FFNTile
open Idealize.ShloMosaic Idealize.ShloMosaic.TcCoe Idealize.ShloMosaic.ValueIdx Idealize.SL.Sem
open scoped BigOperators

/-- The rows of the result: the rows of the feed-forward part, normed. -/
theorem rows_normed (x : Vec Ideal S512x1024 .f32) (t : Vec Ideal S512x2816 .bf16) (w : Vec Ideal S2816x1024 .bf16) (e : Vec Ideal S1x1024 .f32) (r : Fin 512) (i : Fin 1024) :
    k0_pay16 (F := Ideal) x t w e (ix2 r i)
      = norm (fun i => (x (ix2 r i) : EReal) + Ideal.ofBits .f32 0x3F000000#32 * ∑ j : Fin 2816, (t (ix2 r j) * w (ix2 j i) : EReal)) (fun k => e (ix2 0 k)) i := by
  refine (norm_apply (Cert.Kernel2Ideal.Gen.k0_pay2 (F := Ideal) x t w) e r i).trans ?_
  congr 1
  funext i
  exact result_apply x t w r i

section
variable {F : FTy → Type} [FloatOps F]
variable {sg : RefSig}
  (arg1 : Memref sg .tc .vmem S1024x1024 .f32) (harg1 : arg1.IsWhole)
  (arg2 : Memref sg .tc .vmem S1x1024 .f32) (harg2 : arg2.IsWhole)
  (arg3 : Memref sg .tc .vmem S1024x5632 .bf16) (harg3 : arg3.IsWhole)
  (arg4 : Memref sg .tc .vmem S2816x1024 .bf16) (harg4 : arg4.IsWhole)
  (arg5 : Memref sg .tc .vmem S1x1024 .f32) (harg5 : arg5.IsWhole)
  (arg8 : Memref sg .tc .vmem S1024x2816 .bf16)
  (x0 : Vec F S1024x1024 .f32) (x1 : Vec F S1x1024 .f32) (x2 : Vec F S1024x5632 .bf16) (x3 : Vec F S2816x1024 .bf16) (x4 : Vec F S1x1024 .f32)

/-- The rows of half `s` of the result. -/
def lastHalf (s : ℕ) : View.Piece (Elt F) S1024x1024 .f32 :=
  ⟨Rect.unit (s := S1024x1024) ![512 * (s % 2), 0] S512x1024.size (half_inb s),
    k0_pay16 (rows arg1 harg1 x0 s) (band arg1 harg1 arg2 harg2 arg3 harg3 arg8 x0 x1 x2 s (11 * (s + 1))) (outer arg4 harg4 x3) (gains arg5 harg5 x4)⟩
end

section
variable {F : FTy → Type} [FloatOps F]
variable (c : Dev nD) (i : grid0.Coords)
variable
  (arg1 : Memref sig .tc .vmem S1024x1024 .f32) (harg1 : arg1.IsWhole)
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1024x1024 .f32) (harg7 : arg7.IsWhole)
  (arg8 : Memref sig .tc .vmem S1024x2816 .bf16) (harg8 : arg8.IsWhole)
  (x0 : Vec F S1024x1024 .f32) (x1 : Vec F S1x1024 .f32) (x2 : Vec F S1024x5632 .bf16) (x3 : Vec F S2816x1024 .bf16) (x4 : Vec F S1x1024 .f32)

set_option maxHeartbeats 4000000 in
/-- The pieces of either half of the grid, last first. -/
theorem first_pieces (hc1 : k0_cond1 i = 1#1) (hc2 : ¬k0_cond2 i = 1#1) (hc3 : k0_cond3 i = 1#1) (hc4 : ¬k0_cond4 i = 1#1) :
    (firstRun c i arg1 harg1 arg2 harg2 arg3 harg3 arg4 harg4 arg5 harg5 arg6 harg6 arg7 harg7 arg8 harg8 x0 x1 x2 x3 x4 hc1 hc2 hc3 hc4).1 =
      [lastHalf arg1 harg1 arg2 harg2 arg3 harg3 arg4 harg4 arg5 harg5 arg8 x0 x1 x2 x3 x4 1, lastHalf arg1 harg1 arg2 harg2 arg3 harg3 arg4 harg4 arg5 harg5 arg8 x0 x1 x2 x3 x4 0] := by
  unfold firstRun; dsimp only; rfl
set_option maxHeartbeats 4000000 in
theorem second_pieces (hc1 : ¬k0_cond1 i = 1#1) (hc2 : k0_cond2 i = 1#1) (hc3 : ¬k0_cond3 i = 1#1) (hc4 : k0_cond4 i = 1#1) :
    (secondRun c i arg1 harg1 arg2 harg2 arg3 harg3 arg4 harg4 arg5 harg5 arg6 harg6 arg7 harg7 arg8 harg8 x0 x1 x2 x3 x4 hc1 hc2 hc3 hc4).1 =
      [lastHalf arg1 harg1 arg2 harg2 arg3 harg3 arg4 harg4 arg5 harg5 arg8 x0 x1 x2 x3 x4 1, lastHalf arg1 harg1 arg2 harg2 arg3 harg3 arg4 harg4 arg5 harg5 arg8 x0 x1 x2 x3 x4 0] := by
  unfold secondRun; dsimp only; rfl
end

section
variable {sg : RefSig}
  (arg1 : Memref sg .tc .vmem S1024x1024 .f32) (harg1 : arg1.IsWhole)
  (arg2 : Memref sg .tc .vmem S1x1024 .f32) (harg2 : arg2.IsWhole)
  (arg3 : Memref sg .tc .vmem S1024x5632 .bf16) (harg3 : arg3.IsWhole)
  (arg4 : Memref sg .tc .vmem S2816x1024 .bf16) (harg4 : arg4.IsWhole)
  (arg5 : Memref sg .tc .vmem S1x1024 .f32) (harg5 : arg5.IsWhole)
  (arg8 : Memref sg .tc .vmem S1024x2816 .bf16)
  (x0 : Vec Ideal S1024x1024 .f32) (x1 : Vec Ideal S1x1024 .f32) (x2 : Vec Ideal S1024x5632 .bf16) (x3 : Vec Ideal S2816x1024 .bf16) (x4 : Vec Ideal S1x1024 .f32)

/-- What the tokens of the block become. -/
def lastBlock (y : S1024x1024.Idx) : EReal :=
  last (fun k => x0 (ix2 (y 0) k)) (fun k => x1 (ix2 0 k)) (fun k j => x2 (ix2 k j)) (fun j k => x3 (ix2 j k)) (fun k => x4 (ix2 0 k)) (y 1)

theorem lastHalf_at (s : ℕ) (hs : s < 2) (x : S512x1024.Idx) :
    (lastHalf arg1 harg1 arg2 harg2 arg3 harg3 arg4 harg4 arg5 harg5 arg8 x0 x1 x2 x3 x4 s).2 x
      = lastBlock x0 x1 x2 x3 x4 ((lastHalf arg1 harg1 arg2 harg2 arg3 harg3 arg4 harg4 arg5 harg5 arg8 x0 x1 x2 x3 x4 s).1.emb x) := by
  obtain ⟨r, l, rfl⟩ : ∃ (r : Fin 512) (l : Fin 1024), x = ix2 r l := ⟨x 0, x 1, eq_ix2 x⟩
  have p0 : ((lastHalf arg1 harg1 arg2 harg2 arg3 harg3 arg4 harg4 arg5 harg5 arg8 x0 x1 x2 x3 x4 s).1.emb (ix2 r l) 0).val = 512 * (s % 2) + r.val := by
    show 512 * (s % 2) + 1 * r.val = _; omega
  have p1 : (lastHalf arg1 harg1 arg2 harg2 arg3 harg3 arg4 harg4 arg5 harg5 arg8 x0 x1 x2 x3 x4 s).1.emb (ix2 r l) 1 = l := by
    apply Fin.ext; show 0 + 1 * l.val = _; omega
  refine (rows_normed _ _ _ _ r l).trans ?_
  generalize (lastHalf arg1 harg1 arg2 harg2 arg3 harg3 arg4 harg4 arg5 harg5 arg8 x0 x1 x2 x3 x4 s).1.emb (ix2 r l) = y at p0 p1
  unfold lastBlock last
  rw [p1]
  congr 1
  · funext i
    unfold ffn
    rw [rows_apply arg1 harg1 x0 s r i (y 0) p0]
    refine congrArg (fun t : EReal => (x0 (ix2 (y 0) i) : EReal) + Ideal.ofBits .f32 0x3F000000#32 * t) (Finset.sum_congr rfl fun j _ => ?_)
    rw [band_apply arg1 harg1 arg2 harg2 arg3 harg3 arg8 x0 x1 x2 s hs r j (y 0) p0, outer_apply]
    rfl
  · funext k
    exact Cert.Kernel2Ideal.FFNBlock.gains_apply arg5 harg5 x4 k

/-- Both halves, in a list of pieces. -/
theorem halves_at : ∀ p ∈ [lastHalf arg1 harg1 arg2 harg2 arg3 harg3 arg4 harg4 arg5 harg5 arg8 x0 x1 x2 x3 x4 1, lastHalf arg1 harg1 arg2 harg2 arg3 harg3 arg4 harg4 arg5 harg5 arg8 x0 x1 x2 x3 x4 0],
    ∀ x : p.1.shape.Idx, p.2 x = lastBlock x0 x1 x2 x3 x4 (p.1.emb x) := by
  simp only [List.forall_mem_cons]
  exact ⟨lastHalf_at arg1 harg1 arg2 harg2 arg3 harg3 arg4 harg4 arg5 harg5 arg8 x0 x1 x2 x3 x4 1 (by decide),
    lastHalf_at arg1 harg1 arg2 harg2 arg3 harg3 arg4 harg4 arg5 harg5 arg8 x0 x1 x2 x3 x4 0 (by decide), fun p hp => absurd hp List.not_mem_nil⟩
end

section
variable (c : Dev nD) (i : grid0.Coords)
variable
  (arg1 : Memref sig .tc .vmem S1024x1024 .f32) (harg1 : arg1.IsWhole)
  (arg2 : Memref sig .tc .vmem S1x1024 .f32) (harg2 : arg2.IsWhole)
  (arg3 : Memref sig .tc .vmem S1024x5632 .bf16) (harg3 : arg3.IsWhole)
  (arg4 : Memref sig .tc .vmem S2816x1024 .bf16) (harg4 : arg4.IsWhole)
  (arg5 : Memref sig .tc .vmem S1x1024 .f32) (harg5 : arg5.IsWhole)
  (arg6 : Memref sig .tc .vmem S1024x1024 .f32) (harg6 : arg6.IsWhole)
  (arg7 : Memref sig .tc .vmem S1024x1024 .f32) (harg7 : arg7.IsWhole)
  (arg8 : Memref sig .tc .vmem S1024x2816 .bf16) (harg8 : arg8.IsWhole)
  (x0 : Vec Ideal S1024x1024 .f32) (x1 : Vec Ideal S1x1024 .f32) (x2 : Vec Ideal S1024x5632 .bf16) (x3 : Vec Ideal S2816x1024 .bf16) (x4 : Vec Ideal S1x1024 .f32)

/-- The block a point of either half leaves. -/
theorem first_block (hc1 : k0_cond1 i = 1#1) (hc2 : ¬k0_cond2 i = 1#1) (hc3 : k0_cond3 i = 1#1) (hc4 : ¬k0_cond4 i = 1#1) (y : S1024x1024.Idx) :
    firstOut c i arg1 harg1 arg2 harg2 arg3 harg3 arg4 harg4 arg5 harg5 arg6 harg6 arg7 harg7 arg8 harg8 x0 x1 x2 x3 x4 hc1 hc2 hc3 hc4 y = lastBlock x0 x1 x2 x3 x4 y := by
  have hcov := first_cover c i arg1 harg1 arg2 harg2 arg3 harg3 arg4 harg4 arg5 harg5 arg6 harg6 arg7 harg7 arg8 harg8 x0 x1 x2 x3 x4 hc1 hc2 hc3 hc4
  unfold firstOut
  refine (congrFun (View.read_writes_eq_canon VO5 VO5.junk _ hcov) y).trans ?_
  refine View.canon_apply_of_pieces (Val := Elt Ideal) (e := .f32) (lastBlock x0 x1 x2 x3 x4) _ ?_ y (hcov y)
  rw [first_pieces]
  exact halves_at arg1 harg1 arg2 harg2 arg3 harg3 arg4 harg4 arg5 harg5 arg8 x0 x1 x2 x3 x4
theorem second_block (hc1 : ¬k0_cond1 i = 1#1) (hc2 : k0_cond2 i = 1#1) (hc3 : ¬k0_cond3 i = 1#1) (hc4 : k0_cond4 i = 1#1) (y : S1024x1024.Idx) :
    secondOut c i arg1 harg1 arg2 harg2 arg3 harg3 arg4 harg4 arg5 harg5 arg6 harg6 arg7 harg7 arg8 harg8 x0 x1 x2 x3 x4 hc1 hc2 hc3 hc4 y = lastBlock x0 x1 x2 x3 x4 y := by
  have hcov := second_cover c i arg1 harg1 arg2 harg2 arg3 harg3 arg4 harg4 arg5 harg5 arg6 harg6 arg7 harg7 arg8 harg8 x0 x1 x2 x3 x4 hc1 hc2 hc3 hc4
  unfold secondOut
  refine (congrFun (View.read_writes_eq_canon VO6 VO6.junk _ hcov) y).trans ?_
  refine View.canon_apply_of_pieces (Val := Elt Ideal) (e := .f32) (lastBlock x0 x1 x2 x3 x4) _ ?_ y (hcov y)
  rw [second_pieces]
  exact halves_at arg1 harg1 arg2 harg2 arg3 harg3 arg4 harg4 arg5 harg5 arg8 x0 x1 x2 x3 x4
end

end Cert.Kernel3Ideal.FIN

end
-- ==== Proof.FIN.Array.lean ====
/- The two arrays the last feed-forward part leaves: the tokens of each half, from the array of tokens, the gains and the
   weights. -/
module

public import proofs.«01_k».proof.Proof.FIN.Block
public import Idealize.ShloMosaic.Lib.Pipeline.ValueKit.Basic
public import Idealize.ShloMosaic.Lib.StableHlo.RunRead

@[expose] public section

set_option maxRecDepth 16384

noncomputable section

namespace Cert.Kernel3Ideal.FIN

open Cert.Kernel3Ideal Cert.Kernel3Ideal.Gen Cert.FFN
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-- The tokens, the gains, the two arrays of weights and the gains of the last norm as the kernel is given them. -/
abbrev tokens : S65536x1024.Idx → EReal := m ((c.tc : Thread nD τ).loc main_arg0)
abbrev gain : S1024.Idx → EReal := m ((c.tc : Thread nD τ).loc main_arg1)
abbrev inner : S1024x5632.Idx → EReal := m ((c.tc : Thread nD τ).loc main_arg2)
abbrev outw : S2816x1024.Idx → EReal := m ((c.tc : Thread nD τ).loc main_arg3)
abbrev lastGain : S1024.Idx → EReal := m ((c.tc : Thread nD τ).loc main_arg4)

/-- What token `p` becomes. -/
def becomes (p : Fin 65536) : Fin 1024 → EReal :=
  last (fun k => tokens m c (ix2 p k)) (fun k => gain m c (ix1 k)) (fun k j => inner m c (ix2 k j)) (fun j k => outw m c (ix2 j k)) (fun k => lastGain m c (ix1 k))

/-- A token of either half, and the arrays left of them. -/
def low (p : Fin 32768) : Fin 65536 := ⟨p.val, by omega⟩
def high (p : Fin 32768) : Fin 65536 := ⟨32768 + p.val, by omega⟩
def result0 : Buf (Elt Ideal) ((c.tc : Thread nD τ).loc main_v4_0) := fun i : S32768x1024.Idx => becomes m c (low (i 0)) (i 1)
def result1 : Buf (Elt Ideal) ((c.tc : Thread nD τ).loc main_v4_1) := fun i : S32768x1024.Idx => becomes m c (high (i 0)) (i 1)

/-- The weights as the kernel finds them: their format changed, which over the extended reals changes nothing. -/
theorem inner_found : (V m c main_v0 : S1024x5632.Idx → EReal) = inner m c := by
  unfold V hostOps0
  after_reads_simp
  rfl
theorem outw_found : (V m c main_v1 : S2816x1024.Idx → EReal) = outw m c := by
  unfold V hostOps0
  after_reads_simp
  rfl
/-- A list of gains laid as a row. -/
theorem as_row (v : S1024.Idx → EReal) (k : Fin 1024) : shapeCast S1x1024 v shapeCasts_S1024_S1x1024 (ix2 0 k) = v (ix1 k) := by
  refine shapeCast_apply _ _ _ (ix1 k) ?_
  rw [Shape.rowMajor_val_one, Shape.rowMajor_val_two]
  show k.val = 0 * 1024 + k.val
  omega
/-- The gains as the kernel finds them: as rows. -/
theorem gain_found (k : Fin 1024) : (V m c main_v2 : S1x1024.Idx → EReal) (ix2 0 k) = gain m c (ix1 k) := by
  have e : (V m c main_v2 : S1x1024.Idx → EReal) = shapeCast S1x1024 (gain m c) shapeCasts_S1024_S1x1024 := by
    unfold V hostOps0
    after_reads_simp
    rfl
  rw [e]; exact as_row (gain m c) k
theorem lastGain_found (k : Fin 1024) : (V m c main_v3 : S1x1024.Idx → EReal) (ix2 0 k) = lastGain m c (ix1 k) := by
  have e : (V m c main_v3 : S1x1024.Idx → EReal) = shapeCast S1x1024 (lastGain m c) shapeCasts_S1024_S1x1024 := by
    unfold V hostOps0
    after_reads_simp
    rfl
  rw [e]; exact as_row (lastGain m c) k

/-- Grid point `t` takes block `t`; it leaves block `t` of the first result up to the half, block `t - 32` of the second from there. -/
theorem in_block : ∀ t : Fin grid0.N, cc0_transform_0 (grid0.coords t) 0 = t.val ∧ cc0_transform_0 (grid0.coords t) 1 = 0 := by decide +kernel
theorem out_block0 : ∀ t : Fin grid0.N, cc0_transform_5 (grid0.coords t) 0 = min t.val 31 ∧ cc0_transform_5 (grid0.coords t) 1 = 0 := by decide +kernel
theorem out_block1 : ∀ t : Fin grid0.N, cc0_transform_6 (grid0.coords t) 0 = max t.val 32 - 32 ∧ cc0_transform_6 (grid0.coords t) 1 = 0 := by decide +kernel

variable (t : Fin cfg0.N)

/-- A token of the block. -/
theorem tokens_read (p : Fin 65536) (r k : Fin 1024) (hp : p.val = 1024 * t.val + r.val) : (blockOf m c 0 t : S1024x1024.Idx → EReal) (ix2 r k) = tokens m c (ix2 p k) := by
  refine (congrFun (V_given m c main_arg0 (by decide) (by decide) (by decide) (by decide)) _).trans (congrArg (tokens m c) (funext fun a => Fin.ext ?_))
  refine (Pipeline.Window.rect_emb_val (cfg0.win 0) t (ix2 r k) a).trans ?_
  match a with
  | ⟨0, _⟩ =>
    show cc0_transform_0 (grid0.coords t) 0 * 1024 + r.val = p.val
    rw [(in_block t).1]; omega
  | ⟨1, _⟩ =>
    show cc0_transform_0 (grid0.coords t) 1 * 1024 + k.val = k.val
    rw [(in_block t).2]; omega

/-- The gains and the weights are handed over whole. -/
theorem gain_read (k : Fin 1024) : (blockOf m c 1 t : S1x1024.Idx → EReal) (ix2 0 k) = gain m c (ix1 k) := by
  refine Eq.trans (congrArg (V m c main_v2) (funext fun a => Fin.ext ?_)) (gain_found m c k)
  refine (Pipeline.Window.rect_emb_val (cfg0.win 1) t (ix2 0 k) a).trans ?_
  match a with
  | ⟨0, _⟩ => exact Nat.zero_add _
  | ⟨1, _⟩ => exact Nat.zero_add _
theorem inner_read (k : Fin 1024) (j : Fin 5632) : (blockOf m c 2 t : S1024x5632.Idx → EReal) (ix2 k j) = inner m c (ix2 k j) := by
  refine Eq.trans (congrArg (V m c main_v0) (funext fun a => Fin.ext ?_)) (congrFun (inner_found m c) _)
  refine (Pipeline.Window.rect_emb_val (cfg0.win 2) t (ix2 k j) a).trans ?_
  match a with
  | ⟨0, _⟩ => exact Nat.zero_add _
  | ⟨1, _⟩ => exact Nat.zero_add _
theorem outw_read (j : Fin 2816) (k : Fin 1024) : (blockOf m c 3 t : S2816x1024.Idx → EReal) (ix2 j k) = outw m c (ix2 j k) := by
  refine Eq.trans (congrArg (V m c main_v1) (funext fun a => Fin.ext ?_)) (congrFun (outw_found m c) _)
  refine (Pipeline.Window.rect_emb_val (cfg0.win 3) t (ix2 j k) a).trans ?_
  match a with
  | ⟨0, _⟩ => exact Nat.zero_add _
  | ⟨1, _⟩ => exact Nat.zero_add _

theorem lastGain_read (k : Fin 1024) : (blockOf m c 4 t : S1x1024.Idx → EReal) (ix2 0 k) = lastGain m c (ix1 k) := by
  refine Eq.trans (congrArg (V m c main_v3) (funext fun a => Fin.ext ?_)) (lastGain_found m c k)
  refine (Pipeline.Window.rect_emb_val (cfg0.win 4) t (ix2 0 k) a).trans ?_
  match a with
  | ⟨0, _⟩ => exact Nat.zero_add _
  | ⟨1, _⟩ => exact Nat.zero_add _

/-- A block of tokens, as what its tokens become. -/
theorem block_becomes (y : S1024x1024.Idx) (p : Fin 65536) (l : Fin 1024) (h0 : p.val = 1024 * t.val + (y 0).val) (h1 : l.val = (y 1).val) :
    lastBlock (blockOf m c 0 t) (blockOf m c 1 t) (blockOf m c 2 t) (blockOf m c 3 t) (blockOf m c 4 t) y = becomes m c p l := by
  unfold lastBlock becomes
  have e1 : y 1 = l := Fin.ext h1.symm
  rw [e1]
  congr 1
  · funext k; exact tokens_read m c t p (y 0) k h0
  · funext k; exact gain_read m c t k
  · funext k j; exact inner_read m c t k j
  · funext j k; exact outw_read m c t j k
  · funext k; exact lastGain_read m c t k

/-- The blocks the points leave. -/
theorem firstAt_eq (h : t.val < 32) (y : S1024x1024.Idx) (z : S32768x1024.Idx) (h0 : (z 0).val = 1024 * t.val + (y 0).val) (h1 : (z 1).val = (y 1).val) :
    (firstAt m c t h : S1024x1024.Idx → EReal) y = (result0 m c : S32768x1024.Idx → EReal) z := by
  unfold firstAt
  refine (first_block c (grid0.coords t) _ _ _ _ _ _ _ _ _ _ _ _ _ _ _ _ _ _ _ _ _ _ _ _ _ y).trans ?_
  exact block_becomes m c t y (low (z 0)) (z 1) h0 h1
theorem secondAt_eq (h : 32 ≤ t.val) (y : S1024x1024.Idx) (z : S32768x1024.Idx) (h0 : (z 0).val = 1024 * (t.val - 32) + (y 0).val) (h1 : (z 1).val = (y 1).val) :
    (secondAt m c t h : S1024x1024.Idx → EReal) y = (result1 m c : S32768x1024.Idx → EReal) z := by
  unfold secondAt
  refine (second_block c (grid0.coords t) _ _ _ _ _ _ _ _ _ _ _ _ _ _ _ _ _ _ _ _ _ _ _ _ _ y).trans ?_
  refine block_becomes m c t y (high (z 0)) (z 1) ?_ h1
  show 32768 + (z 0).val = _
  omega

/-- Each block goes to its place in its result. -/
theorem flushed0 : (dats m 0 c).flushed 5 t = ((cfg0.win 5).blk t).view.read (Elt Ideal) (result0 m c) := by
  show (cfg0.win 5).cut (grid0.coords t) ((dats m 0 c).after 5 t) = _
  rw [after5]
  funext y
  have e0 := Pipeline.Window.rect_emb_val (cfg0.win 5) t y (0 : Fin 2)
  have e1 := Pipeline.Window.rect_emb_val (cfg0.win 5) t y (1 : Fin 2)
  have hi0 : (cfg0.win 5).index t (0 : Fin 2) = min t.val 31 := (out_block0 t).1
  have hi1 : (cfg0.win 5).index t (1 : Fin 2) = 0 := (out_block0 t).2
  rw [hi0] at e0; rw [hi1] at e1
  refine firstAt_eq m c (upTo t) (upTo_lt t) _ _ (e0.trans ?_) (e1.trans ?_)
  · show min t.val 31 * 1024 + _ = 1024 * min t.val 31 + _
    rw [Nat.mul_comm]
  · show 0 * 1024 + _ = _
    rw [Nat.zero_mul, Nat.zero_add]
theorem flushed1 : (dats m 0 c).flushed 6 t = ((cfg0.win 6).blk t).view.read (Elt Ideal) (result1 m c) := by
  show (cfg0.win 6).cut (grid0.coords t) ((dats m 0 c).after 6 t) = _
  rw [after6]
  funext y
  have e0 := Pipeline.Window.rect_emb_val (cfg0.win 6) t y (0 : Fin 2)
  have e1 := Pipeline.Window.rect_emb_val (cfg0.win 6) t y (1 : Fin 2)
  have hi0 : (cfg0.win 6).index t (0 : Fin 2) = max t.val 32 - 32 := (out_block1 t).1
  have hi1 : (cfg0.win 6).index t (1 : Fin 2) = 0 := (out_block1 t).2
  rw [hi0] at e0; rw [hi1] at e1
  refine secondAt_eq m c (onFrom t) (onFrom_ge t) _ _ (e0.trans ?_) (e1.trans ?_)
  · show (max t.val 32 - 32) * 1024 + _ = 1024 * (max t.val 32 - 32) + _
    rw [Nat.mul_comm]
  · show 0 * 1024 + _ = _
    rw [Nat.zero_mul, Nat.zero_add]

/-- The results, whole: each row is in the block of one point that writes it back. -/
theorem final0 : (dats m 0 c).arrAt 5 cfg0.N = result0 m c :=
  (dats m 0 c).arrAt_eq_of_cover 5 (result0 m c) (fun t _ => flushed0 m c t) fun i => by
    have hN : cfg0.N = 64 := N_0
    have h0 : (i (0 : Fin 2) : ℕ) < 32768 := (i (0 : Fin 2)).isLt
    have h1 : (i (1 : Fin 2) : ℕ) < 1024 := (i (1 : Fin 2)).isLt
    obtain ⟨t, hf, hb⟩ : ∃ t : Fin cfg0.N, (t.val < 31 ∨ t.val = 63) ∧ min t.val 31 = (i (0 : Fin 2) : ℕ) / 1024 := by
      by_cases h : (i (0 : Fin 2) : ℕ) / 1024 < 31
      · exact ⟨⟨(i (0 : Fin 2) : ℕ) / 1024, by omega⟩, .inl h, by show min ((i (0 : Fin 2) : ℕ) / 1024) 31 = _; omega⟩
      · exact ⟨⟨63, by omega⟩, .inr rfl, by show min 63 31 = _; omega⟩
    refine ⟨t, (flush5 t).trans (by simpa using hf), ?_⟩
    refine (Finset.ext_iff.mp (View.set_slice_whole main_v4_0 ((cfg0.win 5).rect t)) i).mpr ?_
    refine (Pipeline.Window.mem_rect_iff (cfg0.win 5) t i).mpr ?_
    have hi0 : (cfg0.win 5).index t (0 : Fin 2) = min t.val 31 := (out_block0 t).1
    have hi1 : (cfg0.win 5).index t (1 : Fin 2) = 0 := (out_block0 t).2
    intro a
    match a with
    | ⟨0, _⟩ =>
      show (cfg0.win 5).index t (0 : Fin 2) * 1024 ≤ (i (0 : Fin 2) : ℕ) ∧ (i (0 : Fin 2) : ℕ) < (cfg0.win 5).index t (0 : Fin 2) * 1024 + 1024
      rw [hi0, hb]; omega
    | ⟨1, _⟩ =>
      show (cfg0.win 5).index t (1 : Fin 2) * 1024 ≤ (i (1 : Fin 2) : ℕ) ∧ (i (1 : Fin 2) : ℕ) < (cfg0.win 5).index t (1 : Fin 2) * 1024 + 1024
      rw [hi1]; omega
theorem final1 : (dats m 0 c).arrAt 6 cfg0.N = result1 m c :=
  (dats m 0 c).arrAt_eq_of_cover 6 (result1 m c) (fun t _ => flushed1 m c t) fun i => by
    have hN : cfg0.N = 64 := N_0
    have h0 : (i (0 : Fin 2) : ℕ) < 32768 := (i (0 : Fin 2)).isLt
    have h1 : (i (1 : Fin 2) : ℕ) < 1024 := (i (1 : Fin 2)).isLt
    obtain ⟨t, hf, hb⟩ : ∃ t : Fin cfg0.N, 32 ≤ t.val ∧ max t.val 32 - 32 = (i (0 : Fin 2) : ℕ) / 1024 :=
      ⟨⟨32 + (i (0 : Fin 2) : ℕ) / 1024, by omega⟩, Nat.le_add_right _ _, by show max (32 + (i (0 : Fin 2) : ℕ) / 1024) 32 - 32 = _; omega⟩
    refine ⟨t, (flush6 t).trans (by simpa using hf), ?_⟩
    refine (Finset.ext_iff.mp (View.set_slice_whole main_v4_1 ((cfg0.win 6).rect t)) i).mpr ?_
    refine (Pipeline.Window.mem_rect_iff (cfg0.win 6) t i).mpr ?_
    have hi0 : (cfg0.win 6).index t (0 : Fin 2) = max t.val 32 - 32 := (out_block1 t).1
    have hi1 : (cfg0.win 6).index t (1 : Fin 2) = 0 := (out_block1 t).2
    intro a
    match a with
    | ⟨0, _⟩ =>
      show (cfg0.win 6).index t (0 : Fin 2) * 1024 ≤ (i (0 : Fin 2) : ℕ) ∧ (i (0 : Fin 2) : ℕ) < (cfg0.win 6).index t (0 : Fin 2) * 1024 + 1024
      rw [hi0, hb]; omega
    | ⟨1, _⟩ =>
      show (cfg0.win 6).index t (1 : Fin 2) * 1024 ≤ (i (1 : Fin 2) : ℕ) ∧ (i (1 : Fin 2) : ℕ) < (cfg0.win 6).index t (1 : Fin 2) * 1024 + 1024
      rw [hi1]; omega

end Cert.Kernel3Ideal.FIN

end
-- ==== Proof.FIN.Ref.lean ====
/- What the last feed-forward part's reference says each token becomes. -/
module

public import proofs.«01_k».proof.Proof.FFN.Ref
public import proofs.«01_k».proof.Proof.FIN.Block
public import proofs.«01_k».proof.Proof.Gen.Reference3Ideal.Read

@[expose] public section

set_option maxRecDepth 16384

noncomputable section

namespace Cert.Reference3Ideal.FINValue

open Cert.Reference3Ideal Cert.Reference3Ideal.Read Cert.FFN
open Idealize.ShloMosaic Idealize.ShloMosaic.TcCoe Idealize.ShloMosaic.ValueIdx
open scoped BigOperators

variable (x0 : (⟨S65536x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal))
  (x4 : (⟨S1024, .f32⟩ : BufTy).Contents (Elt Ideal))

/-- Up to the last norm it is the feed-forward part of any layer. -/
theorem same : val_main_v21 (F := Ideal) x0 x1 x2 x3 = Cert.Reference2Ideal.Read.val_main_v21 (F := Ideal) x0 x1 x2 x3 := rfl

/-- The normed result. -/
theorem last_at (n : Fin 65536) (k : Fin 1024) :
    val_main_v34 (F := Ideal) x0 x1 x2 x3 x4 (ix2 n k)
      = last (fun k => x0 (ix2 n k)) (fun k => x1 (ix1 k)) (fun k j => x2 (ix2 k j)) (fun j k => x3 (ix2 j k)) (fun k => x4 (ix1 k)) k := by
  have er : ∀ i : Fin 1024, val_main_v21 (F := Ideal) x0 x1 x2 x3 (ix2 n i)
      = ffn (fun k => x0 (ix2 n k)) (fun k => x1 (ix1 k)) (fun k j => x2 (ix2 k j)) (fun j k => x3 (ix2 j k)) i := fun i =>
    (congrFun (same x0 x1 x2 x3) _).trans (Cert.Reference2Ideal.FFNValue.result_at x0 x1 x2 x3 n i)
  rw [val_main_v34_apply, val_main_v31_apply, val_main_v30_apply, val_main_v33_apply, val_main_v32_apply, val_main_v29_apply, val_main_v28_apply, val_main_v27_apply,
    val_main_v26_apply, val_main_v25_apply, val_main_v24_apply, val_main_v23_apply]
  have e0 : ∀ i, val_main_cst_3 (F := Ideal) i = (0 : EReal) := fun _ => Ideal.ofBits_zero_f32
  rw [e0, zero_add]
  have e1 : ∀ i : Fin 1024, idx_main_v23 (idx_main_v24 (idx_main_v30 (ix2 n k))) i = ix2 n i := by
    intro i; funext a; apply Fin.ext
    match a with
    | ⟨0, _⟩ => rfl
    | ⟨1, _⟩ => rfl
  have e2 : idx_main_v32 (idx_main_v33 (ix2 n k)) = ix1 k := by
    funext a; apply Fin.ext
    match a with
    | ⟨0, _⟩ => rfl
  simp only [e1, e2, val_main_v22_apply, er]
  rfl

/-- Either half of the tokens. -/
theorem low_at (p : Fin 32768) (k : Fin 1024) :
    val_main_v35 (F := Ideal) x0 x1 x2 x3 x4 (ix2 p k) = val_main_v34 (F := Ideal) x0 x1 x2 x3 x4 (ix2 ⟨p.val, by omega⟩ k) := by
  refine (val_main_v35_apply x0 x1 x2 x3 x4 (ix2 p k)).trans (congrArg _ (funext fun a => Fin.ext ?_))
  match a with
  | ⟨0, _⟩ => rfl
  | ⟨1, _⟩ => rfl
theorem high_at (p : Fin 32768) (k : Fin 1024) :
    val_main_v36 (F := Ideal) x0 x1 x2 x3 x4 (ix2 p k) = val_main_v34 (F := Ideal) x0 x1 x2 x3 x4 (ix2 ⟨32768 + p.val, by omega⟩ k) := by
  refine (val_main_v36_apply x0 x1 x2 x3 x4 (ix2 p k)).trans (congrArg _ (funext fun a => Fin.ext ?_))
  match a with
  | ⟨0, _⟩ => first | rfl | exact Nat.add_comm _ _
  | ⟨1, _⟩ => rfl

end Cert.Reference3Ideal.FINValue

end
-- ==== Proof.FIN.Claim.lean ====
/- The last feed-forward part's claims: the frame of the reference, and the equations of the kernel's two results and the
   reference's. -/
module

public import proofs.«01_k».proof.Defs
public import proofs.«01_k».proof.Proof.FIN.Array
public import proofs.«01_k».proof.Proof.FIN.Ref
public import proofs.«01_k».proof.Proof.FIN.KFrame
public import proofs.«01_k».proof.Proof.Gen.Reference3Ideal.Run
public import proofs.«01_k».proof.Proof.Gen.Reference3Ideal.Read
public import Idealize.ShloMosaic.Lib.Quiescent

@[expose] public section

set_option maxRecDepth 16384

noncomputable section

namespace Cert.FIN

open Idealize.ShloMosaic Idealize.ShloMosaic.TcCoe Idealize.ShloMosaic.ValueIdx Idealize.SL.Sem Cert.Kernel3Ideal.FIN

/-- The reference ends with its arguments unchanged and no signal left. -/
theorem reference_frame : @Cert.quiescent_Reference3Ideal Cert.Reference3Ideal.Gen.facts := fun m g _ =>
  (θ_run Cert.Reference3Ideal.defs _ _).mono (fun r h => ⟨fun c => (h c).2.2, Idealize.ShloMosaic.sem_eq_zero_of_no_sems (by decide) r.2⟩)
    (Cert.Reference3Ideal.Value.run (F := Ideal) m g)

/-- The results are equal. -/
theorem result0_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v35 (F := Ideal) (tokens m c) (gain m c) (inner m c) (outw m c) (lastGain m c) = result0 m c := by
  funext i
  have hi : i = ix2 (i 0) (i 1) := eq_ix2 i
  rw [hi]
  exact (Cert.Reference3Ideal.FINValue.low_at _ _ _ _ _ (i 0) (i 1)).trans (Cert.Reference3Ideal.FINValue.last_at _ _ _ _ _ _ (i 1))
theorem result1_eq (m : (ℓ : Loc Cert.Kernel3Ideal.nD Cert.Kernel3Ideal.τ Cert.Kernel3Ideal.sig) → Buf (Elt Ideal) ℓ) (c : Dev Cert.Kernel3Ideal.nD) :
    Cert.Reference3Ideal.Read.val_main_v36 (F := Ideal) (tokens m c) (gain m c) (inner m c) (outw m c) (lastGain m c) = result1 m c := by
  funext i
  have hi : i = ix2 (i 0) (i 1) := eq_ix2 i
  rw [hi]
  exact (Cert.Reference3Ideal.FINValue.high_at _ _ _ _ _ (i 0) (i 1)).trans (Cert.Reference3Ideal.FINValue.last_at _ _ _ _ _ _ (i 1))

/-- The kernel and the reference agree over the reals. -/
theorem agree : @Cert.algebraic_Kernel3Ideal_Reference3Ideal Cert.Kernel3Ideal.Gen.facts Cert.Reference3Ideal.Gen.facts := by
  intro m g m' g' _ hargs
  refine ⟨fun c => result0 m c, fun c => result1 m c, ?_, ?_⟩
  · exact (θ_run Cert.Kernel3Ideal.defs _ _).mono (fun _ h c => ⟨(h c).1.trans (final0 m c), (h c).2.1.trans (final1 m c), (h c).2.2⟩)
      (run (F := Ideal) m g)
  · refine (θ_run Cert.Reference3Ideal.defs _ _).mono (fun _ h c => ⟨(h c).1.trans ?_, (h c).2.1.trans ?_, (h c).2.2⟩) (Cert.Reference3Ideal.Value.run (F := Ideal) m' g')
    · refine (Cert.Reference3Ideal.Read.val_main_v35_eq _ _).trans ?_
      obtain ⟨h0, h1, h2, h3, h4⟩ := hargs c
      rw [h0, h1, h2, h3, h4]
      exact result0_eq m c
    · refine (Cert.Reference3Ideal.Read.val_main_v36_eq _ _).trans ?_
      obtain ⟨h0, h1, h2, h3, h4⟩ := hargs c
      rw [h0, h1, h2, h3, h4]
      exact result1_eq m c

end Cert.FIN

end
-- ==== Proof.INP.Spec.lean ====
/- One entry of the input projection of one token, over the extended reals. -/
module

public import proofs.«01_k».proof.Proof.FFN.Spec

@[expose] public section

noncomputable section

namespace Cert.INP

open Idealize.ShloMosaic
open scoped BigOperators

/-- The token `x`, normed and scaled by the gains `g`, along the column `w` of the weights. -/
def proj (x g w : Fin 1024 → EReal) : EReal := ∑ k, FFN.norm x g k * w k

/-- A token along a column of nothing. -/
theorem proj_zero (x g : Fin 1024 → EReal) : proj x g (fun _ => 0) = 0 :=
  Finset.sum_eq_zero fun k _ => mul_zero (FFN.norm x g k)

end Cert.INP

end
-- ==== Proof.INP.Tile.lean ====
/- What the pieces of the body compute, over the extended reals: the normed rows of the block and its rows of the five
   plain results. -/
module

public import proofs.«01_k».proof.Proof.INP.Spec
public import proofs.«01_k».proof.Proof.Gen.Kernel4Ideal.Skeleton
public import Idealize.ShloMosaic.Lib.MatmulPlain
public import Idealize.ShloMosaic.Lib.ValueIdx
public import Idealize.ShloMosaic.Lib.Pipeline.Value
public import Idealize.ShloMosaic.Lib.IdealHost

@[expose] public section

set_option maxRecDepth 16384

noncomputable section

namespace Cert.Kernel4Ideal.INPTile

open Cert.Kernel4Ideal Cert.Kernel4Ideal.Gen Cert.FFN Cert.INP Idealize.ShloMosaic Idealize.ShloMosaic.TcCoe Idealize.ShloMosaic.ValueIdx
open scoped BigOperators

/-- A column of row values, spread over the rows of the block and its two borders. -/
theorem column_apply {α : Type} (x : S544x1.Idx → α) (r : Fin 544) (k : Fin 1024) :
    broadcastTo S544x1024 x broadcasts_S544x1_S544x1024 (ix2 r k) = x (ix2 r 0) := by
  refine broadcastTo_apply _ _ _ (ix2 r (0 : Fin 1)) ?_
  intro a
  match a with
  | ⟨0, _⟩ => rfl
  | ⟨1, _⟩ => rfl

/-- The gains, spread over the same rows. -/
theorem gains_apply {α : Type} (x : S1x1024.Idx → α) (r : Fin 544) (k : Fin 1024) :
    broadcastTo S544x1024 x broadcasts_S1x1024_S544x1024 (ix2 r k) = x (ix2 0 k) := by
  refine broadcastTo_apply _ _ _ (ix2 (0 : Fin 1) k) ?_
  intro a
  match a with
  | ⟨0, _⟩ => rfl
  | ⟨1, _⟩ => rfl

theorem lift_row (r : Fin 544) (k : Fin 1024) : reduces_S544x1024_S544.lift (ix1 r) k = ix2 r k := by
  funext a; apply Fin.ext
  match a with
  | ⟨0, _⟩ => rfl
  | ⟨1, _⟩ => rfl

/-- The sums of the rows. -/
theorem sum_apply (x : FVec Ideal S544x1024 .f32) (r : Fin 544) :
    shapeCast S544x1 (multiReduction .add [1] S544 x 0x00000000#32 reduces_S544x1024_S544 (.inl rfl) rfl) shapeCasts_S544_S544x1 (ix2 r 0)
      = ∑ k : Fin 1024, (x (ix2 r k) : EReal) := by
  refine (shapeCast_apply _ _ _ (ix1 r) ?_).trans ?_
  · rw [Shape.rowMajor_val_one, Shape.rowMajor_val_two]
    show r.val = r.val * 1 + 0
    omega
  · refine (Ideal.multiReduction_add_single (a := 1) x _ _ _ _ _).trans ?_
    exact Finset.sum_congr rfl fun k _ => congrArg x (lift_row r k)

section
variable (a b : Elt Ideal .i32) (u d : Vec Ideal S16x1024 .f32) (x : Vec Ideal S512x1024 .f32) (g : Vec Ideal S1x1024 .f32)

/-- The rows of the block between its two borders. -/
def joined : FVec Ideal S544x1024 .f32 :=
  concatenate S544x1024 0 [⟨S16x1024, Scalar.select (Scalar.cmpi .eq a 1#32) (broadcast S16x1024 (Scalar.ofBits (F := Ideal) .f32 0x00000000#32)) u⟩, ⟨S512x1024, x⟩,
    ⟨S16x1024, Scalar.select (Scalar.cmpi .eq b 1#32) (broadcast S16x1024 (Scalar.ofBits (F := Ideal) .f32 0x00000000#32)) d⟩]
    concatenates_S16x1024_S512x1024_S16x1024_S544x1024_d0

theorem joined_apply (r : Fin 512) (p : Fin 544) (hp : p.val = 16 + r.val) (k : Fin 1024) : joined a b u d x (ix2 p k) = x (ix2 r k) := by
  unfold joined
  refine concatenate_apply_piece 0 _ _ (ix2 p k) 1 (by show 1 < 3; decide) S512x1024 x rfl rfl 16 rfl (ix2 r k) ?_ ?_
  · intro e he
    match e with
    | ⟨0, _⟩ => exact absurd rfl he
    | ⟨1, _⟩ => rfl
  · exact hp.symm

/-- All the rows, normed. -/
theorem norm_apply (r : Fin 544) (k : Fin 1024) :
    k0_pay3 (F := Ideal) a u b d x g (ix2 r k) = norm (fun k => joined a b u d x (ix2 r k)) (fun k => g (ix2 0 k)) k := by
  have h1 := column_apply (rsqrt (addf (divf (shapeCast S544x1 (multiReduction .add [1] S544 (mulf (joined a b u d x) (joined a b u d x)) 0x00000000#32 reduces_S544x1024_S544 (.inl rfl) rfl) shapeCasts_S544_S544x1)
    (broadcast S544x1 (Scalar.ofBits .f32 0x44800000#32))) (broadcast S544x1 (Scalar.ofBits (F := Ideal) .f32 0x358637BD#32)))) r k
  have h2 : broadcastTo S544x1024 (shapeCast S1x1024 g shapeCasts_S1x1024_S1x1024) broadcasts_S1x1024_S544x1024 (ix2 r k) = g (ix2 0 k) := by
    rw [shapeCast_self]; exact gains_apply g r k
  refine Eq.trans (b := (joined a b u d x (ix2 r k) : EReal) * _ * _) (congrArg₂ (fun s t : EReal => (joined a b u d x (ix2 r k) : EReal) * s * t) h1 h2) ?_
  refine congrArg (fun s : EReal => (joined a b u d x (ix2 r k) : EReal) * Ideal.rsqrt (Ideal.div s (Ideal.ofBits .f32 0x44800000#32) + Ideal.ofBits .f32 0x358637BD#32) * g (ix2 0 k)) ?_
  exact sum_apply (mulf (joined a b u d x) (joined a b u d x)) r

/-- The rows of the block, normed. -/
theorem rows_apply (r : Fin 512) (p : Fin 544) (hp : p.val = 16 + r.val) (k : Fin 1024) :
    k0_pay3 (F := Ideal) a u b d x g (ix2 p k) = norm (fun k => x (ix2 r k)) (fun k => g (ix2 0 k)) k := by
  rw [norm_apply]
  exact congrArg (fun y => norm y (fun k => g (ix2 0 k)) k) (funext fun k => joined_apply a b u d x r p hp k)

theorem centre_apply (r : Fin 512) (k : Fin 1024) : k0_pay4 (F := Ideal) a u b d x g (ix2 r k) = norm (fun k => x (ix2 r k)) (fun k => g (ix2 0 k)) k := by
  refine Eq.trans (congrArg (k0_pay3 (F := Ideal) a u b d x g) (funext fun e => Fin.ext ?_)) (rows_apply a b u d x g r ⟨16 + r.val, by omega⟩ rfl k)
  match e with
  | ⟨0, _⟩ => rfl
  | ⟨1, _⟩ => exact Nat.zero_add _

/-- A product with some columns of the weights. -/
theorem product {M N : ℕ} (h : FVec Ideal ⟨2, ![M, 1024]⟩ .bf16) (w : FVec Ideal ⟨2, ![1024, N]⟩ .bf16) (r : Fin M) (j : Fin N) (z : Fin 1024 → EReal)
    (hz : ∀ k, h (ix2 r k) = z k) :
    FloatOps.matmul (F := Ideal) (DotDims.plain M 1024 N) none h w (constant ⟨2, ![M, N]⟩ .f32 0x00000000#32) (ix2 r j) = ∑ k : Fin 1024, z k * w (ix2 k j) := by
  refine (Ideal.matmul_plain_apply none h w _ r j).trans ?_
  show Ideal.ofBits .f32 0x00000000#32 + _ = _
  rw [Ideal.ofBits_zero_f32, zero_add]
  exact Finset.sum_congr rfl fun k _ => by rw [hz]

variable (r : Fin 512)

/-- The gate of the linear attention: the last columns of the middle product. -/
theorem z_apply (w : Vec Ideal S1024x1536 .bf16) (j : Fin 384) :
    k0_pay7 (F := Ideal) a u b d x g w (ix2 r j) = proj (fun k => x (ix2 r k)) (fun k => g (ix2 0 k)) (fun k => w (ix2 k ⟨1152 + j.val, by omega⟩)) := by
  refine Eq.trans (congrArg (k0_pay5 (F := Ideal) a u b d x g w) (a₂ := ix2 ⟨16 + r.val, by omega⟩ ⟨1152 + j.val, by omega⟩) (funext fun e => Fin.ext ?_)) ?_
  · match e with
    | ⟨0, _⟩ => exact Nat.zero_add _
    | ⟨1, _⟩ => exact congrArg (1152 + ·) (Nat.zero_add _)
  · unfold k0_pay5
    rw [shapeCast_self]
    exact product _ w _ _ _ fun k => rows_apply a b u d x g r _ rfl k

section
variable (h : FVec Ideal S512x1024 .bf16) (z : Fin 1024 → EReal) (hz : ∀ k, h (ix2 r k) = z k)
include hz

theorem na_apply (w : Vec Ideal S1024x768 .bf16) (j : Fin 768) : k0_pay8 (F := Ideal) h w (ix2 r j) = ∑ k, z k * w (ix2 k j) := by
  unfold k0_pay8
  rw [shapeCast_self]
  exact product h w r j z hz

theorem wide_apply (w : Vec Ideal S1024x1536 .bf16) (j : Fin 1536) : k0_pay9 (F := Ideal) h w (ix2 r j) = ∑ k, z k * w (ix2 k j) := by
  unfold k0_pay9
  rw [shapeCast_self]
  exact product h w r j z hz

theorem ml_apply (w : Vec Ideal S1024x1536 .bf16) (j : Fin 1152) : k0_pay10 (F := Ideal) h w (ix2 r j) = ∑ k, z k * w (ix2 k ⟨j.val, by omega⟩) := by
  refine Eq.trans (congrArg (k0_pay9 (F := Ideal) h w) (funext fun e => Fin.ext ?_)) (wide_apply r h z hz w ⟨j.val, by omega⟩)
  match e with
  | ⟨0, _⟩ => exact Nat.zero_add _
  | ⟨1, _⟩ => exact Nat.zero_add _

theorem o_apply (w : Vec Ideal S1024x1536 .bf16) (j : Fin 384) : k0_pay11 (F := Ideal) h w (ix2 r j) = ∑ k, z k * w (ix2 k ⟨1152 + j.val, by omega⟩) := by
  refine Eq.trans (congrArg (k0_pay9 (F := Ideal) h w) (funext fun e => Fin.ext ?_)) (wide_apply r h z hz w ⟨1152 + j.val, by omega⟩)
  match e with
  | ⟨0, _⟩ => exact Nat.zero_add _
  | ⟨1, _⟩ => rfl

theorem gates_apply (w : Vec Ideal S1024x128 .bf16) (j : Fin 128) : k0_pay12 (F := Ideal) h w (ix2 r j) = ∑ k, z k * w (ix2 k j) := by
  unfold k0_pay12
  rw [shapeCast_self]
  exact product h w r j z hz

end
end

end Cert.Kernel4Ideal.INPTile

end
-- ==== Proof.INP.Block.lean ====
/- What one grid point leaves in its blocks of the five plain results. -/
module

public import proofs.«01_k».proof.Proof.INP.Tile
public import proofs.«01_k».proof.Proof.FFN.Block
public import proofs.«01_k».proof.Proof.NA.Spec
public import proofs.«01_k».proof.Proof.Gen.Kernel4Ideal.Frame

@[expose] public section

set_option maxRecDepth 16384

noncomputable section

namespace Cert.Kernel4Ideal.INPBlock

open Cert.Kernel4Ideal Cert.Kernel4Ideal.Gen Cert.Kernel4Ideal.INPTile Cert.INP
open Cert.NA (at2 at2_eq)
open Idealize.ShloMosaic Idealize.ShloMosaic.TcCoe Idealize.ShloMosaic.ValueIdx Idealize.SL.Sem
open scoped BigOperators

variable (c : Dev nD) (i : grid0.Coords)
variable
  (arg3 : Memref sig .tc .vmem S512x1024 .f32) (harg3 : arg3.IsWhole)
  (arg4 : Memref sig .tc .vmem S16x1024 .f32) (harg4 : arg4.IsWhole)
  (arg5 : Memref sig .tc .vmem S16x1024 .f32) (harg5 : arg5.IsWhole)
  (arg6 : Memref sig .tc .vmem S1x1024 .f32) (harg6 : arg6.IsWhole)
  (arg7 : Memref sig .tc .vmem S1024x3968 .bf16) (harg7 : arg7.IsWhole)
  (arg8 : Memref sig .tc .vmem S8x1152 .f32) (harg8 : arg8.IsWhole)
  (arg9 : Memref sig .tc .vmem S512x768 .bf16) (harg9 : arg9.IsWhole)
  (arg10 : Memref sig .tc .vmem S512x1152 .f32) (harg10 : arg10.IsWhole)
  (arg11 : Memref sig .tc .vmem S512x384 .bf16) (harg11 : arg11.IsWhole)
  (arg12 : Memref sig .tc .vmem S512x1152 .f32) (harg12 : arg12.IsWhole)
  (arg13 : Memref sig .tc .vmem S512x384 .bf16) (harg13 : arg13.IsWhole)
  (arg14 : Memref sig .tc .vmem S512x128 .f32) (harg14 : arg14.IsWhole)
  (x0 : Vec Ideal S512x1024 .f32) (x1 : Vec Ideal S16x1024 .f32) (x2 : Vec Ideal S16x1024 .f32) (x3 : Vec Ideal S1x1024 .f32)
  (x4 : Vec Ideal S1024x3968 .bf16) (x5 : Vec Ideal S8x1152 .f32) (xt0 : TbBuf0 (F := Ideal) c tbM0_0) (xt1 : TbBuf0 (F := Ideal) c tbM0_1)

/-- The rows of the block. -/
def rows : Vec Ideal S512x1024 .f32 :=
  View.readAt (Elt Ideal) arg3.view (Rect.unit (s := S512x1024) ![0, 0] S512x1024.size inb_S512x1024_S512x1024_0_0).toLoadRect (harg3.unread x0)
/-- The gains. -/
def gains : Vec Ideal S1x1024 .f32 :=
  View.readAt (Elt Ideal) arg6.view (Rect.unit (s := S1x1024) ![0, 0] S1x1024.size inb_S1x1024_S1x1024_0_0).toLoadRect (harg6.unread x3)
/-- Columns of the weights. -/
def cols {n : ℕ} (o : ℕ) (h : ∀ a, (![0, o] : Fin 2 → ℕ) a + (⟨2, ![1024, n]⟩ : Shape).size a ≤ S1024x3968.size a) : Vec Ideal ⟨2, ![1024, n]⟩ .bf16 :=
  View.readAt (Elt Ideal) arg7.view (Rect.unit (s := S1024x3968) ![0, o] (⟨2, ![1024, n]⟩ : Shape).size h).toLoadRect (harg7.unread x4)

theorem rows_read (r : Fin 512) (k : Fin 1024) : rows arg3 harg3 x0 (ix2 r k) = x0 (ix2 r k) := by
  unfold rows
  rw [View.readAt_eq_ld, harg3.read_unread]
  exact Kernel2Ideal.FFNBlock.box (M := 512) (N := 1024) (m := 512) (n := 1024) x0 _ inb_S512x1024_S512x1024_0_0 r k r k (Nat.zero_add _).symm (Nat.zero_add _).symm

theorem gains_read (k : Fin 1024) : gains arg6 harg6 x3 (ix2 0 k) = x3 (ix2 0 k) := by
  unfold gains
  rw [View.readAt_eq_ld, harg6.read_unread]
  exact Kernel2Ideal.FFNBlock.box (M := 1) (N := 1024) (m := 1) (n := 1024) x3 _ inb_S1x1024_S1x1024_0_0 0 k 0 k rfl (Nat.zero_add _).symm

theorem cols_read {n : ℕ} (o : ℕ) (h : ∀ a, (![0, o] : Fin 2 → ℕ) a + (⟨2, ![1024, n]⟩ : Shape).size a ≤ S1024x3968.size a) (k : Fin 1024) (j : Fin n) :
    cols arg7 harg7 x4 o h (ix2 k j) = at2 (M := 1024) (N := 3968) x4 k.val (o + j.val) := by
  have hb : o + n ≤ 3968 := h 1
  rw [at2_eq (M := 1024) (N := 3968) x4 k.isLt (show o + j.val < 3968 by omega)]
  unfold cols
  rw [View.readAt_eq_ld, harg7.read_unread]
  exact Kernel2Ideal.FFNBlock.box (M := 1024) (N := 3968) (m := 1024) (n := n) x4 _ h k j k ⟨o + j.val, by omega⟩ (Nat.zero_add _).symm rfl

set_option maxHeartbeats 4000000 in
/-- What is stored: each of the five results whole, from the normed rows, whatever the borders are. -/
theorem pieces : ∃ (a b : Elt Ideal .i32) (u d : Vec Ideal S16x1024 .f32),
    (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).1
      = [⟨Rect.unit (s := S512x768) ![0, 0] S512x768.size inb_S512x768_S512x768_0_0,
          k0_pay8 (k0_pay4 a u b d (rows arg3 harg3 x0) (gains arg6 harg6 x3)) (cols arg7 harg7 x4 0 inb_S1024x3968_S1024x768_0_0)⟩]
    ∧ (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).2.2.1
      = [⟨Rect.unit (s := S512x384) ![0, 0] S512x384.size inb_S512x384_S512x384_0_0,
          k0_pay7 a u b d (rows arg3 harg3 x0) (gains arg6 harg6 x3) (cols arg7 harg7 x4 768 inb_S1024x3968_S1024x1536_0_768)⟩]
    ∧ (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).2.2.2.1
      = [⟨Rect.unit (s := S512x1152) ![0, 0] S512x1152.size inb_S512x1152_S512x1152_0_0,
          k0_pay10 (k0_pay4 a u b d (rows arg3 harg3 x0) (gains arg6 harg6 x3)) (cols arg7 harg7 x4 2304 inb_S1024x3968_S1024x1536_0_2304)⟩]
    ∧ (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).2.2.2.2.1
      = [⟨Rect.unit (s := S512x384) ![0, 0] S512x384.size inb_S512x384_S512x384_0_0,
          k0_pay11 (k0_pay4 a u b d (rows arg3 harg3 x0) (gains arg6 harg6 x3)) (cols arg7 harg7 x4 2304 inb_S1024x3968_S1024x1536_0_2304)⟩]
    ∧ (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).2.2.2.2.2.1
      = [⟨Rect.unit (s := S512x128) ![0, 0] S512x128.size inb_S512x128_S512x128_0_0,
          k0_pay12 (k0_pay4 a u b d (rows arg3 harg3 x0) (gains arg6 harg6 x3)) (cols arg7 harg7 x4 3840 inb_S1024x3968_S1024x128_0_3840)⟩] := by
  unfold kernelRun0_A; dsimp only
  exact ⟨_, _, _, _, rfl, rfl, rfl, rfl, rfl⟩

/-- What one store of a whole block leaves. -/
theorem whole {N : ℕ} {e : EltTy} (L : List (View.Piece (Elt Ideal) ⟨2, ![512, N]⟩ e)) (h : ∀ a, (![0, 0] : Fin 2 → ℕ) a + (⟨2, ![512, N]⟩ : Shape).size a ≤ (⟨2, ![512, N]⟩ : Shape).size a)
    (v : Vec Ideal ⟨2, ![512, N]⟩ e) (hL : L = [⟨Rect.unit (s := ⟨2, ![512, N]⟩) ![0, 0] (⟨2, ![512, N]⟩ : Shape).size h, v⟩]) (G : (⟨2, ![512, N]⟩ : Shape).Idx → Elt Ideal e)
    (hG : ∀ (r : Fin 512) (j : Fin N), v (ix2 r j) = G (ix2 r j)) (y : (⟨2, ![512, N]⟩ : Shape).Idx) (hy : ∃ p ∈ L, y ∈ p.1.set) :
    View.canon L y = G y := by
  refine View.canon_apply_of_pieces (Val := Elt Ideal) (e := e) G L ?_ y hy
  rw [hL]
  simp only [List.forall_mem_cons]
  refine ⟨fun x => ?_, fun p hp => absurd hp List.not_mem_nil⟩
  obtain ⟨r, j, rfl⟩ : ∃ (r : Fin 512) (j : Fin N), x = ix2 r j := ⟨x 0, x 1, eq_ix2 x⟩
  refine (hG r j).trans (congrArg G (funext fun a => Fin.ext ?_))
  match a with
  | ⟨0, _⟩ => show r.val = 0 + 1 * r.val; omega
  | ⟨1, _⟩ => show j.val = 0 + 1 * j.val; omega

/-- Entry `q` of the projection of row `r` of the block. -/
def entry (r : Fin 512) (q : ℕ) : EReal := proj (fun k => x0 (ix2 r k)) (fun k => x3 (ix2 0 k)) (fun k => at2 (M := 1024) (N := 3968) x4 k.val q)

theorem entry_of (r : Fin 512) (q : ℕ) (w : Fin 1024 → EReal) (hw : ∀ k, w k = at2 (M := 1024) (N := 3968) x4 k.val q) :
    proj (fun k => rows arg3 harg3 x0 (ix2 r k)) (fun k => gains arg6 harg6 x3 (ix2 0 k)) w = entry x0 x3 x4 r q := by
  unfold entry
  congr 1
  · funext k; exact rows_read arg3 harg3 x0 r k
  · funext k; exact gains_read arg6 harg6 x3 k
  · funext k; exact hw k

theorem na_block (y : S512x768.Idx) :
    View.canon (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).1 y = entry x0 x3 x4 (y 0) (0 + (y 1).val) := by
  obtain ⟨a, b, u, d, h, -⟩ := pieces c i arg3 harg3 arg4 harg4 arg5 harg5 arg6 harg6 arg7 harg7 arg8 harg8 arg9 harg9 arg10 harg10 arg11 harg11 arg12 harg12 arg13 harg13 arg14 harg14 x0 x1 x2 x3 x4 x5 xt0 xt1
  refine whole (N := 768) (e := .bf16) _ _ _ h (fun y => entry x0 x3 x4 (y 0) (0 + (y 1).val)) (fun r j => ?_) y (cover0_A_6 c i arg3 harg3 arg4 harg4 arg5 harg5 arg6 harg6 arg7 harg7 arg8 harg8 arg9 harg9 arg10 harg10 arg11 harg11 arg12 harg12 arg13 harg13 arg14 harg14 x0 x1 x2 x3 x4 x5 xt0 xt1 y)
  exact (na_apply r _ _ (centre_apply a b u d _ _ r) _ j).trans (entry_of arg3 harg3 arg6 harg6 x0 x3 x4 r _ _ fun k => cols_read arg7 harg7 x4 0 _ k j)

theorem z_block (y : S512x384.Idx) :
    View.canon (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).2.2.1 y = entry x0 x3 x4 (y 0) (768 + (1152 + (y 1).val)) := by
  obtain ⟨a, b, u, d, -, h, -⟩ := pieces c i arg3 harg3 arg4 harg4 arg5 harg5 arg6 harg6 arg7 harg7 arg8 harg8 arg9 harg9 arg10 harg10 arg11 harg11 arg12 harg12 arg13 harg13 arg14 harg14 x0 x1 x2 x3 x4 x5 xt0 xt1
  refine whole (N := 384) (e := .bf16) _ _ _ h (fun y => entry x0 x3 x4 (y 0) (768 + (1152 + (y 1).val))) (fun r j => ?_) y (cover0_A_8 c i arg3 harg3 arg4 harg4 arg5 harg5 arg6 harg6 arg7 harg7 arg8 harg8 arg9 harg9 arg10 harg10 arg11 harg11 arg12 harg12 arg13 harg13 arg14 harg14 x0 x1 x2 x3 x4 x5 xt0 xt1 y)
  exact (z_apply a b u d _ _ r _ j).trans (entry_of arg3 harg3 arg6 harg6 x0 x3 x4 r _ _ fun k => cols_read (n := 1536) arg7 harg7 x4 768 _ k _)

theorem ml_block (y : S512x1152.Idx) :
    View.canon (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).2.2.2.1 y = entry x0 x3 x4 (y 0) (2304 + (y 1).val) := by
  obtain ⟨a, b, u, d, -, -, h, -⟩ := pieces c i arg3 harg3 arg4 harg4 arg5 harg5 arg6 harg6 arg7 harg7 arg8 harg8 arg9 harg9 arg10 harg10 arg11 harg11 arg12 harg12 arg13 harg13 arg14 harg14 x0 x1 x2 x3 x4 x5 xt0 xt1
  refine whole (N := 1152) (e := .f32) _ _ _ h (fun y => entry x0 x3 x4 (y 0) (2304 + (y 1).val)) (fun r j => ?_) y (cover0_A_9 c i arg3 harg3 arg4 harg4 arg5 harg5 arg6 harg6 arg7 harg7 arg8 harg8 arg9 harg9 arg10 harg10 arg11 harg11 arg12 harg12 arg13 harg13 arg14 harg14 x0 x1 x2 x3 x4 x5 xt0 xt1 y)
  exact (ml_apply r _ _ (centre_apply a b u d _ _ r) _ j).trans (entry_of arg3 harg3 arg6 harg6 x0 x3 x4 r _ _ fun k => cols_read (n := 1536) arg7 harg7 x4 2304 _ k _)

theorem o_block (y : S512x384.Idx) :
    View.canon (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).2.2.2.2.1 y = entry x0 x3 x4 (y 0) (2304 + (1152 + (y 1).val)) := by
  obtain ⟨a, b, u, d, -, -, -, h, -⟩ := pieces c i arg3 harg3 arg4 harg4 arg5 harg5 arg6 harg6 arg7 harg7 arg8 harg8 arg9 harg9 arg10 harg10 arg11 harg11 arg12 harg12 arg13 harg13 arg14 harg14 x0 x1 x2 x3 x4 x5 xt0 xt1
  refine whole (N := 384) (e := .bf16) _ _ _ h (fun y => entry x0 x3 x4 (y 0) (2304 + (1152 + (y 1).val))) (fun r j => ?_) y (cover0_A_10 c i arg3 harg3 arg4 harg4 arg5 harg5 arg6 harg6 arg7 harg7 arg8 harg8 arg9 harg9 arg10 harg10 arg11 harg11 arg12 harg12 arg13 harg13 arg14 harg14 x0 x1 x2 x3 x4 x5 xt0 xt1 y)
  exact (o_apply r _ _ (centre_apply a b u d _ _ r) _ j).trans (entry_of arg3 harg3 arg6 harg6 x0 x3 x4 r _ _ fun k => cols_read (n := 1536) arg7 harg7 x4 2304 _ k _)

set_option maxHeartbeats 4000000 in
theorem gates_block (y : S512x128.Idx) :
    View.canon (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5 xt0 xt1).2.2.2.2.2.1 y = entry x0 x3 x4 (y 0) (3840 + (y 1).val) := by
  obtain ⟨a, b, u, d, e⟩ := pieces c i arg3 harg3 arg4 harg4 arg5 harg5 arg6 harg6 arg7 harg7 arg8 harg8 arg9 harg9 arg10 harg10 arg11 harg11 arg12 harg12 arg13 harg13 arg14 harg14 x0 x1 x2 x3 x4 x5 xt0 xt1
  refine whole (N := 128) (e := .f32) _ _ _ e.2.2.2.2 (fun y => entry x0 x3 x4 (y 0) (3840 + (y 1).val)) (fun r j => ?_) y (cover0_A_11 c i arg3 harg3 arg4 harg4 arg5 harg5 arg6 harg6 arg7 harg7 arg8 harg8 arg9 harg9 arg10 harg10 arg11 harg11 arg12 harg12 arg13 harg13 arg14 harg14 x0 x1 x2 x3 x4 x5 xt0 xt1 y)
  exact (gates_apply r _ _ (centre_apply a b u d _ _ r) _ j).trans (entry_of arg3 harg3 arg6 harg6 x0 x3 x4 r _ _ fun k => cols_read arg7 harg7 x4 3840 _ k j)

end Cert.Kernel4Ideal.INPBlock

end
-- ==== Proof.INP.Array.lean ====
/- The five arrays the kernel leaves: for every token, its projections along columns of the weights as the kernel finds
   them. -/
module

public import proofs.«01_k».proof.Proof.INP.Block
public import Idealize.ShloMosaic.Lib.Pipeline.ValueKit.Basic
public import Idealize.ShloMosaic.Lib.StableHlo.RunRead

@[expose] public section

set_option maxRecDepth 16384

noncomputable section

namespace Cert.Kernel4Ideal.INPArray

open Cert.Kernel4Ideal Cert.Kernel4Ideal.Gen Cert.Kernel4Ideal.INPBlock Cert.INP
open Cert.NA (at2 at2_eq at2_ix2)
open Idealize.ShloMosaic Idealize.ShloMosaic.TcCoe Idealize.ShloMosaic.ValueIdx Idealize.SL.Sem

variable (m : (ℓ : Loc nD τ sig) → Buf (Elt Ideal) ℓ)

/-- The tokens, the gains and the weights as the kernel is given them. -/
abbrev tokens (c : Dev nD) : S65536x1024.Idx → EReal := m ((c.tc : Thread nD τ).loc main_arg0)
abbrev gain (c : Dev nD) : S1024.Idx → EReal := m ((c.tc : Thread nD τ).loc main_arg1)
abbrev weights (c : Dev nD) : S1024x3888.Idx → EReal := m ((c.tc : Thread nD τ).loc main_arg2)
/-- The weights as the kernel finds them. -/
abbrev found (c : Dev nD) : S1024x3968.Idx → EReal := V m c main_v6

/-- Entry `q` of the projection of token `n`, along the weights as they are found. -/
def value (c : Dev nD) (n q : ℕ) : EReal :=
  proj (fun k => at2 (M := 65536) (N := 1024) (tokens m c) n k.val) (fun k => gain m c (ix1 k)) (fun k => at2 (M := 1024) (N := 3968) (found m c) k.val q)

/-- The gains as the kernel finds them: as a row. -/
theorem gain_found (c : Dev nD) (k : Fin 1024) : (V m c main_v9 : S1x1024.Idx → EReal) (ix2 0 k) = gain m c (ix1 k) := by
  have e : (V m c main_v9 : S1x1024.Idx → EReal) = shapeCast S1x1024 (gain m c) shapeCasts_S1024_S1x1024 := by
    unfold V hostOps0
    after_reads_simp
    rfl
  rw [e]
  refine shapeCast_apply _ _ _ (ix1 k) ?_
  rw [Shape.rowMajor_val_one, Shape.rowMajor_val_two]
  show k.val = 0 * 1024 + k.val
  omega

/-- Grid point `t` takes and leaves block `t`. -/
theorem block_in : ∀ t : Fin grid0.N, cc0_transform_0 (grid0.coords t) = ![t.val, 0] := by decide +kernel
theorem block_out : ∀ t : Fin grid0.N, cc0_transform_6 (grid0.coords t) = ![t.val, 0] := by decide +kernel

section
variable (hO : Ok m) (c : Dev nD) (t : Fin (cfgM m hO).N)

theorem tokens_read (r : Fin 512) (k : Fin 1024) : (iblk m hO c 0 t : S512x1024.Idx → EReal) (ix2 r k) = at2 (M := 65536) (N := 1024) (tokens m c) (512 * t.val + r.val) k.val := by
  have ht : t.val < 128 := lt_of_lt_of_eq t.isLt N_0
  rw [at2_eq (M := 65536) (N := 1024) (tokens m c) (show 512 * t.val + r.val < 65536 by omega) k.isLt]
  refine (congrFun (V_main_arg0 m c) _).trans (congrArg (tokens m c) (funext fun a => Fin.ext ?_))
  refine (Pipeline.Window.rect_emb_val ((cfgM m hO).win 0) t (ix2 r k) a).trans ?_
  have h := block_in t
  match a with
  | ⟨0, _⟩ =>
    show cc0_transform_0 (grid0.coords t) 0 * 512 + r.val = 512 * t.val + r.val
    rw [h]; show t.val * 512 + r.val = _; omega
  | ⟨1, _⟩ =>
    show cc0_transform_0 (grid0.coords t) 1 * 1024 + k.val = k.val
    rw [h]; show 0 * 1024 + k.val = k.val; omega

/-- The gains and the weights are handed over whole. -/
theorem gain_read (k : Fin 1024) : (iblk m hO c 3 t : S1x1024.Idx → EReal) (ix2 0 k) = gain m c (ix1 k) := by
  refine Eq.trans (congrArg (V m c main_v9) (funext fun a => Fin.ext ?_)) (gain_found m c k)
  refine (Pipeline.Window.rect_emb_val ((cfgM m hO).win 3) t (ix2 0 k) a).trans ?_
  match a with
  | ⟨0, _⟩ => exact Nat.zero_add _
  | ⟨1, _⟩ => exact Nat.zero_add _
theorem weights_read : (iblk m hO c 4 t : S1024x3968.Idx → EReal) = found m c := by
  funext y
  refine congrArg (V m c main_v6) (funext fun a => Fin.ext ?_)
  refine (Pipeline.Window.rect_emb_val ((cfgM m hO).win 4) t y a).trans ?_
  match a with
  | ⟨0, _⟩ => exact Nat.zero_add _
  | ⟨1, _⟩ => exact Nat.zero_add _

/-- An entry of a row of the block is that of its token. -/
theorem entry_eq (r : Fin 512) (q : ℕ) : entry (iblk m hO c 0 t) (iblk m hO c 3 t) (iblk m hO c 4 t) r q = value m c (512 * t.val + r.val) q := by
  unfold entry value
  congr 1
  · funext k; exact tokens_read m hO c t r k
  · funext k; exact gain_read m hO c t k
  · funext k; exact congrArg (fun W => at2 (M := 1024) (N := 3968) W k.val q) (weights_read m hO c t)

set_option maxHeartbeats 4000000 in
theorem na_out (y : S512x768.Idx) : ((outsAt0 m hO c t).1 : S512x768.Idx → EReal) y = value m c (512 * t.val + (y 0).val) (0 + (y 1).val) := by
  refine Eq.trans ?_ ((na_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1) y).trans (entry_eq m hO c t (y 0) (0 + (y 1).val)))
  exact congrFun (View.read_writes_eq_canon VO0_6 VO0_6.junk _ (cover0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1))) y

set_option maxHeartbeats 4000000 in
theorem z_out (y : S512x384.Idx) : ((outsAt0 m hO c t).2.2.1 : S512x384.Idx → EReal) y = value m c (512 * t.val + (y 0).val) (768 + (1152 + (y 1).val)) := by
  refine Eq.trans ?_ ((z_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1) y).trans (entry_eq m hO c t (y 0) (768 + (1152 + (y 1).val))))
  exact congrFun (View.read_writes_eq_canon VO0_8 VO0_8.junk _ (cover0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1))) y

set_option maxHeartbeats 4000000 in
theorem ml_out (y : S512x1152.Idx) : ((outsAt0 m hO c t).2.2.2.1 : S512x1152.Idx → EReal) y = value m c (512 * t.val + (y 0).val) (2304 + (y 1).val) := by
  refine Eq.trans ?_ ((ml_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1) y).trans (entry_eq m hO c t (y 0) (2304 + (y 1).val)))
  exact congrFun (View.read_writes_eq_canon VO0_9 VO0_9.junk _ (cover0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1))) y

set_option maxHeartbeats 4000000 in
theorem o_out (y : S512x384.Idx) : ((outsAt0 m hO c t).2.2.2.2.1 : S512x384.Idx → EReal) y = value m c (512 * t.val + (y 0).val) (2304 + (1152 + (y 1).val)) := by
  refine Eq.trans ?_ ((o_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1) y).trans (entry_eq m hO c t (y 0) (2304 + (1152 + (y 1).val))))
  exact congrFun (View.read_writes_eq_canon VO0_10 VO0_10.junk _ (cover0_A_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1))) y

set_option maxHeartbeats 4000000 in
theorem gates_out (y : S512x128.Idx) : ((outsAt0 m hO c t).2.2.2.2.2 : S512x128.Idx → EReal) y = value m c (512 * t.val + (y 0).val) (3840 + (y 1).val) := by
  refine Eq.trans ?_ ((gates_block c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1) y).trans (entry_eq m hO c t (y 0) (3840 + (y 1).val)))
  exact congrFun (View.read_writes_eq_canon VO0_11 VO0_11.junk _ (cover0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (tbl m 0) (tbl m 1))) y

end

/-- Where an entry of block `t` lies in the whole. -/
theorem placed (c : Dev nD) (o N t : ℕ) (f u v : Fin 2 → ℕ) (hf : f = ![t, 0]) (h : ∀ a, u a = f a * (⟨2, ![512, N]⟩ : Shape).size a + v a) (q : ℕ) (hq : q = o + v 1) :
    value m c (512 * t + v 0) q = value m c (u 0) (o + u 1) := by
  subst hf hq
  have h0 : u 0 = t * 512 + v 0 := h 0
  have h1 : u 1 = 0 * N + v 1 := h 1
  rw [h0, h1, Nat.mul_comm, Nat.zero_mul, Nat.zero_add]

/-- The block an entry of the whole lies in. -/
theorem inside (N t : ℕ) (i f : Fin 2 → ℕ) (hf : f = ![t, 0]) (ht : t = i 0 / 512) (h1 : i 1 < N) :
    ∀ a, f a * (⟨2, ![512, N]⟩ : Shape).size a ≤ i a ∧ i a < f a * (⟨2, ![512, N]⟩ : Shape).size a + (⟨2, ![512, N]⟩ : Shape).size a := by
  subst hf
  intro a
  match a with
  | ⟨0, _⟩ => show t * 512 ≤ i 0 ∧ i 0 < t * 512 + 512; omega
  | ⟨1, _⟩ => show 0 * N ≤ i 1 ∧ i 1 < 0 * N + N; omega

/-- The array of projections along the columns from `o` on. -/
def result (c : Dev nD) (o N : ℕ) : (⟨2, ![65536, N]⟩ : Shape).Idx → EReal := fun i => value m c (i 0).val (o + (i 1).val)

variable (hO : Ok m) (c : Dev nD)

theorem row_lt (N : ℕ) (i : (⟨2, ![65536, N]⟩ : Shape).Idx) : (i 0).val / 512 < (cfgM m hO).N := by
  have hN : (cfgM m hO).N = 128 := N_0
  have h0 : (i 0).val < 65536 := (i 0).isLt
  rw [hN]; omega

theorem na_final : (dats m hO 0 c).arrAt 6 (cfgM m hO).N = (result m c 0 768 : S65536x768.Idx → EReal) :=
  (dats m hO 0 c).arrAt_eq_of_cover 6 (result m c 0 768 : S65536x768.Idx → EReal) (fun t _ => by
    show ((cfgM m hO).win 6).cut (grid0.coords t) ((dats m hO 0 c).after 6 t) = _
    rw [after0_6]
    funext y
    exact (na_out m hO c t _).trans (placed m c 0 768 t.val _ _ _ (block_out t) (Pipeline.Window.rect_emb_val ((cfgM m hO).win 6) t y) _ rfl)) fun i => by
    refine ⟨⟨_, row_lt m hO 768 i⟩, flush0_6 _ _, ?_⟩
    refine (Finset.ext_iff.mp (View.set_slice_whole main_v10_0 (((cfgM m hO).win 6).rect ⟨_, row_lt m hO 768 i⟩)) i).mpr ?_
    exact (Pipeline.Window.mem_rect_iff ((cfgM m hO).win 6) ⟨_, row_lt m hO 768 i⟩ i).mpr (inside 768 _ (fun a => (i a).val) _ (block_out ⟨_, row_lt m hO 768 i⟩) rfl (i (1 : Fin 2)).isLt)

theorem z_final : (dats m hO 0 c).arrAt 8 (cfgM m hO).N = (result m c 1920 384 : S65536x384.Idx → EReal) :=
  (dats m hO 0 c).arrAt_eq_of_cover 8 (result m c 1920 384 : S65536x384.Idx → EReal) (fun t _ => by
    show ((cfgM m hO).win 8).cut (grid0.coords t) ((dats m hO 0 c).after 8 t) = _
    rw [after0_8]
    funext y
    exact (z_out m hO c t _).trans (placed m c 1920 384 t.val _ _ _ (block_out t) (Pipeline.Window.rect_emb_val ((cfgM m hO).win 8) t y) _ (Nat.add_assoc 768 1152 _).symm)) fun i => by
    refine ⟨⟨_, row_lt m hO 384 i⟩, flush0_8 _ _, ?_⟩
    refine (Finset.ext_iff.mp (View.set_slice_whole main_v10_2 (((cfgM m hO).win 8).rect ⟨_, row_lt m hO 384 i⟩)) i).mpr ?_
    exact (Pipeline.Window.mem_rect_iff ((cfgM m hO).win 8) ⟨_, row_lt m hO 384 i⟩ i).mpr (inside 384 _ (fun a => (i a).val) _ (block_out ⟨_, row_lt m hO 384 i⟩) rfl (i (1 : Fin 2)).isLt)

theorem ml_final : (dats m hO 0 c).arrAt 9 (cfgM m hO).N = (result m c 2304 1152 : S65536x1152.Idx → EReal) :=
  (dats m hO 0 c).arrAt_eq_of_cover 9 (result m c 2304 1152 : S65536x1152.Idx → EReal) (fun t _ => by
    show ((cfgM m hO).win 9).cut (grid0.coords t) ((dats m hO 0 c).after 9 t) = _
    rw [after0_9]
    funext y
    exact (ml_out m hO c t _).trans (placed m c 2304 1152 t.val _ _ _ (block_out t) (Pipeline.Window.rect_emb_val ((cfgM m hO).win 9) t y) _ rfl)) fun i => by
    refine ⟨⟨_, row_lt m hO 1152 i⟩, flush0_9 _ _, ?_⟩
    refine (Finset.ext_iff.mp (View.set_slice_whole main_v10_3 (((cfgM m hO).win 9).rect ⟨_, row_lt m hO 1152 i⟩)) i).mpr ?_
    exact (Pipeline.Window.mem_rect_iff ((cfgM m hO).win 9) ⟨_, row_lt m hO 1152 i⟩ i).mpr (inside 1152 _ (fun a => (i a).val) _ (block_out ⟨_, row_lt m hO 1152 i⟩) rfl (i (1 : Fin 2)).isLt)

theorem o_final : (dats m hO 0 c).arrAt 10 (cfgM m hO).N = (result m c 3456 384 : S65536x384.Idx → EReal) :=
  (dats m hO 0 c).arrAt_eq_of_cover 10 (result m c 3456 384 : S65536x384.Idx → EReal) (fun t _ => by
    show ((cfgM m hO).win 10).cut (grid0.coords t) ((dats m hO 0 c).after 10 t) = _
    rw [after0_10]
    funext y
    exact (o_out m hO c t _).trans (placed m c 3456 384 t.val _ _ _ (block_out t) (Pipeline.Window.rect_emb_val ((cfgM m hO).win 10) t y) _ (Nat.add_assoc 2304 1152 _).symm)) fun i => by
    refine ⟨⟨_, row_lt m hO 384 i⟩, flush0_10 _ _, ?_⟩
    refine (Finset.ext_iff.mp (View.set_slice_whole main_v10_4 (((cfgM m hO).win 10).rect ⟨_, row_lt m hO 384 i⟩)) i).mpr ?_
    exact (Pipeline.Window.mem_rect_iff ((cfgM m hO).win 10) ⟨_, row_lt m hO 384 i⟩ i).mpr (inside 384 _ (fun a => (i a).val) _ (block_out ⟨_, row_lt m hO 384 i⟩) rfl (i (1 : Fin 2)).isLt)

theorem gates_final : (dats m hO 0 c).arrAt 11 (cfgM m hO).N = (result m c 3840 128 : S65536x128.Idx → EReal) :=
  (dats m hO 0 c).arrAt_eq_of_cover 11 (result m c 3840 128 : S65536x128.Idx → EReal) (fun t _ => by
    show ((cfgM m hO).win 11).cut (grid0.coords t) ((dats m hO 0 c).after 11 t) = _
    rw [after0_11]
    funext y
    exact (gates_out m hO c t _).trans (placed m c 3840 128 t.val _ _ _ (block_out t) (Pipeline.Window.rect_emb_val ((cfgM m hO).win 11) t y) _ rfl)) fun i => by
    refine ⟨⟨_, row_lt m hO 128 i⟩, flush0_11 _ _, ?_⟩
    refine (Finset.ext_iff.mp (View.set_slice_whole main_v10_5 (((cfgM m hO).win 11).rect ⟨_, row_lt m hO 128 i⟩)) i).mpr ?_
    exact (Pipeline.Window.mem_rect_iff ((cfgM m hO).win 11) ⟨_, row_lt m hO 128 i⟩ i).mpr (inside 128 _ (fun a => (i a).val) _ (block_out ⟨_, row_lt m hO 128 i⟩) rfl (i (1 : Fin 2)).isLt)

end Cert.Kernel4Ideal.INPArray

end
-- ==== Proof.INP.Weights.lean ====
/- The weights as the kernel finds them: the columns of the weights it is given, in another order, and columns of nothing. -/
module

public import proofs.«01_k».proof.Proof.INP.Array

@[expose] public section

set_option maxRecDepth 16384

noncomputable section

namespace Cert.Kernel4Ideal.INPWeights

open Cert.Kernel4Ideal Cert.Kernel4Ideal.Gen Cert.Kernel4Ideal.INPArray Cert.INP
open Cert.NA (at2 at2_eq at2_ix2)
open Idealize.ShloMosaic Idealize.ShloMosaic.TcCoe Idealize.ShloMosaic.ValueIdx Idealize.SL.Sem

/-- The columns put together. -/
def ordered (W : FVec Ideal S1024x3888 .f32) : FVec Ideal S1024x3968 .f32 :=
  concatenate S1024x3968 1 [⟨S1024x2304, extractStridedSlice S1024x2304 ![0, 0] W slices_S1024x3888_S1024x2304_0_0⟩,
    ⟨S1024x1536, extractStridedSlice S1024x1536 ![0, 2328] W slices_S1024x3888_S1024x1536_0_2328⟩,
    ⟨S1024x24, extractStridedSlice S1024x24 ![0, 2304] W slices_S1024x3888_S1024x24_0_2304⟩,
    ⟨S1024x24, extractStridedSlice S1024x24 ![0, 3864] W slices_S1024x3888_S1024x24_0_3864⟩,
    ⟨S1024x80, broadcastInDim S1024x80 ![] bcast_S_S1024x80 (constant (F := Ideal) S_ .f32 0x00000000#32)⟩]
    concatenates_S1024x2304_S1024x1536_S1024x24_S1024x24_S1024x80_S1024x3968_d1

theorem found_eq (m : (ℓ : Loc nD τ sig) → Buf (Elt Ideal) ℓ) (c : Dev nD) : found m c = ordered (weights m c) := by
  unfold found V hostOps0
  after_reads_simp
  rfl

/-- A column of piece `p`, which starts at column `pre`. -/
theorem piece_read (L : List ((s : Shape) × (s.Idx → EReal))) (h : Shape.Concatenates (L.map (·.1)) S1024x3968 1) (p : ℕ) (hp : p < L.length) (n : ℕ)
    (x : (⟨2, ![1024, n]⟩ : Shape).Idx → EReal) (hx : L[p] = ⟨⟨2, ![1024, n]⟩, x⟩) (pre : ℕ)
    (hpre : (((L.take p).map (·.1)).map fun s => if h : s.rank = S1024x3968.rank then s.size ((1 : Fin 2).cast h.symm) else 0).sum = pre)
    (k : Fin 1024) (q : Fin 3968) (j : Fin n) (hq : q.val = pre + j.val) : concatenate S1024x3968 1 L h (ix2 k q) = x (ix2 k j) := by
  refine concatenate_apply_piece 1 L h (ix2 k q) p hp ⟨2, ![1024, n]⟩ x hx rfl pre hpre (ix2 k j) ?_ hq.symm
  intro e he
  match e with
  | ⟨0, _⟩ => rfl
  | ⟨1, _⟩ => exact absurd rfl he

/-- A column of some columns of the weights. -/
theorem slice_read {n : ℕ} (o : ℕ) (W : S1024x3888.Idx → EReal) (h : S1024x3888.Slices ![0, o] ⟨2, ![1024, n]⟩) (k : Fin 1024) (j : Fin n) (q : ℕ) (hq : q < 3888) (e : q = o + j.val) :
    extractStridedSlice ⟨2, ![1024, n]⟩ ![0, o] W h (ix2 k j) = at2 (M := 1024) (N := 3888) W k.val q := by
  rw [at2_eq (M := 1024) (N := 3888) W k.isLt hq]
  refine congrArg W (funext fun a => Fin.ext ?_)
  match a with
  | ⟨0, _⟩ => exact Nat.zero_add _
  | ⟨1, _⟩ => exact e.symm

variable (W : FVec Ideal S1024x3888 .f32) (k : Fin 1024) (q : ℕ)

/-- The first columns are where they were. -/
theorem first_read (h : q < 2304) : at2 (M := 1024) (N := 3968) (ordered W) k.val q = at2 (M := 1024) (N := 3888) W k.val q := by
  rw [at2_eq (M := 1024) (N := 3968) _ k.isLt (show q < 3968 by omega)]
  exact (piece_read _ _ 0 (by show 0 < 5; decide) 2304 _ rfl 0 rfl k _ ⟨q, h⟩ (Nat.zero_add _).symm).trans (slice_read 0 W _ k _ q (by omega) (Nat.zero_add _).symm)
/-- The columns behind the first gates come next. -/
theorem second_read (h : 2304 ≤ q) (h' : q < 3840) : at2 (M := 1024) (N := 3968) (ordered W) k.val q = at2 (M := 1024) (N := 3888) W k.val (q + 24) := by
  rw [at2_eq (M := 1024) (N := 3968) _ k.isLt (show q < 3968 by omega)]
  exact (piece_read _ _ 1 (by show 1 < 5; decide) 1536 _ rfl 2304 rfl k _ ⟨q - 2304, by omega⟩ (by show q = 2304 + (q - 2304); omega)).trans
    (slice_read 2328 W _ k _ (q + 24) (by omega) (by show q + 24 = 2328 + (q - 2304); omega))
/-- Then the first gates. -/
theorem third_read (h : 3840 ≤ q) (h' : q < 3864) : at2 (M := 1024) (N := 3968) (ordered W) k.val q = at2 (M := 1024) (N := 3888) W k.val (q - 1536) := by
  rw [at2_eq (M := 1024) (N := 3968) _ k.isLt (show q < 3968 by omega)]
  exact (piece_read _ _ 2 (by show 2 < 5; decide) 24 _ rfl 3840 rfl k _ ⟨q - 3840, by omega⟩ (by show q = 3840 + (q - 3840); omega)).trans
    (slice_read 2304 W _ k _ (q - 1536) (by omega) (by show q - 1536 = 2304 + (q - 3840); omega))
/-- The last gates are where they were. -/
theorem fourth_read (h : 3864 ≤ q) (h' : q < 3888) : at2 (M := 1024) (N := 3968) (ordered W) k.val q = at2 (M := 1024) (N := 3888) W k.val q := by
  rw [at2_eq (M := 1024) (N := 3968) _ k.isLt (show q < 3968 by omega)]
  exact (piece_read _ _ 3 (by show 3 < 5; decide) 24 _ rfl 3864 rfl k _ ⟨q - 3864, by omega⟩ (by show q = 3864 + (q - 3864); omega)).trans
    (slice_read 3864 W _ k _ q (by omega) (by show q = 3864 + (q - 3864); omega))
/-- Behind them there is nothing. -/
theorem fifth_read (h : 3888 ≤ q) : at2 (M := 1024) (N := 3968) (ordered W) k.val q = 0 := by
  by_cases h' : q < 3968
  · rw [at2_eq (M := 1024) (N := 3968) _ k.isLt h']
    exact (piece_read _ _ 4 (by show 4 < 5; decide) 80 _ rfl 3888 rfl k _ ⟨q - 3888, by omega⟩ (by show q = 3888 + (q - 3888); omega)).trans Ideal.ofBits_zero_f32
  · exact dif_neg fun e => h' e.2

end Cert.Kernel4Ideal.INPWeights

end
-- ==== Proof.INP.Ref.lean ====
/- What the input projection's reference says of each token. -/
module

public import proofs.«01_k».proof.Proof.FFN.Ref
public import proofs.«01_k».proof.Proof.NA.Spec
public import proofs.«01_k».proof.Proof.INP.Spec
public import proofs.«01_k».proof.Proof.Gen.Reference4Ideal.Read
public import Idealize.ShloMosaic.Lib.KernelVsHost

@[expose] public section

set_option maxRecDepth 16384

noncomputable section

namespace Cert.Reference4Ideal.INPValue

open Cert.Reference4Ideal Cert.Reference4Ideal.Read Cert.FFN Cert.INP
open Cert.NA (at2 at2_eq at2_ix2)
open Idealize.ShloMosaic Idealize.ShloMosaic.TcCoe Idealize.ShloMosaic.ValueIdx
open scoped BigOperators

variable (x0 : (⟨S65536x1024, .f32⟩ : BufTy).Contents (Elt Ideal)) (x1 : (⟨S1024, .f32⟩ : BufTy).Contents (Elt Ideal))
  (x2 : (⟨S1024x3888, .f32⟩ : BufTy).Contents (Elt Ideal))

/-- The norm is that of the feed-forward parts. -/
theorem same : val_main_v12 (F := Ideal) x0 x1 = Cert.Reference2Ideal.Read.val_main_v12 (F := Ideal) x0 x1 := rfl

/-- Entry `q` of the projection of token `n`. -/
def along (n q : ℕ) : EReal :=
  proj (fun k => at2 (M := 65536) (N := 1024) x0 n k.val) (fun k => x1 (ix1 k)) (fun k => at2 (M := 1024) (N := 3888) x2 k.val q)

theorem dot_at (i : S65536x3888.Idx) (n q : ℕ) (hn : (i 0).val = n) (hq : (i 1).val = q) : val_main_v13 (F := Ideal) x0 x1 x2 i = along x0 x1 x2 n q := by
  subst hn hq
  obtain ⟨a, b, rfl⟩ : ∃ (a : Fin 65536) (b : Fin 3888), i = ix2 a b := ⟨i 0, i 1, eq_ix2 i⟩
  refine (val_main_v13_apply x0 x1 x2 (ix2 a b)).trans ?_
  unfold along proj
  refine Finset.sum_congr rfl fun k _ => ?_
  have el : lidx_main_v13 (ix2 a b) k = ix2 a k := by
    funext e; apply Fin.ext
    match e with
    | ⟨0, _⟩ => rfl
    | ⟨1, _⟩ => rfl
  have er : ridx_main_v13 (ix2 a b) k = ix2 k b := by
    funext e; apply Fin.ext
    match e with
    | ⟨0, _⟩ => rfl
    | ⟨1, _⟩ => rfl
  have hn : val_main_v12 (F := Ideal) x0 x1 (ix2 a k) = norm (fun k => x0 (ix2 a k)) (fun k => x1 (ix1 k)) k :=
    (congrFun (same x0 x1) _).trans (Cert.Reference2Ideal.FFNValue.norm_at x0 x1 a k)
  have hx : (fun k : Fin 1024 => x0 (ix2 a k)) = fun k : Fin 1024 => at2 (M := 65536) (N := 1024) x0 a.val k.val :=
    funext fun k => at2_ix2 (M := 65536) (N := 1024) x0 a k
  rw [el, er, hn, hx]
  exact congrArg _ (at2_ix2 (M := 1024) (N := 3888) x2 k b)

theorem na_at (i : S65536x768.Idx) : (val_main_v23 (F := Ideal) x0 x1 x2 i : EReal) = along x0 x1 x2 (i 0).val (i 1).val :=
  (val_main_v14_apply x0 x1 x2 i).trans (dot_at x0 x1 x2 _ _ _ rfl rfl)
theorem z_at (i : S65536x384.Idx) : (val_main_v24 (F := Ideal) x0 x1 x2 i : EReal) = along x0 x1 x2 (i 0).val (1920 + (i 1).val) :=
  (val_main_v16_apply x0 x1 x2 i).trans (dot_at x0 x1 x2 _ _ _ rfl rfl)
theorem ml_at (i : S65536x1152.Idx) : (val_main_v18 (F := Ideal) x0 x1 x2 i : EReal) = along x0 x1 x2 (i 0).val (2328 + (i 1).val) :=
  (val_main_v18_apply x0 x1 x2 i).trans (dot_at x0 x1 x2 _ _ _ rfl rfl)
theorem o_at (i : S65536x384.Idx) : (val_main_v25 (F := Ideal) x0 x1 x2 i : EReal) = along x0 x1 x2 (i 0).val (3480 + (i 1).val) :=
  (val_main_v19_apply x0 x1 x2 i).trans (dot_at x0 x1 x2 _ _ _ rfl rfl)

/-- The gates, laid side by side. -/
theorem left_at (n : Fin 65536) (j : Fin 48) (h : j.val < 24) : val_main_v21 (F := Ideal) x0 x1 x2 (ix2 n j) = along x0 x1 x2 n.val (2304 + j.val) := by
  unfold val_main_v21
  refine (concatenate_apply_piece 1 _ _ (ix2 n j) 0 (by show 0 < 2; decide) S65536x24 (val_main_v17 (F := Ideal) x0 x1 x2) rfl rfl 0 rfl (ix2 n ⟨j.val, h⟩) ?_ (Nat.zero_add _)).trans ?_
  · intro e he
    match e with
    | ⟨0, _⟩ => rfl
    | ⟨1, _⟩ => exact absurd rfl he
  · exact (val_main_v17_apply x0 x1 x2 _).trans (dot_at x0 x1 x2 _ _ _ rfl rfl)
theorem right_at (n : Fin 65536) (j : Fin 48) (h : 24 ≤ j.val) : val_main_v21 (F := Ideal) x0 x1 x2 (ix2 n j) = along x0 x1 x2 n.val (3840 + j.val) := by
  unfold val_main_v21
  refine (concatenate_apply_piece 1 _ _ (ix2 n j) 1 (by show 1 < 2; decide) S65536x24 (val_main_v20 (F := Ideal) x0 x1 x2) rfl rfl 24 rfl (ix2 n ⟨j.val - 24, by omega⟩) ?_
    (by show 24 + (j.val - 24) = j.val; omega)).trans ?_
  · intro e he
    match e with
    | ⟨0, _⟩ => rfl
    | ⟨1, _⟩ => exact absurd rfl he
  · exact (val_main_v20_apply x0 x1 x2 _).trans (dot_at x0 x1 x2 _ _ _ rfl (by show 3864 + (j.val - 24) = 3840 + j.val; omega))

/-- And padded with nothing. -/
theorem gates_in (n : Fin 65536) (j : Fin 128) (h : j.val < 48) : val_main_v22 (F := Ideal) x0 x1 x2 (ix2 n j) = val_main_v21 (F := Ideal) x0 x1 x2 (ix2 n ⟨j.val, h⟩) := by
  unfold val_main_v22
  refine pad_apply_of_inside _ _ _ _ _ _ _ (ix2 n j) (ix2 n ⟨j.val, h⟩) fun a => ?_
  match a with
  | ⟨0, _⟩ => show n.val = 0 + n.val * (0 + 1); omega
  | ⟨1, _⟩ => show j.val = 0 + j.val * (0 + 1); omega
theorem gates_out (n : Fin 65536) (j : Fin 128) (h : 48 ≤ j.val) : val_main_v22 (F := Ideal) x0 x1 x2 (ix2 n j) = (0 : EReal) := by
  unfold val_main_v22
  refine (pad_apply_of_not_inside _ _ _ _ _ _ _ (ix2 n j) (1 : Fin 2) ?_).trans ?_
  · rintro ⟨-, -, e⟩
    have e' : (j.val - 0) / (0 + 1) < 48 := e
    omega
  · show (((0#32 : BitVec 32).toInt : ℝ) : EReal) = 0
    simp

end Cert.Reference4Ideal.INPValue

end
-- ==== Proof.INP.Claim.lean ====
/- The claims about the input projection: its frames are the generator's, and its five plain results are the reference's. -/
module

public import proofs.«01_k».proof.Defs
public import proofs.«01_k».proof.Proof.INP.Weights
public import proofs.«01_k».proof.Proof.INP.Ref
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Reference4Ideal.Read

@[expose] public section

set_option maxRecDepth 16384

noncomputable section

namespace Cert.INP

open Idealize.ShloMosaic Idealize.ShloMosaic.TcCoe Idealize.ShloMosaic.ValueIdx Idealize.SL.Sem
open Cert.NA (at2)
open Cert.Kernel4Ideal.INPArray (tokens gain weights result value)
open Cert.Kernel4Ideal.INPWeights

/-- The reference ends with its arguments unchanged and no signal left. -/
theorem reference_frame : @Cert.quiescent_Reference4Ideal Cert.Reference4Ideal.Gen.facts := fun m g _ =>
  (θ_run Cert.Reference4Ideal.defs _ _).mono (fun r h => ⟨fun c => (h c).2.2.2.2.2, Idealize.ShloMosaic.sem_eq_zero_of_no_sems (by decide) r.2⟩)
    (Cert.Reference4Ideal.Value.run (F := Ideal) m g)

section
variable (m : (ℓ : Loc Cert.Kernel4Ideal.nD Cert.Kernel4Ideal.τ Cert.Kernel4Ideal.sig) → Buf (Elt Ideal) ℓ) (c : Dev Cert.Kernel4Ideal.nD)

/-- A projection the kernel leaves is the one along the column of the given weights that its column is. -/
theorem value_eq (n q q' : ℕ) (h : ∀ k : Fin 1024, at2 (M := 1024) (N := 3968) (ordered (weights m c)) k.val q = at2 (M := 1024) (N := 3888) (weights m c) k.val q') :
    value m c n q = Cert.Reference4Ideal.INPValue.along (tokens m c) (gain m c) (weights m c) n q' := by
  unfold Cert.Kernel4Ideal.INPArray.value Cert.Reference4Ideal.INPValue.along
  rw [found_eq]
  exact congrArg _ (funext h)
theorem value_zero (n q : ℕ) (h : 3888 ≤ q) : value m c n q = 0 := by
  unfold Cert.Kernel4Ideal.INPArray.value
  rw [found_eq, funext fun k => fifth_read (weights m c) k q h]
  exact proj_zero _ _

/-- The five results are equal. -/
theorem na_eq : Cert.Reference4Ideal.Read.val_main_v23 (F := Ideal) (tokens m c) (gain m c) (weights m c) = result m c 0 768 := by
  funext i
  have h : (i 1).val < 768 := (i 1).isLt
  refine (Cert.Reference4Ideal.INPValue.na_at _ _ _ i).trans (value_eq m c _ _ _ fun k => ?_).symm
  rw [Nat.zero_add]
  exact first_read _ k _ (by omega)
theorem z_eq : Cert.Reference4Ideal.Read.val_main_v24 (F := Ideal) (tokens m c) (gain m c) (weights m c) = result m c 1920 384 := by
  funext i
  have h : (i 1).val < 384 := (i 1).isLt
  exact (Cert.Reference4Ideal.INPValue.z_at _ _ _ i).trans (value_eq m c _ _ _ fun k => first_read _ k _ (by omega)).symm
theorem ml_eq : Cert.Reference4Ideal.Read.val_main_v18 (F := Ideal) (tokens m c) (gain m c) (weights m c) = result m c 2304 1152 := by
  funext i
  have h : (i 1).val < 1152 := (i 1).isLt
  refine (Cert.Reference4Ideal.INPValue.ml_at _ _ _ i).trans (value_eq m c _ _ _ fun k => ?_).symm
  refine (second_read _ k _ (by omega) (by omega)).trans (congrArg _ ?_)
  omega
theorem o_eq : Cert.Reference4Ideal.Read.val_main_v25 (F := Ideal) (tokens m c) (gain m c) (weights m c) = result m c 3456 384 := by
  funext i
  have h : (i 1).val < 384 := (i 1).isLt
  refine (Cert.Reference4Ideal.INPValue.o_at _ _ _ i).trans (value_eq m c _ _ _ fun k => ?_).symm
  refine (second_read _ k _ (by omega) (by omega)).trans (congrArg _ ?_)
  omega
theorem gates_eq : Cert.Reference4Ideal.Read.val_main_v22 (F := Ideal) (tokens m c) (gain m c) (weights m c) = result m c 3840 128 := by
  funext i
  obtain ⟨n, j, rfl⟩ : ∃ (n : Fin 65536) (j : Fin 128), i = ix2 n j := ⟨i 0, i 1, eq_ix2 i⟩
  show _ = value m c n.val (3840 + j.val)
  by_cases h : j.val < 48
  · refine (Cert.Reference4Ideal.INPValue.gates_in _ _ _ n j h).trans ?_
    by_cases h' : j.val < 24
    · refine (Cert.Reference4Ideal.INPValue.left_at _ _ _ n _ h').trans (value_eq m c _ _ _ fun k => ?_).symm
      refine (third_read _ k _ (by omega) (by omega)).trans (congrArg _ ?_)
      show 3840 + j.val - 1536 = 2304 + j.val
      omega
    · exact (Cert.Reference4Ideal.INPValue.right_at _ _ _ n _ (Nat.le_of_not_lt h')).trans (value_eq m c _ _ _ fun k => fourth_read _ k _ (by show 3864 ≤ 3840 + j.val; omega) (by show 3840 + j.val < 3888; omega)).symm
  · exact (Cert.Reference4Ideal.INPValue.gates_out _ _ _ n j (Nat.le_of_not_lt h)).trans (value_zero m c _ _ (by omega)).symm

end

/-- The kernel and the reference agree over the reals. -/
theorem agree : @Cert.algebraic_Kernel4Ideal_Reference4Ideal Cert.Kernel4Ideal.Gen.facts Cert.Reference4Ideal.Gen.facts := by
  intro m g m' g' _ hargs
  have hO : Cert.Kernel4Ideal.Gen.Ok m := trivial
  refine ⟨fun c => result m c 0 768, fun c => result m c 1920 384, fun c => result m c 2304 1152, fun c => result m c 3456 384, fun c => result m c 3840 128, ?_, ?_⟩
  · exact (θ_run Cert.Kernel4Ideal.defs _ _).mono (fun _ h c => ⟨((h.1 c).1 6).trans (Cert.Kernel4Ideal.INPArray.na_final m hO c),
        ((h.1 c).1 8).trans (Cert.Kernel4Ideal.INPArray.z_final m hO c), ((h.1 c).1 9).trans (Cert.Kernel4Ideal.INPArray.ml_final m hO c),
        ((h.1 c).1 10).trans (Cert.Kernel4Ideal.INPArray.o_final m hO c), ((h.1 c).1 11).trans (Cert.Kernel4Ideal.INPArray.gates_final m hO c), h.2 c⟩)
      (θ_run_and (Cert.Kernel4Ideal.Gen.run_main m g hO) (Cert.Kernel4Ideal.Gen.unchanged m g hO))
  · refine (θ_run Cert.Reference4Ideal.defs _ _).mono (fun _ h c => ?_) (Cert.Reference4Ideal.Value.run (F := Ideal) m' g')
    obtain ⟨h0, h1, h2, -⟩ := hargs c
    obtain ⟨r0, r1, r2, r3, r4, rest⟩ := h c
    rw [h0, h1, h2] at r0 r1 r2 r3 r4
    exact ⟨r0.trans ((Cert.Reference4Ideal.Read.val_main_v23_eq _ _ _).trans (na_eq m c)), r1.trans ((Cert.Reference4Ideal.Read.val_main_v24_eq _ _ _).trans (z_eq m c)),
      r2.trans ((Cert.Reference4Ideal.Read.val_main_v18_eq _ _ _).trans (ml_eq m c)), r3.trans ((Cert.Reference4Ideal.Read.val_main_v25_eq _ _ _).trans (o_eq m c)),
      r4.trans ((Cert.Reference4Ideal.Read.val_main_v22_eq _ _ _).trans (gates_eq m c)), rest⟩

end Cert.INP

end
-- ==== Proof.lean ====
/- The certificate: every claim about the attention's kernel, the feed-forward part's and their references, from the modules under Proof/. -/
module

public import proofs.«01_k».proof.Defs
public import proofs.«01_k».proof.Proof.NA.Claim
public import proofs.«01_k».proof.Proof.FFN.Claim
public import proofs.«01_k».proof.Proof.FIN.Claim
public import proofs.«01_k».proof.Proof.INP.Claim

@[expose] public section

noncomputable section

namespace Cert.Proof

open Idealize.ShloMosaic Idealize.SL.Sem

/-- The kernel and the reference agree over the reals. -/
theorem agree : @Cert.algebraic_KernelIdeal_ReferenceIdeal_pre_finite_scores Cert.KernelIdeal.Gen.facts Cert.ReferenceIdeal.Gen.facts Cert.NA.pre_facts := by
  intro m g m' g' hpre hargs
  refine ⟨fun c => Cert.KernelIdeal.NAArray.result m c, Cert.NA.kernel_run m g, ?_⟩
  refine (θ_run Cert.ReferenceIdeal.defs _ _).mono (fun _ h c => ⟨(h c).1.trans ?_, (h c).2⟩) (Cert.ReferenceIdeal.Value.run (F := Ideal) m' g')
  refine (Cert.ReferenceIdeal.Read.val_main_v109_eq m' c).trans ?_
  exact Cert.NA.result_eq m c _ _ (hargs c).1.symm (hargs c).2.symm ((hargs c).1 ▸ (hargs c).2 ▸ (hpre c).1) ((hargs c).1 ▸ (hargs c).2 ▸ (hpre c).2)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.NA.pre_facts,
  fun m g _ => Cert.Kernel.Gen.frame m g (Cert.Kernel.NATables.ok m),
  fun m g _ => Cert.KernelIdeal.Gen.frame m g (Cert.KernelIdeal.NATables.ok m),
  fun m g _ => Cert.KernelIdeal.Gen.frame m g (Cert.KernelIdeal.NATables.ok m),
  fun m g _ => Cert.NA.reference_frame m g,
  fun m g _ => Cert.NA.reference_frame m g,
  fun m g _ => Cert.Kernel2.Gen.frame m g,
  fun m g _ => Cert.Kernel2Ideal.Gen.frame m g,
  Cert.FFN.reference_frame,
  fun m g _ => Cert.Kernel3.FIN.frame_holds m g,
  fun m g _ => Cert.Kernel3Ideal.FIN.frame_holds m g,
  Cert.FIN.reference_frame,
  fun m g _ => Cert.Kernel4.Gen.frame m g trivial,
  fun m g _ => Cert.Kernel4Ideal.Gen.frame m g trivial,
  Cert.INP.reference_frame,
  trivial, agree, trivial, Cert.FFN.agree, trivial, Cert.FIN.agree, trivial, Cert.INP.agree⟩

end Cert.Proof

end
